-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_context [hPre_finite_context : Cert.Pre_finite_context.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_context.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite_context.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_context [hPre_finite_context : Cert.Pre_finite_context.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_context.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite_context.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_context [hKernel6Ideal : Cert.Kernel6Ideal.Facts] [hPre_finite_context : Cert.Pre_finite_context.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_context m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_context [hReference6Ideal : Cert.Reference6Ideal.Facts] [hPre_finite_context : Cert.Pre_finite_context.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_context m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.bf16_pair.Statement Cert.Kernel2Ideal.S1024x1024 Cert.Kernel2Ideal.S512x1024
  ∧ IdealRules.bf16_pack.Statement Cert.Kernel2Ideal.S512x1024

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v134) = v0 c
          ∧ r.2.mem ((c.tc : Thread Cert.Reference3Ideal.nD Cert.Reference3Ideal.τ).loc Cert.Reference3Ideal.main_v135) = v1 c
          ∧ r.2.mem ((c.tc : Thread Cert.Reference3Ideal.nD Cert.Reference3Ideal.τ).loc Cert.Reference3Ideal.main_v136) = v2 c
          ∧ r.2.mem ((c.tc : Thread Cert.Reference3Ideal.nD Cert.Reference3Ideal.τ).loc Cert.Reference3Ideal.main_v137) = v3 c
          ∧ r.2.mem ((c.tc : Thread Cert.Reference3Ideal.nD Cert.Reference3Ideal.τ).loc Cert.Reference3Ideal.main_v139) = v4 c
          ∧ r.2.mem ((c.tc : Thread Cert.Reference3Ideal.nD Cert.Reference3Ideal.τ).loc Cert.Reference3Ideal.main_v147) = v5 c
          ∧ r.2.mem ((c.tc : Thread Cert.Reference3Ideal.nD Cert.Reference3Ideal.τ).loc Cert.Reference3Ideal.main_v155) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  IdealRules.bf16_pair.Statement Cert.Kernel4Ideal.S512x1024 Cert.Kernel4Ideal.S256x1024
  ∧ IdealRules.bf16_pack.Statement Cert.Kernel4Ideal.S256x1024

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_context [hKernel6Ideal : Cert.Kernel6Ideal.Facts] [hReference6Ideal : Cert.Reference6Ideal.Facts] [hPre_finite_context : Cert.Pre_finite_context.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_context m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_tables : Cert.Pre_tables.Facts) (hPre_finite_context : Cert.Pre_finite_context.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_context (hKernel6Ideal := hKernel6Ideal) (hPre_finite_context := hPre_finite_context)
    ∧ quiescent_Reference6Ideal (hReference6Ideal := hReference6Ideal)
    ∧ quiescent_Reference6Ideal_pre_finite_context (hReference6Ideal := hReference6Ideal) (hPre_finite_context := hPre_finite_context)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_context (hKernel6Ideal := hKernel6Ideal) (hReference6Ideal := hReference6Ideal) (hPre_finite_context := hPre_finite_context)
-- ==== Pre_finite.lean ====
abbrev S16896x2048 : Shape := ⟨2, ![16896, 2048]⟩
abbrev S1024x16896 : Shape := ⟨2, ![1024, 16896]⟩
abbrev S_ : Shape := ⟨0, ![]⟩

class Facts : Prop where
  bitsLt_bf16_f32 : FTy.bits .bf16 < FTy.bits .f32
  bcast_S_S16896x2048 : S_.BroadcastsInDim S16896x2048 (![] : Fin 0 → Fin S16896x2048.rank)
  reducesTo_S16896x2048_S_d0_1 : S16896x2048.ReducesTo [0, 1] S_
  h_S_ : 0 < S_.numel

variable [Facts]

def fn {F : FTy → Type} [FloatOps F] (main_arg0 : FVec F S16896x2048 .bf16) (main_arg1 : FVec F S16896x2048 .bf16) (main_arg2 : FVec F S1024x16896 .bf16) : IVec S_ 1 × IVec S_ 1 :=
  let main_v0 : FVec F S16896x2048 .f32 := (extf .f32 · bitsLt_bf16_f32) main_arg0
  let main_v1 : FVec F S16896x2048 .f32 := Host.absf main_v0
  let main_cst : FVec F S_ .f32 := constant S_ .f32 0x7F800000#32
  let main_v2 : FVec F S16896x2048 .f32 := broadcastInDim S16896x2048 ![] bcast_S_S16896x2048 main_cst
  let main_v3 : IVec S16896x2048 1 := cmpf .olt main_v1 main_v2
  let main_c : IVec S_ 1 := constantI S_ 1 1#1
  let main_v4 : IVec S_ 1 := (fun x v => Host.reduce IntOp.andi x v reducesTo_S16896x2048_S_d0_1 h_S_) main_v3 main_c
  let main_v5 : FVec F S16896x2048 .f32 := (extf .f32 · bitsLt_bf16_f32) main_arg1
  let main_v6 : FVec F S16896x2048 .f32 := Host.absf main_v5
  let main_cst_0 : FVec F S_ .f32 := constant S_ .f32 0x7F800000#32
  let main_v7 : FVec F S16896x2048 .f32 := broadcastInDim S16896x2048 ![] bcast_S_S16896x2048 main_cst_0
  let main_v8 : IVec S16896x2048 1 := cmpf .olt main_v6 main_v7
  let main_c_1 : IVec S_ 1 := constantI S_ 1 1#1
  let main_v9 : IVec S_ 1 := (fun x v => Host.reduce IntOp.andi x v reducesTo_S16896x2048_S_d0_1 h_S_) main_v8 main_c_1
  (main_v4, main_v9)
-- ==== Pre_finite_context.lean ====
abbrev S16896x2048 : Shape := ⟨2, ![16896, 2048]⟩
abbrev S1024x16896 : Shape := ⟨2, ![1024, 16896]⟩
abbrev S2x8448x2048 : Shape := ⟨3, ![2, 8448, 2048]⟩
abbrev S2x256x2048 : Shape := ⟨3, ![2, 256, 2048]⟩
abbrev S512x2048 : Shape := ⟨2, ![512, 2048]⟩
abbrev S_ : Shape := ⟨0, ![]⟩

class Facts : Prop where
  shapeCasts_S16896x2048_S2x8448x2048 : S16896x2048.ShapeCasts S2x8448x2048
  slices_S2x8448x2048_S2x256x2048_0_0_0 : S2x8448x2048.Slices ![0, 0, 0] S2x256x2048
  slices_S16896x2048_S512x2048_16384_0 : S16896x2048.Slices ![16384, 0] S512x2048
  bitsLt_bf16_f32 : FTy.bits .bf16 < FTy.bits .f32
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_

variable [Facts]

def fn {F : FTy → Type} [FloatOps F] (main_arg0 : FVec F S16896x2048 .bf16) (main_arg1 : FVec F S16896x2048 .bf16) (main_arg2 : FVec F S1024x16896 .bf16) : IVec S_ 1 × IVec S_ 1 :=
  let main_v0 : FVec F S2x8448x2048 .bf16 := shapeCast S2x8448x2048 main_arg1 shapeCasts_S16896x2048_S2x8448x2048
  let main_v1 : FVec F S2x256x2048 .bf16 := (extractStridedSlice S2x256x2048 ![0, 0, 0] · slices_S2x8448x2048_S2x256x2048_0_0_0) main_v0
  let main_v2 : FVec F S512x2048 .bf16 := (extractStridedSlice S512x2048 ![16384, 0] · slices_S16896x2048_S512x2048_16384_0) main_arg0
  let main_v3 : FVec F S512x2048 .f32 := (extf .f32 · bitsLt_bf16_f32) main_v2
  let main_v4 : FVec F S512x2048 .f32 := Host.absf main_v3
  let main_cst : FVec F S_ .f32 := constant S_ .f32 0x7F800000#32
  let main_v5 : FVec F S512x2048 .f32 := broadcastInDim S512x2048 ![] bcast_S_S512x2048 main_cst
  let main_v6 : IVec S512x2048 1 := cmpf .olt main_v4 main_v5
  let main_c : IVec S_ 1 := constantI S_ 1 1#1
  let main_v7 : IVec S_ 1 := (fun x v => Host.reduce IntOp.andi x v reducesTo_S512x2048_S_d0_1 h_S_) main_v6 main_c
  let main_v8 : FVec F S2x256x2048 .f32 := (extf .f32 · bitsLt_bf16_f32) main_v1
  let main_v9 : FVec F S2x256x2048 .f32 := Host.absf main_v8
  let main_cst_0 : FVec F S_ .f32 := constant S_ .f32 0x7F800000#32
  let main_v10 : FVec F S2x256x2048 .f32 := broadcastInDim S2x256x2048 ![] bcast_S_S2x256x2048 main_cst_0
  let main_v11 : IVec S2x256x2048 1 := cmpf .olt main_v9 main_v10
  let main_c_1 : IVec S_ 1 := constantI S_ 1 1#1
  let main_v12 : IVec S_ 1 := (fun x v => Host.reduce IntOp.andi x v reducesTo_S2x256x2048_S_d0_1_2 h_S_) main_v11 main_c_1
  (main_v7, main_v12)
-- ==== Pre_tables.lean ====
abbrev S328 : Shape := ⟨1, ![328]⟩
abbrev S1 : Shape := ⟨1, ![1]⟩
abbrev S167936x1024 : Shape := ⟨2, ![167936, 1024]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  bcast_S_S328 : S_.BroadcastsInDim S328 (![] : Fin 0 → Fin S328.rank)
  bcast_S_S1 : S_.BroadcastsInDim S1 (![] : Fin 0 → Fin S1.rank)

variable [Facts]

def fn {F : FTy → Type} [FloatOps F] (main_arg0 : IVec S328 32) (main_arg1 : IVec S1 32) (main_arg2 : IVec S167936x1024 32) (main_arg3 : FVec F S2x64x2048x512 .f32) (main_arg4 : FVec F S2x64x2048x512 .f32) (main_arg5 : FVec F S2x64x512x2048 .f32) : IVec S328 1 × IVec S1 1 :=
  let main_c : IVec S_ 32 := constantI S_ 32 0#32
  let main_v0 : IVec S328 32 := broadcastInDim S328 ![] bcast_S_S328 main_c
  let main_v1 : IVec S328 1 := cmpi .sge main_arg0 main_v0
  let main_c_0 : IVec S_ 32 := constantI S_ 32 64#32
  let main_v2 : IVec S328 32 := broadcastInDim S328 ![] bcast_S_S328 main_c_0
  let main_v3 : IVec S328 1 := cmpi .slt main_arg0 main_v2
  let main_v4 : IVec S328 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 328#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S16896x2048 : Shape := ⟨2, ![16896, 2048]⟩
abbrev S1024x16896 : Shape := ⟨2, ![1024, 16896]⟩
abbrev S16384x1024 : Shape := ⟨2, ![16384, 1024]⟩
abbrev S1024x256 : Shape := ⟨2, ![1024, 256]⟩
abbrev S8448x256 : Shape := ⟨2, ![8448, 256]⟩
abbrev S128x8448 : Shape := ⟨2, ![128, 8448]⟩
abbrev S1024x128 : Shape := ⟨2, ![1024, 128]⟩
abbrev S1x1024 : Shape := ⟨2, ![1, 1024]⟩
abbrev S128x1024 : Shape := ⟨2, ![128, 1024]⟩
abbrev S768x256 : Shape := ⟨2, ![768, 256]⟩
abbrev S128x768 : Shape := ⟨2, ![128, 768]⟩
abbrev S768x1024 : Shape := ⟨2, ![768, 1024]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S1024x16896, .bf16⟩
  | .hbm, ⟨3, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S8448x256, .bf16⟩
  | .local _ .vmem, ⟨3, _⟩ => ⟨S8448x256, .bf16⟩
  | .local _ .vmem, ⟨4, _⟩ => ⟨S128x8448, .bf16⟩
  | .local _ .vmem, ⟨5, _⟩ => ⟨S128x8448, .bf16⟩
  | .local _ .vmem, ⟨6, _⟩ => ⟨S1024x128, .bf16⟩
  | .local _ .vmem, ⟨7, _⟩ => ⟨S1024x128, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16896x2048 : Shape := ⟨2, ![16896, 2048]⟩
abbrev S1024x16896 : Shape := ⟨2, ![1024, 16896]⟩
abbrev S16384x2048 : Shape := ⟨2, ![16384, 2048]⟩
abbrev S2x8192x8x256 : Shape := ⟨4, ![2, 8192, 8, 256]⟩
abbrev S2x8448x8x256 : Shape := ⟨4, ![2, 8448, 8, 256]⟩
abbrev S16896x1024 : Shape := ⟨2, ![16896, 1024]⟩
abbrev S2x8448x8x128 : Shape := ⟨4, ![2, 8448, 8, 128]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x8x128 : Shape := ⟨4, ![2, 8192, 8, 128]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S1024x16896, .bf16⟩
  | .hbm, ⟨3, _⟩ => ⟨S16384x2048, .bf16⟩
  | .hbm, ⟨4, _⟩ => ⟨S16384x2048, .f32⟩
  | .hbm, ⟨5, _⟩ => ⟨S2x8192x8x256, .f32⟩
  | .hbm, ⟨6, _⟩ => ⟨S16896x2048, .f32⟩
  | .hbm, ⟨7, _⟩ => ⟨S2x8448x8x256, .f32⟩
  | .hbm, ⟨8, _⟩ => ⟨S1024x16896, .f32⟩
  | .hbm, ⟨9, _⟩ => ⟨S16896x1024, .f32⟩
  | .hbm, ⟨10, _⟩ => ⟨S2x8448x8x128, .f32⟩
  | .hbm, ⟨11, _⟩ => ⟨S2x8x8192x8448, .f32⟩
  | .hbm, ⟨12, _⟩ => ⟨S_, .f32⟩
  | .hbm, ⟨13, _⟩ => ⟨S_, .f32⟩
  | .hbm, ⟨14, _⟩ => ⟨S2x8x8192x8448, .f32⟩
  | .hbm, ⟨15, _⟩ => ⟨S2x8x8192x8448, .f32⟩
  | .hbm, ⟨16, _⟩ => ⟨S_, .f32⟩
  | .hbm, ⟨17, _⟩ => ⟨S2x8x8192, .f32⟩
  | .hbm, ⟨18, _⟩ => ⟨S_, .f32⟩
  | .hbm, ⟨19, _⟩ => ⟨S2x8x8192, .f32⟩
  | .hbm, ⟨20, _⟩ => ⟨S2x8x8192, .f32⟩
  | .hbm, ⟨21, _⟩ => ⟨S2x8x8192x1, .f32⟩
  | .hbm, ⟨22, _⟩ => ⟨S2x8x8192x8448, .f32⟩
  | .hbm, ⟨23, _⟩ => ⟨S2x8x8192x8448, .f32⟩
  | .hbm, ⟨24, _⟩ => ⟨S2x8x8192x8448, .f32⟩
  | .hbm, ⟨25, _⟩ => ⟨S_, .f32⟩
  | .hbm, ⟨26, _⟩ => ⟨S2x8x8192, .f32⟩
  | .hbm, ⟨27, _⟩ => ⟨S2x8x8192x1, .f32⟩
  | .hbm, ⟨28, _⟩ => ⟨S2x8x8192x8448, .f32⟩
  | .hbm, ⟨29, _⟩ => ⟨S2x8x8192x8448, .f32⟩
  | .hbm, ⟨30, _⟩ => ⟨S2x8x128x8192, .f32⟩
  | .hbm, ⟨31, _⟩ => ⟨S2x8192x8x128, .f32⟩
  | .hbm, ⟨32, _⟩ => ⟨S16384x1024, .f32⟩
  | .hbm, ⟨33, _⟩ => ⟨S16384x1024, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel2.lean ====
abbrev S328 : Shape := ⟨1, ![328]⟩
abbrev S1 : Shape := ⟨1, ![1]⟩
abbrev S167936x1024 : Shape := ⟨2, ![167936, 1024]⟩
abbrev S2x64x2048x512 : Shape := ⟨4, ![2, 64, 2048, 512]⟩
abbrev S2x64x512x2048 : Shape := ⟨4, ![2, 64, 512, 2048]⟩
abbrev S335872x1024 : Shape := ⟨2, ![335872, 1024]⟩
abbrev S512x1024 : Shape := ⟨2, ![512, 1024]⟩
abbrev S1x1x2048x512 : Shape := ⟨4, ![1, 1, 2048, 512]⟩
abbrev S1x1x512x2048 : Shape := ⟨4, ![1, 1, 512, 2048]⟩
abbrev S1024x1024 : Shape := ⟨2, ![1024, 1024]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S167936x1024, .i32⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S335872x1024, .bf16⟩
  | .local _ .vmem, ⟨0, _⟩ => ⟨S512x1024, .i32⟩
  | .local _ .vmem, ⟨1, _⟩ => ⟨S512x1024, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1024x1024, .bf16⟩
  | .local _ .vmem, ⟨9, _⟩ => ⟨S1024x1024, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S328, .i32⟩
  | .local _ .smem, ⟨1, _⟩ => ⟨S1, .i32⟩
  | _, _ => ⟨S167936x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![328], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S328.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S328) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S328.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S328) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S328.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S328) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
variable {F : FTy → Type} [FloatOps F]
-- ==== Reference2Ideal.lean ====
abbrev S328 : Shape := ⟨1, ![328]⟩
abbrev S1 : Shape := ⟨1, ![1]⟩
abbrev S167936x1024 : Shape := ⟨2, ![167936, 1024]⟩
abbrev S2x64x2048x512 : Shape := ⟨4, ![2, 64, 2048, 512]⟩
abbrev S2x64x512x2048 : Shape := ⟨4, ![2, 64, 512, 2048]⟩
abbrev S328x512x1024 : Shape := ⟨3, ![328, 512, 1024]⟩
abbrev S_ : Shape := ⟨0, ![]⟩
abbrev S328x512x2048 : Shape := ⟨3, ![328, 512, 2048]⟩
abbrev S1x64x2048x512 : Shape := ⟨4, ![1, 64, 2048, 512]⟩
abbrev S64x2048x512 : Shape := ⟨3, ![64, 2048, 512]⟩
abbrev S328x1 : Shape := ⟨2, ![328, 1]⟩
abbrev S328x2048x512 : Shape := ⟨3, ![328, 2048, 512]⟩
abbrev S328x512x512 : Shape := ⟨3, ![328, 512, 512]⟩
abbrev S1x64x512x2048 : Shape := ⟨4, ![1, 64, 512, 2048]⟩
abbrev S64x512x2048 : Shape := ⟨3, ![64, 512, 2048]⟩
abbrev S328x1x1 : Shape := ⟨3, ![328, 1, 1]⟩
abbrev S335872x1024 : Shape := ⟨2, ![335872, 1024]⟩

abbrev nBuf : Space → Nat
  | .hbm => 74
  | .vmem => 0
  | .smem => 0
  | _ => 0

abbrev bufTy : (tb : Table) → Fin (tcTables nBuf tb) → BufTy
  | .hbm, ⟨0, _⟩ => ⟨S328, .i32⟩
  | .hbm, ⟨1, _⟩ => ⟨S1, .i32⟩
  | .hbm, ⟨2, _⟩ => ⟨S167936x1024, .i32⟩
  | .hbm, ⟨3, _⟩ => ⟨S2x64x2048x512, .f32⟩
  | .hbm, ⟨4, _⟩ => ⟨S2x64x2048x512, .f32⟩
  | .hbm, ⟨5, _⟩ => ⟨S2x64x512x2048, .f32⟩
  | .hbm, ⟨6, _⟩ => ⟨S328x512x1024, .i32⟩
  | .hbm, ⟨7, _⟩ => ⟨S_, .i32⟩
  | .hbm, ⟨8, _⟩ => ⟨S328x512x1024, .i32⟩
  | .hbm, ⟨9, _⟩ => ⟨S328x512x1024, .i32⟩
  | .hbm, ⟨10, _⟩ => ⟨S328x512x1024, .f32⟩
  | .hbm, ⟨11, _⟩ => ⟨S_, .i32⟩
  | .hbm, ⟨12, _⟩ => ⟨S328x512x1024, .i32⟩
  | .hbm, ⟨13, _⟩ => ⟨S328x512x1024, .i32⟩
  | .hbm, ⟨14, _⟩ => ⟨S328x512x1024, .f32⟩
  | .hbm, ⟨15, _⟩ => ⟨S328x512x2048, .f32⟩
  | .hbm, ⟨16, _⟩ => ⟨S1x64x2048x512, .f32⟩
  | .hbm, ⟨17, _⟩ => ⟨S64x2048x512, .f32⟩
  | .hbm, ⟨18, _⟩ => ⟨S_, .i32⟩
  | .hbm, ⟨19, _⟩ => ⟨S328, .i32⟩
  | .hbm, ⟨20, _⟩ => ⟨S328, .i1⟩
  | .hbm, ⟨21, _⟩ => ⟨S_, .i32⟩
  | .hbm, ⟨22, _⟩ => ⟨S328, .i32⟩
  | .hbm, ⟨23, _⟩ => ⟨S328, .i32⟩
  | .hbm, ⟨24, _⟩ => ⟨S328, .i32⟩
  | .hbm, ⟨25, _⟩ => ⟨S328x1, .i32⟩
  | .hbm, ⟨26, _⟩ => ⟨S328x2048x512, .f32⟩
  | .hbm, ⟨27, _⟩ => ⟨S328x512x512, .f32⟩
  | .hbm, ⟨28, _⟩ => ⟨S328x512x512, .f32⟩
  | .hbm, ⟨29, _⟩ => ⟨S328x512x512, .f32⟩
  | .hbm, ⟨30, _⟩ => ⟨S_, .f32⟩
  | .hbm, ⟨31, _⟩ => ⟨S328x512x512, .f32⟩
  | .hbm, ⟨32, _⟩ => ⟨S328x512x512, .f32⟩
  | .hbm, ⟨33, _⟩ => ⟨S_, .f32⟩
  | .hbm, ⟨34, _⟩ => ⟨S328x512x512, .f32⟩
  | .hbm, ⟨35, _⟩ => ⟨S328x512x512, .f32⟩
  | .hbm, ⟨36, _⟩ => ⟨S328x512x512, .f32⟩
  | .hbm, ⟨37, _⟩ => ⟨S1x64x2048x512, .f32⟩
  | .hbm, ⟨38, _⟩ => ⟨S64x2048x512, .f32⟩
  | .hbm, ⟨39, _⟩ => ⟨S_, .i32⟩
  | .hbm, ⟨40, _⟩ => ⟨S328, .i32⟩
  | .hbm, ⟨41, _⟩ => ⟨S328, .i1⟩
  | .hbm, ⟨42, _⟩ => ⟨S_, .i32⟩
  | .hbm, ⟨43, _⟩ => ⟨S328, .i32⟩
  | .hbm, ⟨44, _⟩ => ⟨S328, .i32⟩
  | .hbm, ⟨45, _⟩ => ⟨S328, .i32⟩
  | .hbm, ⟨46, _⟩ => ⟨S328x1, .i32⟩
  | .hbm, ⟨47, _⟩ => ⟨S328x2048x512, .f32⟩
  | .hbm, ⟨48, _⟩ => ⟨S328x512x512, .f32⟩
  | .hbm, ⟨49, _⟩ => ⟨S328x512x512, .f32⟩
  | .hbm, ⟨50, _⟩ => ⟨S1x64x512x2048, .f32⟩
  | .hbm, ⟨51, _⟩ => ⟨S64x512x2048, .f32⟩
  | .hbm, ⟨52, _⟩ => ⟨S_, .i32⟩
  | .hbm, ⟨53, _⟩ => ⟨S328, .i32⟩
  | .hbm, ⟨54, _⟩ => ⟨S328, .i1⟩
  | .hbm, ⟨55, _⟩ => ⟨S_, .i32⟩
  | .hbm, ⟨56, _⟩ => ⟨S328, .i32⟩
  | .hbm, ⟨57, _⟩ => ⟨S328, .i32⟩
  | .hbm, ⟨58, _⟩ => ⟨S328, .i32⟩
  | .hbm, ⟨59, _⟩ => ⟨S328x1, .i32⟩
  | .hbm, ⟨60, _⟩ => ⟨S328x512x2048, .f32⟩
  | .hbm, ⟨61, _⟩ => ⟨S328x512x2048, .f32⟩
  | .hbm, ⟨62, _⟩ => ⟨S328, .i32⟩
  | .hbm, ⟨63, _⟩ => ⟨S_, .i32⟩
  | .hbm, ⟨64, _⟩ => ⟨S328, .i32⟩
  | .hbm, ⟨65, _⟩ => ⟨S328, .i1⟩
  | .hbm, ⟨66, _⟩ => ⟨S328x1x1, .i1⟩
  | .hbm, ⟨67, _⟩ => ⟨S_, .f32⟩
  | .hbm, ⟨68, _⟩ => ⟨S_, .f32⟩
  | .hbm, ⟨69, _⟩ => ⟨S328x512x2048, .i1⟩
  | .hbm, ⟨70, _⟩ => ⟨S328x512x2048, .f32⟩
  | .hbm, ⟨71, _⟩ => ⟨S328x512x2048, .f32⟩
  | .hbm, ⟨72, _⟩ => ⟨S335872x1024, .f32⟩
  | .hbm, ⟨73, _⟩ => ⟨S335872x1024, .bf16⟩
  | _, _ => ⟨S328, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel3.lean ====
abbrev S16896x2048 : Shape := ⟨2, ![16896, 2048]⟩
abbrev S3x6x2048 : Shape := ⟨3, ![3, 6, 2048]⟩
abbrev S16896x128 : Shape := ⟨2, ![16896, 128]⟩
abbrev S2048x3968 : Shape := ⟨2, ![2048, 3968]⟩
abbrev S1x512 : Shape := ⟨2, ![1, 512]⟩
abbrev S4x128x128 : Shape := ⟨3, ![4, 128, 128]⟩
abbrev S128x512 : Shape := ⟨2, ![128, 512]⟩
abbrev S1x768 : Shape := ⟨2, ![1, 768]⟩
abbrev S768x2048 : Shape := ⟨2, ![768, 2048]⟩
abbrev S1x256 : Shape := ⟨2, ![1, 256]⟩
abbrev S256x1024 : Shape := ⟨2, ![256, 1024]⟩
abbrev S1024x256 : Shape := ⟨2, ![1024, 256]⟩
abbrev S16896x512 : Shape := ⟨2, ![16896, 512]⟩
abbrev S16896x1024 : Shape := ⟨2, ![16896, 1024]⟩
abbrev S16896x256 : Shape := ⟨2, ![16896, 256]⟩
abbrev S1024x16896 : Shape := ⟨2, ![1024, 16896]⟩
abbrev S256x2048 : Shape := ⟨2, ![256, 2048]⟩
abbrev S1x6x2048 : Shape := ⟨3, ![1, 6, 2048]⟩
abbrev S256x128 : Shape := ⟨2, ![256, 128]⟩
abbrev S256x512 : Shape := ⟨2, ![256, 512]⟩
abbrev S256x256 : Shape := ⟨2, ![256, 256]⟩
abbrev S6x2048 : Shape := ⟨2, ![6, 2048]⟩
abbrev S1x2048 : Shape := ⟨2, ![1, 2048]⟩
abbrev S2048x1024 : Shape := ⟨2, ![2048, 1024]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S2048x512 : Shape := ⟨2, ![2048, 512]⟩
abbrev S2048x256 : Shape := ⟨2, ![2048, 256]⟩
abbrev S2048x768 : Shape := ⟨2, ![2048, 768]⟩
abbrev S256x768 : Shape := ⟨2, ![256, 768]⟩
abbrev S2048x128 : Shape := ⟨2, ![2048, 128]⟩

abbrev nBuf : Space → Nat
  | .hbm => 21
  | .vmem => 32
  | .smem => 0
  | _ => 0

abbrev bufTy : (tb : Table) → Fin (tcTables nBuf tb) → BufTy
  | .hbm, ⟨0, _⟩ => ⟨S16896x2048, .f32⟩
  | .hbm, ⟨1, _⟩ => ⟨S3x6x2048, .f32⟩
  | .hbm, ⟨2, _⟩ => ⟨S16896x128, .f32⟩
  | .hbm, ⟨3, _⟩ => ⟨S16896x128, .f32⟩
  | .hbm, ⟨4, _⟩ => ⟨S2048x3968, .bf16⟩
  | .hbm, ⟨5, _⟩ => ⟨S1x512, .f32⟩
  | .hbm, ⟨6, _⟩ => ⟨S1x512, .f32⟩
  | .hbm, ⟨7, _⟩ => ⟨S4x128x128, .bf16⟩
  | .hbm, ⟨8, _⟩ => ⟨S128x512, .f32⟩
  | .hbm, ⟨9, _⟩ => ⟨S1x768, .f32⟩
  | .hbm, ⟨10, _⟩ => ⟨S768x2048, .bf16⟩
  | .hbm, ⟨11, _⟩ => ⟨S1x256, .f32⟩
  | .hbm, ⟨12, _⟩ => ⟨S256x1024, .bf16⟩
  | .hbm, ⟨13, _⟩ => ⟨S1024x256, .bf16⟩
  | .hbm, ⟨14, _⟩ => ⟨S16896x512, .bf16⟩
  | .hbm, ⟨15, _⟩ => ⟨S16896x512, .f32⟩
  | .hbm, ⟨16, _⟩ => ⟨S16896x1024, .f32⟩
  | .hbm, ⟨17, _⟩ => ⟨S16896x256, .f32⟩
  | .hbm, ⟨18, _⟩ => ⟨S16896x2048, .bf16⟩
  | .hbm, ⟨19, _⟩ => ⟨S16896x2048, .bf16⟩
  | .hbm, ⟨20, _⟩ => ⟨S1024x16896, .bf16⟩
  | .local _ .vmem, ⟨0, _⟩ => ⟨S256x2048, .f32⟩
  | .local _ .vmem, ⟨1, _⟩ => ⟨S256x2048, .f32⟩
  | .local _ .vmem, ⟨2, _⟩ => ⟨S1x6x2048, .f32⟩
  | .local _ .vmem, ⟨3, _⟩ => ⟨S1x6x2048, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S2048x3968, .bf16⟩
  | .local _ .vmem, ⟨9, _⟩ => ⟨S1x512, .f32⟩
  | .local _ .vmem, ⟨10, _⟩ => ⟨S1x512, .f32⟩
  | .local _ .vmem, ⟨11, _⟩ => ⟨S4x128x128, .bf16⟩
  | .local _ .vmem, ⟨12, _⟩ => ⟨S128x512, .f32⟩
  | .local _ .vmem, ⟨13, _⟩ => ⟨S1x768, .f32⟩
  | .local _ .vmem, ⟨14, _⟩ => ⟨S768x2048, .bf16⟩
  | .local _ .vmem, ⟨15, _⟩ => ⟨S1x256, .f32⟩
  | .local _ .vmem, ⟨16, _⟩ => ⟨S256x1024, .bf16⟩
  | .local _ .vmem, ⟨17, _⟩ => ⟨S1024x256, .bf16⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S256x1024, .f32⟩
  | .local _ .vmem, ⟨23, _⟩ => ⟨S256x1024, .f32⟩
  | .local _ .vmem, ⟨24, _⟩ => ⟨S256x256, .f32⟩
  | .local _ .vmem, ⟨25, _⟩ => ⟨S256x256, .f32⟩
  | .local _ .vmem, ⟨26, _⟩ => ⟨S256x2048, .bf16⟩
  | .local _ .vmem, ⟨27, _⟩ => ⟨S256x2048, .bf16⟩
  | .local _ .vmem, ⟨28, _⟩ => ⟨S256x2048, .bf16⟩
  | .local _ .vmem, ⟨29, _⟩ => ⟨S256x2048, .bf16⟩
  | .local _ .vmem, ⟨30, _⟩ => ⟨S1024x256, .bf16⟩
  | .local _ .vmem, ⟨31, _⟩ => ⟨S1024x256, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32 : BitVec 32 := 33#32
  let v17 : BitVec 32 := Scalar.muli v16 c33_i32
  let c1_i32_4 : BitVec 32 := 1#32
  let v18 : BitVec 32 := Scalar.addi v17 c1_i32_4
  let c32_i32_5 : BitVec 32 := 32#32
  let c0_i32_6 : BitVec 32 := 0#32
  let v19 : BitVec 1 := Scalar.cmpi .eq c32_i32_5 c0_i32_6
  let c1_i32_7 : BitVec 32 := 1#32
  let v20 : BitVec 32 := Scalar.select v19 c1_i32_7 c32_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c64_i32 : BitVec 32 := 64#32
  let v30 : BitVec 32 := Scalar.subi arg0 c64_i32
  let c1_i32_11 : BitVec 32 := 1#32
  let v31 : BitVec 32 := Scalar.divsi v30 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c1_i32_11 c0_i32_14
  let v38 : BitVec 32 := Scalar.extui v37
  let c0_i32_15 : BitVec 32 := 0#32
  let v39 : BitVec 1 := Scalar.cmpi .slt c1_i32_11 c0_i32_15
  let v40 : BitVec 32 := Scalar.extui v39
  let v41 : BitVec 32 := Scalar.subi v38 v40
  let v42 : BitVec 1 := Scalar.cmpi .ne v36 v41
  let v43 : BitVec 32 := Scalar.remsi v30 c1_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c33_i32_18 : BitVec 32 := 33#32
  let v48 : BitVec 32 := Scalar.muli v47 c33_i32_18
  let c1_i32_19 : BitVec 32 := 1#32
  let c0_i32_20 : BitVec 32 := 0#32
  let v49 : BitVec 1 := Scalar.cmpi .eq c1_i32_19 c0_i32_20
  let c1_i32_21 : BitVec 32 := 1#32
  let v50 : BitVec 32 := Scalar.select v49 c1_i32_21 c1_i32_19
  let v51 : BitVec 32 := Scalar.remsi v30 v50
  let c0_i32_22 : BitVec 32 := 0#32
  let v52 : BitVec 1 := Scalar.cmpi .ne v51 c0_i32_22
  let c0_i32_23 : BitVec 32 := 0#32
  let v53 : BitVec 1 := Scalar.cmpi .slt v51 c0_i32_23
  let c0_i32_24 : BitVec 32 := 0#32
  let v54 : BitVec 1 := Scalar.cmpi .slt v50 c0_i32_24
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c64_i32_25 : BitVec 32 := 64#32
  let v60 : BitVec 1 := Scalar.cmpi .slt arg0 c64_i32_25
  let v61 : BitVec 32 := Scalar.select v60 v29 v59
  let c0_i32_26 : BitVec 32 := 0#32
  let c0_i32_27 : BitVec 32 := 0#32
  ![v61.toNat, c0_i32_26.toNat]

def cc0_transform_20 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32 : BitVec 32 := 33#32
  let v17 : BitVec 32 := Scalar.muli v16 c33_i32
  let c1_i32_4 : BitVec 32 := 1#32
  let v18 : BitVec 32 := Scalar.addi v17 c1_i32_4
  let c32_i32_5 : BitVec 32 := 32#32
  let c0_i32_6 : BitVec 32 := 0#32
  let v19 : BitVec 1 := Scalar.cmpi .eq c32_i32_5 c0_i32_6
  let c1_i32_7 : BitVec 32 := 1#32
  let v20 : BitVec 32 := Scalar.select v19 c1_i32_7 c32_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c64_i32 : BitVec 32 := 64#32
  let v30 : BitVec 32 := Scalar.subi arg0 c64_i32
  let c1_i32_11 : BitVec 32 := 1#32
  let v31 : BitVec 32 := Scalar.divsi v30 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c1_i32_11 c0_i32_14
  let v38 : BitVec 32 := Scalar.extui v37
  let c0_i32_15 : BitVec 32 := 0#32
  let v39 : BitVec 1 := Scalar.cmpi .slt c1_i32_11 c0_i32_15
  let v40 : BitVec 32 := Scalar.extui v39
  let v41 : BitVec 32 := Scalar.subi v38 v40
  let v42 : BitVec 1 := Scalar.cmpi .ne v36 v41
  let v43 : BitVec 32 := Scalar.remsi v30 c1_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c33_i32_18 : BitVec 32 := 33#32
  let v48 : BitVec 32 := Scalar.muli v47 c33_i32_18
  let c1_i32_19 : BitVec 32 := 1#32
  let c0_i32_20 : BitVec 32 := 0#32
  let v49 : BitVec 1 := Scalar.cmpi .eq c1_i32_19 c0_i32_20
  let c1_i32_21 : BitVec 32 := 1#32
  let v50 : BitVec 32 := Scalar.select v49 c1_i32_21 c1_i32_19
  let v51 : BitVec 32 := Scalar.remsi v30 v50
  let c0_i32_22 : BitVec 32 := 0#32
  let v52 : BitVec 1 := Scalar.cmpi .ne v51 c0_i32_22
  let c0_i32_23 : BitVec 32 := 0#32
  let v53 : BitVec 1 := Scalar.cmpi .slt v51 c0_i32_23
  let c0_i32_24 : BitVec 32 := 0#32
  let v54 : BitVec 1 := Scalar.cmpi .slt v50 c0_i32_24
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c64_i32_25 : BitVec 32 := 64#32
  let v60 : BitVec 1 := Scalar.cmpi .slt arg0 c64_i32_25
  let v61 : BitVec 32 := Scalar.select v60 v29 v59
  let c0_i32_26 : BitVec 32 := 0#32
  let c0_i32_27 : BitVec 32 := 0#32
  ![c0_i32_26.toNat, v61.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x3968 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S16896x2048 : Shape := ⟨2, ![16896, 2048]⟩
abbrev S3x6x2048 : Shape := ⟨3, ![3, 6, 2048]⟩
abbrev S16896x128 : Shape := ⟨2, ![16896, 128]⟩
abbrev S2048x3968 : Shape := ⟨2, ![2048, 3968]⟩
abbrev S1x512 : Shape := ⟨2, ![1, 512]⟩
abbrev S4x128x128 : Shape := ⟨3, ![4, 128, 128]⟩
abbrev S128x512 : Shape := ⟨2, ![128, 512]⟩
abbrev S1x768 : Shape := ⟨2, ![1, 768]⟩
abbrev S768x2048 : Shape := ⟨2, ![768, 2048]⟩
abbrev S1x256 : Shape := ⟨2, ![1, 256]⟩
abbrev S256x1024 : Shape := ⟨2, ![256, 1024]⟩
abbrev S1024x256 : Shape := ⟨2, ![1024, 256]⟩
abbrev S16384x2048 : Shape := ⟨2, ![16384, 2048]⟩
abbrev S2x8192x2048 : Shape := ⟨3, ![2, 8192, 2048]⟩
abbrev S2x1x2048 : Shape := ⟨3, ![2, 1, 2048]⟩
abbrev S2x2048 : Shape := ⟨2, ![2, 2048]⟩
abbrev S_ : Shape := ⟨0, ![]⟩
abbrev S512x2048 : Shape := ⟨2, ![512, 2048]⟩
abbrev S1x1x2048 : Shape := ⟨3, ![1, 1, 2048]⟩
abbrev S2048 : Shape := ⟨1, ![2048]⟩
abbrev S1x2048 : Shape := ⟨2, ![1, 2048]⟩
abbrev S16896x3968 : Shape := ⟨2, ![16896, 3968]⟩
abbrev S16896x1024 : Shape := ⟨2, ![16896, 1024]⟩
abbrev S16896x512 : Shape := ⟨2, ![16896, 512]⟩
abbrev S16896 : Shape := ⟨1, ![16896]⟩
abbrev S16896x1 : Shape := ⟨2, ![16896, 1]⟩
abbrev S132x128x4x128 : Shape := ⟨4, ![132, 128, 4, 128]⟩
abbrev S4x132x128x128 : Shape := ⟨4, ![4, 132, 128, 128]⟩
abbrev S132x128x512 : Shape := ⟨3, ![132, 128, 512]⟩
abbrev S1x128x512 : Shape := ⟨3, ![1, 128, 512]⟩
abbrev S16896x768 : Shape := ⟨2, ![16896, 768]⟩
abbrev S16896x8x256 : Shape := ⟨3, ![16896, 8, 256]⟩
abbrev S16896x8x128 : Shape := ⟨3, ![16896, 8, 128]⟩
abbrev S16896x1x128 : Shape := ⟨3, ![16896, 1, 128]⟩
abbrev S16896x8x64 : Shape := ⟨3, ![16896, 8, 64]⟩
abbrev S16896x256 : Shape := ⟨2, ![16896, 256]⟩
abbrev S16896x64 : Shape := ⟨2, ![16896, 64]⟩
abbrev S2x256x2048 : Shape := ⟨3, ![2, 256, 2048]⟩
abbrev S2x8448x2048 : Shape := ⟨3, ![2, 8448, 2048]⟩
abbrev S512x1024 : Shape := ⟨2, ![512, 1024]⟩
abbrev S2x256x1024 : Shape := ⟨3, ![2, 256, 1024]⟩
abbrev S16384x1024 : Shape := ⟨2, ![16384, 1024]⟩
abbrev S2x8192x1024 : Shape := ⟨3, ![2, 8192, 1024]⟩
abbrev S2x8448x1024 : Shape := ⟨3, ![2, 8448, 1024]⟩
abbrev S1024x16896 : Shape := ⟨2, ![1024, 16896]⟩

abbrev nBuf : Space → Nat
  | .hbm => 187
  | .vmem => 0
  | .smem => 0
  | _ => 0

abbrev hbmTy0_0 (i : Nat) : BufTy := match i % 128 with
  | 0 => ⟨S16896x2048, .f32⟩
  | 1 => ⟨S3x6x2048, .f32⟩
  | 2 => ⟨S16896x128, .f32⟩
  | 3 => ⟨S16896x128, .f32⟩
  | 4 => ⟨S2048x3968, .bf16⟩
  | 5 => ⟨S1x512, .f32⟩
  | 6 => ⟨S1x512, .f32⟩
  | 7 => ⟨S4x128x128, .bf16⟩
  | 8 => ⟨S128x512, .f32⟩
  | 9 => ⟨S1x768, .f32⟩
  | 10 => ⟨S768x2048, .bf16⟩
  | 11 => ⟨S1x256, .f32⟩
  | 12 => ⟨S256x1024, .bf16⟩
  | 13 => ⟨S1024x256, .bf16⟩
  | 14 => ⟨S16384x2048, .f32⟩
  | 15 => ⟨S2x8192x2048, .f32⟩
  | 16 => ⟨S2x1x2048, .f32⟩
  | 17 => ⟨S2x2048, .f32⟩
  | 18 => ⟨S2x1x2048, .f32⟩
  | 19 => ⟨S_, .f32⟩
  | 20 => ⟨S2x1x2048, .f32⟩
  | 21 => ⟨S2x1x2048, .f32⟩
  | 22 => ⟨S2x8192x2048, .f32⟩
  | 23 => ⟨S2x8192x2048, .f32⟩
  | 24 => ⟨S2x1x2048, .f32⟩
  | 25 => ⟨S2x2048, .f32⟩
  | 26 => ⟨S2x1x2048, .f32⟩
  | 27 => ⟨S2x8192x2048, .f32⟩
  | 28 => ⟨S2x8192x2048, .f32⟩
  | 29 => ⟨S512x2048, .f32⟩
  | 30 => ⟨S1x1x2048, .f32⟩
  | 31 => ⟨S2048, .f32⟩
  | 32 => ⟨S_, .f32⟩
  | 33 => ⟨S2048, .f32⟩
  | 34 => ⟨S2048, .f32⟩
  | 35 => ⟨S1x2048, .f32⟩
  | 36 => ⟨S512x2048, .f32⟩
  | 37 => ⟨S512x2048, .f32⟩
  | 38 => ⟨S1x1x2048, .f32⟩
  | 39 => ⟨S2048, .f32⟩
  | 40 => ⟨S1x2048, .f32⟩
  | 41 => ⟨S512x2048, .f32⟩
  | 42 => ⟨S512x2048, .f32⟩
  | 43 => ⟨S16384x2048, .f32⟩
  | 44 => ⟨S16896x2048, .f32⟩
  | 45 => ⟨S2048x3968, .f32⟩
  | 46 => ⟨S16896x3968, .f32⟩
  | 47 => ⟨S16896x1024, .f32⟩
  | 48 => ⟨S_, .f32⟩
  | 49 => ⟨S16896x1024, .f32⟩
  | 50 => ⟨S16896x1024, .f32⟩
  | 51 => ⟨S_, .f32⟩
  | 52 => ⟨S16896x1024, .f32⟩
  | 53 => ⟨S16896x1024, .f32⟩
  | 54 => ⟨S16896x1024, .f32⟩
  | 55 => ⟨S_, .f32⟩
  | 56 => ⟨S16896x1024, .f32⟩
  | 57 => ⟨S16896x1024, .f32⟩
  | 58 => ⟨S16896x1024, .f32⟩
  | 59 => ⟨S16896x512, .f32⟩
  | 60 => ⟨S_, .f32⟩
  | 61 => ⟨S16896, .f32⟩
  | 62 => ⟨S16896x1, .f32⟩
  | 63 => ⟨S_, .f32⟩
  | 64 => ⟨S16896x1, .f32⟩
  | 65 => ⟨S16896x1, .f32⟩
  | 66 => ⟨S16896x512, .f32⟩
  | 67 => ⟨S16896x512, .f32⟩
  | 68 => ⟨S16896x512, .f32⟩
  | 69 => ⟨S_, .f32⟩
  | 70 => ⟨S16896, .f32⟩
  | 71 => ⟨S16896x1, .f32⟩
  | 72 => ⟨S_, .f32⟩
  | 73 => ⟨S16896x1, .f32⟩
  | 74 => ⟨S16896x1, .f32⟩
  | 75 => ⟨S16896x512, .f32⟩
  | 76 => ⟨S16896x512, .f32⟩
  | 77 => ⟨S_, .f32⟩
  | 78 => ⟨S16896x1, .f32⟩
  | 79 => ⟨S16896x1, .f32⟩
  | 80 => ⟨S16896x1, .f32⟩
  | 81 => ⟨S16896x512, .f32⟩
  | 82 => ⟨S16896x512, .f32⟩
  | 83 => ⟨S16896x512, .f32⟩
  | 84 => ⟨S16896x512, .f32⟩
  | 85 => ⟨S16896x512, .f32⟩
  | 86 => ⟨S16896x512, .f32⟩
  | 87 => ⟨S132x128x4x128, .f32⟩
  | 88 => ⟨S4x128x128, .f32⟩
  | 89 => ⟨S4x132x128x128, .f32⟩
  | 90 => ⟨S132x128x4x128, .f32⟩
  | 91 => ⟨S132x128x512, .f32⟩
  | 92 => ⟨S1x128x512, .f32⟩
  | 93 => ⟨S132x128x512, .f32⟩
  | 94 => ⟨S132x128x512, .f32⟩
  | 95 => ⟨S16896x512, .f32⟩
  | 96 => ⟨S16896x512, .f32⟩
  | 97 => ⟨S16896x512, .f32⟩
  | 98 => ⟨S16896x768, .f32⟩
  | 99 => ⟨S16896x768, .f32⟩
  | 100 => ⟨S_, .f32⟩
  | 101 => ⟨S16896, .f32⟩
  | 102 => ⟨S16896x1, .f32⟩
  | 103 => ⟨S_, .f32⟩
  | 104 => ⟨S16896x1, .f32⟩
  | 105 => ⟨S16896x1, .f32⟩
  | 106 => ⟨S_, .f32⟩
  | 107 => ⟨S16896x1, .f32⟩
  | 108 => ⟨S16896x1, .f32⟩
  | 109 => ⟨S16896x1, .f32⟩
  | 110 => ⟨S16896x768, .f32⟩
  | 111 => ⟨S16896x768, .f32⟩
  | 112 => ⟨S16896x768, .f32⟩
  | 113 => ⟨S16896x768, .f32⟩
  | 114 => ⟨S768x2048, .f32⟩
  | 115 => ⟨S16896x2048, .f32⟩
  | 116 => ⟨S16896x8x256, .f32⟩
  | 117 => ⟨S16896x8x128, .f32⟩
  | 118 => ⟨S16896x8x128, .f32⟩
  | 119 => ⟨S16896x1x128, .f32⟩
  | 120 => ⟨S16896x1x128, .f32⟩
  | 121 => ⟨S16896x8x128, .f32⟩
  | 122 => ⟨S16896x8x128, .f32⟩
  | 123 => ⟨S16896x8x64, .f32⟩
  | 124 => ⟨S16896x8x64, .f32⟩
  | 125 => ⟨S16896x8x128, .f32⟩
  | 126 => ⟨S16896x8x128, .f32⟩
  | 127 => ⟨S16896x8x128, .f32⟩
  | _ => ⟨S16896x2048, .f32⟩

abbrev hbmTy0_1 (i : Nat) : BufTy := match i % 128 with
  | 0 => ⟨S16896x8x128, .f32⟩
  | 1 => ⟨S16896x8x256, .f32⟩
  | 2 => ⟨S_, .f32⟩
  | 3 => ⟨S16896x8x256, .f32⟩
  | 4 => ⟨S16896x8x256, .f32⟩
  | 5 => ⟨S16896x256, .f32⟩
  | 6 => ⟨S16896x256, .f32⟩
  | 7 => ⟨S_, .f32⟩
  | 8 => ⟨S16896, .f32⟩
  | 9 => ⟨S16896x1, .f32⟩
  | 10 => ⟨S_, .f32⟩
  | 11 => ⟨S16896x1, .f32⟩
  | 12 => ⟨S16896x1, .f32⟩
  | 13 => ⟨S_, .f32⟩
  | 14 => ⟨S16896x1, .f32⟩
  | 15 => ⟨S16896x1, .f32⟩
  | 16 => ⟨S16896x1, .f32⟩
  | 17 => ⟨S16896x256, .f32⟩
  | 18 => ⟨S16896x256, .f32⟩
  | 19 => ⟨S16896x256, .f32⟩
  | 20 => ⟨S16896x256, .f32⟩
  | 21 => ⟨S16896x128, .f32⟩
  | 22 => ⟨S16896x128, .f32⟩
  | 23 => ⟨S16896x64, .f32⟩
  | 24 => ⟨S16896x64, .f32⟩
  | 25 => ⟨S16896x128, .f32⟩
  | 26 => ⟨S16896x128, .f32⟩
  | 27 => ⟨S16896x128, .f32⟩
  | 28 => ⟨S256x1024, .f32⟩
  | 29 => ⟨S16896x1024, .f32⟩
  | 30 => ⟨S16896x8x128, .f32⟩
  | 31 => ⟨S16896x1x128, .f32⟩
  | 32 => ⟨S16896x8x128, .f32⟩
  | 33 => ⟨S16896x8x256, .f32⟩
  | 34 => ⟨S1024x256, .f32⟩
  | 35 => ⟨S256x1024, .f32⟩
  | 36 => ⟨S16896x1024, .f32⟩
  | 37 => ⟨S16896x512, .bf16⟩
  | 38 => ⟨S16896x512, .f32⟩
  | 39 => ⟨S16896x1024, .f32⟩
  | 40 => ⟨S16896x256, .f32⟩
  | 41 => ⟨S16896x2048, .f32⟩
  | 42 => ⟨S16896x2048, .bf16⟩
  | 43 => ⟨S16896x2048, .f32⟩
  | 44 => ⟨S512x2048, .f32⟩
  | 45 => ⟨S2x256x2048, .f32⟩
  | 46 => ⟨S16384x2048, .f32⟩
  | 47 => ⟨S2x8192x2048, .f32⟩
  | 48 => ⟨S2x8448x2048, .f32⟩
  | 49 => ⟨S16896x2048, .f32⟩
  | 50 => ⟨S16896x2048, .bf16⟩
  | 51 => ⟨S512x1024, .f32⟩
  | 52 => ⟨S2x256x1024, .f32⟩
  | 53 => ⟨S16384x1024, .f32⟩
  | 54 => ⟨S2x8192x1024, .f32⟩
  | 55 => ⟨S2x8448x1024, .f32⟩
  | 56 => ⟨S16896x1024, .f32⟩
  | 57 => ⟨S1024x16896, .f32⟩
  | 58 => ⟨S1024x16896, .bf16⟩
  | _ => ⟨S16896x2048, .f32⟩

abbrev hbmTy (i : Nat) : BufTy := match i / 128 with
  | 0 => hbmTy0_0 i
  | 1 => hbmTy0_1 i
  | _ => ⟨S16896x2048, .f32⟩

abbrev bufTy : (tb : Table) → Fin (tcTables nBuf tb) → BufTy
  | .hbm, ⟨i, _⟩ => hbmTy i
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_cst_10 : Ref sig .tc := ⟨.hbm, 103, rfl⟩
abbrev main_v78 : Ref sig .tc := ⟨.hbm, 104, rfl⟩
abbrev main_v79 : Ref sig .tc := ⟨.hbm, 105, rfl⟩
abbrev main_cst_11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_12 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_13 : Ref sig .tc := ⟨.hbm, 135, rfl⟩
abbrev main_v107 : Ref sig .tc := ⟨.hbm, 136, rfl⟩
abbrev main_v108 : Ref sig .tc := ⟨.hbm, 137, rfl⟩
abbrev main_cst_14 : Ref sig .tc := ⟨.hbm, 138, rfl⟩
abbrev main_v109 : Ref sig .tc := ⟨.hbm, 139, rfl⟩
abbrev main_v110 : Ref sig .tc := ⟨.hbm, 140, rfl⟩
abbrev main_cst_15 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩

abbrev nD : Nat := 1
abbrev τ : Topo := Topo.v7x

variable {F : FTy → Type} [FloatOps F]
-- ==== Kernel4.lean ====
abbrev S16896x512 : Shape := ⟨2, ![16896, 512]⟩
abbrev S16384x1024 : Shape := ⟨2, ![16384, 1024]⟩
abbrev S512x1024 : Shape := ⟨2, ![512, 1024]⟩
abbrev S16896x2048 : Shape := ⟨2, ![16896, 2048]⟩
abbrev S3x6x2048 : Shape := ⟨3, ![3, 6, 2048]⟩
abbrev S2048x2048 : Shape := ⟨2, ![2048, 2048]⟩
abbrev S1x2048 : Shape := ⟨2, ![1, 2048]⟩
abbrev S64x2048 : Shape := ⟨2, ![64, 2048]⟩
abbrev S33792x1024 : Shape := ⟨2, ![33792, 1024]⟩
abbrev S64x16896 : Shape := ⟨2, ![64, 16896]⟩
abbrev S512x512 : Shape := ⟨2, ![512, 512]⟩
abbrev S512x2048 : Shape := ⟨2, ![512, 2048]⟩
abbrev S1x6x2048 : Shape := ⟨3, ![1, 6, 2048]⟩
abbrev S1024x1024 : Shape := ⟨2, ![1024, 1024]⟩
abbrev S64x512 : Shape := ⟨2, ![64, 512]⟩
abbrev S6x2048 : Shape := ⟨2, ![6, 2048]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S64x256 : Shape := ⟨2, ![64, 256]⟩

abbrev nBuf : Space → Nat
  | .hbm => 13
  | .vmem => 22
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16384x1024, .bf16⟩
  | .hbm, ⟨3, _⟩ => ⟨S512x1024, .bf16⟩
  | .hbm, ⟨4, _⟩ => ⟨S16896x2048, .f32⟩
  | .hbm, ⟨5, _⟩ => ⟨S3x6x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S64x2048, .f32⟩
  | .hbm, ⟨10, _⟩ => ⟨S16896x2048, .f32⟩
  | .hbm, ⟨11, _⟩ => ⟨S33792x1024, .bf16⟩
  | .hbm, ⟨12, _⟩ => ⟨S64x16896, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S1x6x2048, .f32⟩
  | .local _ .vmem, ⟨11, _⟩ => ⟨S1x6x2048, .f32⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S64x2048, .f32⟩
  | .local _ .vmem, ⟨16, _⟩ => ⟨S512x2048, .f32⟩
  | .local _ .vmem, ⟨17, _⟩ => ⟨S512x2048, .f32⟩
  | .local _ .vmem, ⟨18, _⟩ => ⟨S1024x1024, .bf16⟩
  | .local _ .vmem, ⟨19, _⟩ => ⟨S1024x1024, .bf16⟩
  | .local _ .vmem, ⟨20, _⟩ => ⟨S64x512, .f32⟩
  | .local _ .vmem, ⟨21, _⟩ => ⟨S64x512, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel4Ideal.lean ====
variable {F : FTy → Type} [FloatOps F]
-- ==== Reference4Ideal.lean ====
abbrev S16896x512 : Shape := ⟨2, ![16896, 512]⟩
abbrev S16384x1024 : Shape := ⟨2, ![16384, 1024]⟩
abbrev S512x1024 : Shape := ⟨2, ![512, 1024]⟩
abbrev S16896x2048 : Shape := ⟨2, ![16896, 2048]⟩
abbrev S3x6x2048 : Shape := ⟨3, ![3, 6, 2048]⟩
abbrev S2048x2048 : Shape := ⟨2, ![2048, 2048]⟩
abbrev S1x2048 : Shape := ⟨2, ![1, 2048]⟩
abbrev S64x2048 : Shape := ⟨2, ![64, 2048]⟩
abbrev S16896x1024 : Shape := ⟨2, ![16896, 1024]⟩
abbrev S_ : Shape := ⟨0, ![]⟩
abbrev S3x1x2048 : Shape := ⟨3, ![3, 1, 2048]⟩
abbrev S3x2048 : Shape := ⟨2, ![3, 2048]⟩
abbrev S2x2048 : Shape := ⟨2, ![2, 2048]⟩
abbrev S2x1x2048 : Shape := ⟨3, ![2, 1, 2048]⟩
abbrev S2x8192x2048 : Shape := ⟨3, ![2, 8192, 2048]⟩
abbrev S16384x2048 : Shape := ⟨2, ![16384, 2048]⟩
abbrev S512x2048 : Shape := ⟨2, ![512, 2048]⟩
abbrev S16896 : Shape := ⟨1, ![16896]⟩
abbrev S16896x1 : Shape := ⟨2, ![16896, 1]⟩
abbrev S33792x1024 : Shape := ⟨2, ![33792, 1024]⟩
abbrev S64x16896 : Shape := ⟨2, ![64, 16896]⟩

abbrev nBuf : Space → Nat
  | .hbm => 82
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16384x1024, .bf16⟩
  | .hbm, ⟨3, _⟩ => ⟨S512x1024, .bf16⟩
  | .hbm, ⟨4, _⟩ => ⟨S16896x2048, .f32⟩
  | .hbm, ⟨5, _⟩ => ⟨S3x6x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S64x2048, .f32⟩
  | .hbm, ⟨10, _⟩ => ⟨S16896x1024, .bf16⟩
  | .hbm, ⟨11, _⟩ => ⟨S16896x2048, .bf16⟩
  | .hbm, ⟨12, _⟩ => ⟨S16896x2048, .f32⟩
  | .hbm, ⟨13, _⟩ => ⟨S2048x2048, .f32⟩
  | .hbm, ⟨14, _⟩ => ⟨S16896x2048, .f32⟩
  | .hbm, ⟨15, _⟩ => ⟨S_, .f32⟩
  | .hbm, ⟨16, _⟩ => ⟨S16896x2048, .f32⟩
  | .hbm, ⟨17, _⟩ => ⟨S16896x2048, .f32⟩
  | .hbm, ⟨18, _⟩ => ⟨S3x1x2048, .f32⟩
  | .hbm, ⟨19, _⟩ => ⟨S3x2048, .f32⟩
  | .hbm, ⟨20, _⟩ => ⟨S2x2048, .f32⟩
  | .hbm, ⟨21, _⟩ => ⟨S2x1x2048, .f32⟩
  | .hbm, ⟨22, _⟩ => ⟨S2x8192x2048, .f32⟩
  | .hbm, ⟨23, _⟩ => ⟨S16384x2048, .f32⟩
  | .hbm, ⟨24, _⟩ => ⟨S1x2048, .f32⟩
  | .hbm, ⟨25, _⟩ => ⟨S512x2048, .f32⟩
  | .hbm, ⟨26, _⟩ => ⟨S16896x2048, .f32⟩
  | .hbm, ⟨27, _⟩ => ⟨S16896x2048, .f32⟩
  | .hbm, ⟨28, _⟩ => ⟨S16896x2048, .f32⟩
  | .hbm, ⟨29, _⟩ => ⟨S_, .f32⟩
  | .hbm, ⟨30, _⟩ => ⟨S16896, .f32⟩
  | .hbm, ⟨31, _⟩ => ⟨S16896x1, .f32⟩
  | .hbm, ⟨32, _⟩ => ⟨S_, .f32⟩
  | .hbm, ⟨33, _⟩ => ⟨S16896x1, .f32⟩
  | .hbm, ⟨34, _⟩ => ⟨S16896x1, .f32⟩
  | .hbm, ⟨35, _⟩ => ⟨S16896x2048, .f32⟩
  | .hbm, ⟨36, _⟩ => ⟨S16896x2048, .f32⟩
  | .hbm, ⟨37, _⟩ => ⟨S16896x2048, .f32⟩
  | .hbm, ⟨38, _⟩ => ⟨S_, .f32⟩
  | .hbm, ⟨39, _⟩ => ⟨S16896, .f32⟩
  | .hbm, ⟨40, _⟩ => ⟨S16896x1, .f32⟩
  | .hbm, ⟨41, _⟩ => ⟨S_, .f32⟩
  | .hbm, ⟨42, _⟩ => ⟨S16896x1, .f32⟩
  | .hbm, ⟨43, _⟩ => ⟨S16896x1, .f32⟩
  | .hbm, ⟨44, _⟩ => ⟨S16896x2048, .f32⟩
  | .hbm, ⟨45, _⟩ => ⟨S16896x2048, .f32⟩
  | .hbm, ⟨46, _⟩ => ⟨S_, .f32⟩
  | .hbm, ⟨47, _⟩ => ⟨S16896x1, .f32⟩
  | .hbm, ⟨48, _⟩ => ⟨S16896x1, .f32⟩
  | .hbm, ⟨49, _⟩ => ⟨S16896x1, .f32⟩
  | .hbm, ⟨50, _⟩ => ⟨S16896x2048, .f32⟩
  | .hbm, ⟨51, _⟩ => ⟨S16896x2048, .f32⟩
  | .hbm, ⟨52, _⟩ => ⟨S16896x2048, .f32⟩
  | .hbm, ⟨53, _⟩ => ⟨S16896x2048, .f32⟩
  | .hbm, ⟨54, _⟩ => ⟨S16896x2048, .f32⟩
  | .hbm, ⟨55, _⟩ => ⟨S16896x2048, .f32⟩
  | .hbm, ⟨56, _⟩ => ⟨S3x1x2048, .f32⟩
  | .hbm, ⟨57, _⟩ => ⟨S3x2048, .f32⟩
  | .hbm, ⟨58, _⟩ => ⟨S2x2048, .f32⟩
  | .hbm, ⟨59, _⟩ => ⟨S2x1x2048, .f32⟩
  | .hbm, ⟨60, _⟩ => ⟨S2x8192x2048, .f32⟩
  | .hbm, ⟨61, _⟩ => ⟨S16384x2048, .f32⟩
  | .hbm, ⟨62, _⟩ => ⟨S1x2048, .f32⟩
  | .hbm, ⟨63, _⟩ => ⟨S512x2048, .f32⟩
  | .hbm, ⟨64, _⟩ => ⟨S16896x2048, .f32⟩
  | .hbm, ⟨65, _⟩ => ⟨S_, .f32⟩
  | .hbm, ⟨66, _⟩ => ⟨S16896x2048, .f32⟩
  | .hbm, ⟨67, _⟩ => ⟨S16896x2048, .f32⟩
  | .hbm, ⟨68, _⟩ => ⟨S16896x2048, .f32⟩
  | .hbm, ⟨69, _⟩ => ⟨S3x1x2048, .f32⟩
  | .hbm, ⟨70, _⟩ => ⟨S3x2048, .f32⟩
  | .hbm, ⟨71, _⟩ => ⟨S2x2048, .f32⟩
  | .hbm, ⟨72, _⟩ => ⟨S2x1x2048, .f32⟩
  | .hbm, ⟨73, _⟩ => ⟨S2x8192x2048, .f32⟩
  | .hbm, ⟨74, _⟩ => ⟨S16384x2048, .f32⟩
  | .hbm, ⟨75, _⟩ => ⟨S1x2048, .f32⟩
  | .hbm, ⟨76, _⟩ => ⟨S512x2048, .f32⟩
  | .hbm, ⟨77, _⟩ => ⟨S16896x2048, .f32⟩
  | .hbm, ⟨78, _⟩ => ⟨S16896x2048, .f32⟩
  | .hbm, ⟨79, _⟩ => ⟨S33792x1024, .f32⟩
  | .hbm, ⟨80, _⟩ => ⟨S33792x1024, .bf16⟩
  | .hbm, ⟨81, _⟩ => ⟨S64x16896, .f32⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Kernel5.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1536 : Shape := ⟨3, ![1, 2048, 1536]⟩
abbrev S1x1x1536 : Shape := ⟨3, ![1, 1, 1536]⟩
abbrev S1x8x1536 : Shape := ⟨3, ![1, 8, 1536]⟩
abbrev S2048x1536 : Shape := ⟨2, ![2048, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2x12288x8, .f32⟩
  | .hbm, ⟨13, _⟩ => ⟨S2x8x12288, .f32⟩
  | .hbm, ⟨14, _⟩ => ⟨S2x1x12288, .f32⟩
  | .hbm, ⟨15, _⟩ => ⟨S2x8x12288, .f32⟩
  | .hbm, ⟨16, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S16896x2048 : Shape := ⟨2, ![16896, 2048]⟩
abbrev S1024x16896 : Shape := ⟨2, ![1024, 16896]⟩
abbrev S512x1024 : Shape := ⟨2, ![512, 1024]⟩
abbrev S256x256 : Shape := ⟨2, ![256, 256]⟩
abbrev S128x256 : Shape := ⟨2, ![128, 256]⟩
abbrev S256x128 : Shape := ⟨2, ![256, 128]⟩
abbrev S1x256 : Shape := ⟨2, ![1, 256]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S1024x16896, .bf16⟩
  | .hbm, ⟨3, _⟩ => ⟨S512x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S256x128, .bf16⟩
  | .local _ .vmem, ⟨7, _⟩ => ⟨S256x128, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c64_i32 : BitVec 32 := 64#32
  let v1 : BitVec 32 := Scalar.addi c64_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference6Ideal.lean ====
abbrev S16896x2048 : Shape := ⟨2, ![16896, 2048]⟩
abbrev S1024x16896 : Shape := ⟨2, ![1024, 16896]⟩
abbrev S512x2048 : Shape := ⟨2, ![512, 2048]⟩
abbrev S2x256x8x256 : Shape := ⟨4, ![2, 256, 8, 256]⟩
abbrev S2x8448x8x256 : Shape := ⟨4, ![2, 8448, 8, 256]⟩
abbrev S16896x1024 : Shape := ⟨2, ![16896, 1024]⟩
abbrev S2x8448x8x128 : Shape := ⟨4, ![2, 8448, 8, 128]⟩
abbrev S2x256x8x128 : Shape := ⟨4, ![2, 256, 8, 128]⟩
abbrev S2x8x256x256 : Shape := ⟨4, ![2, 8, 256, 256]⟩
abbrev S_ : Shape := ⟨0, ![]⟩
abbrev S2x8x256 : Shape := ⟨3, ![2, 8, 256]⟩
abbrev S2x8x256x1 : Shape := ⟨4, ![2, 8, 256, 1]⟩
abbrev S2x8x128x256 : Shape := ⟨4, ![2, 8, 128, 256]⟩
abbrev S512x1024 : Shape := ⟨2, ![512, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S1024x16896, .bf16⟩
  | .hbm, ⟨3, _⟩ => ⟨S512x2048, .bf16⟩
  | .hbm, ⟨4, _⟩ => ⟨S512x2048, .f32⟩
  | .hbm, ⟨5, _⟩ => ⟨S2x256x8x256, .f32⟩
  | .hbm, ⟨6, _⟩ => ⟨S16896x2048, .f32⟩
  | .hbm, ⟨7, _⟩ => ⟨S2x8448x8x256, .f32⟩
  | .hbm, ⟨8, _⟩ => ⟨S2x256x8x256, .f32⟩
  | .hbm, ⟨9, _⟩ => ⟨S1024x16896, .f32⟩
  | .hbm, ⟨10, _⟩ => ⟨S16896x1024, .f32⟩
  | .hbm, ⟨11, _⟩ => ⟨S2x8448x8x128, .f32⟩
  | .hbm, ⟨12, _⟩ => ⟨S2x256x8x128, .f32⟩
  | .hbm, ⟨13, _⟩ => ⟨S2x8x256x256, .f32⟩
  | .hbm, ⟨14, _⟩ => ⟨S_, .f32⟩
  | .hbm, ⟨15, _⟩ => ⟨S_, .f32⟩
  | .hbm, ⟨16, _⟩ => ⟨S2x8x256x256, .f32⟩
  | .hbm, ⟨17, _⟩ => ⟨S2x8x256x256, .f32⟩
  | .hbm, ⟨18, _⟩ => ⟨S_, .f32⟩
  | .hbm, ⟨19, _⟩ => ⟨S2x8x256, .f32⟩
  | .hbm, ⟨20, _⟩ => ⟨S_, .f32⟩
  | .hbm, ⟨21, _⟩ => ⟨S2x8x256, .f32⟩
  | .hbm, ⟨22, _⟩ => ⟨S2x8x256, .f32⟩
  | .hbm, ⟨23, _⟩ => ⟨S2x8x256x1, .f32⟩
  | .hbm, ⟨24, _⟩ => ⟨S2x8x256x256, .f32⟩
  | .hbm, ⟨25, _⟩ => ⟨S2x8x256x256, .f32⟩
  | .hbm, ⟨26, _⟩ => ⟨S2x8x256x256, .f32⟩
  | .hbm, ⟨27, _⟩ => ⟨S_, .f32⟩
  | .hbm, ⟨28, _⟩ => ⟨S2x8x256, .f32⟩
  | .hbm, ⟨29, _⟩ => ⟨S2x8x256x1, .f32⟩
  | .hbm, ⟨30, _⟩ => ⟨S2x8x256x256, .f32⟩
  | .hbm, ⟨31, _⟩ => ⟨S2x8x256x256, .f32⟩
  | .hbm, ⟨32, _⟩ => ⟨S2x8x128x256, .f32⟩
  | .hbm, ⟨33, _⟩ => ⟨S2x256x8x128, .f32⟩
  | .hbm, ⟨34, _⟩ => ⟨S512x1024, .f32⟩
  | .hbm, ⟨35, _⟩ => ⟨S512x1024, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Online.lean ====
/-
  THE MATHEMATICS OF THE BLOCKED SOFTMAX, for one query and one value column, over the extended reals: scores `s κ` are
  real, values `v κ` are any extended reals. Keys arrive in tiles; a running maximum `m`, a running sum `l` of powers of
  two and a running weighted sum `a` of the values are kept (`Running`); a tile rescales both sums by `2^(m - m')` and
  adds its own terms (`Running.step`). The quotient `a / l` is the average of the values with the weights
  `2^(s κ) / ∑ 2^(s κ')` (`Running.quotient`), and these weights are the softmax of `s κ · ln 2` (`softmax_weight`).
-/
module

public import Idealize.ShloMosaic.PureOps.Ideal
public import Idealize.ShloMosaic.PureOps.Ideal.Laws

@[expose] public section

noncomputable section

open Idealize.ShloMosaic

namespace Cert.Online

/-- A nonnegative real factor goes into a finite sum of extended reals. -/
theorem coe_mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert i S hi ih =>
    rw [Finset.sum_insert hi, Finset.sum_insert hi, ← ih]
    exact EReal.left_distrib_of_nonneg_of_ne_top (EReal.coe_nonneg.2 hc) (EReal.coe_ne_top c) _ _

/-- … and the same with the factor on the right. -/
theorem sum_mul_coe {ι : Type*} (c : ℝ) (hc : 0 ≤ c) (S : Finset ι) (f : ι → EReal) :
    (∑ i ∈ S, f i) * (c : EReal) = ∑ i ∈ S, f i * (c : EReal) := by
  rw [mul_comm, coe_mul_sum c hc]
  exact Finset.sum_congr rfl fun i _ => mul_comm _ _

/-- A finite sum of reals read in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The maximum of an extended real below `⊤` and finitely many reals, when one of them is there, is a real. -/
theorem fold_max_coe {T : ℕ} (hT : 0 < T) (b : EReal) (hb : b ≠ ⊤) (f : Fin T → EReal) (hf : ∀ j, ∃ x : ℝ, f j = x) :
    ∃ μ : ℝ, Finset.univ.fold max b f = μ := by
  have h1 : f ⟨0, hT⟩ ≤ Finset.univ.fold max b f := (Finset.le_fold_max _).2 (Or.inr ⟨_, Finset.mem_univ _, le_rfl⟩)
  have h2 : Finset.univ.fold max b f < ⊤ :=
    (Finset.fold_max_lt _).2 ⟨lt_top_iff_ne_top.2 hb, fun j _ => by
      obtain ⟨x, hx⟩ := hf j
      rw [hx]; exact EReal.coe_lt_top x⟩
  obtain ⟨x, hx⟩ := hf ⟨0, hT⟩
  have h3 : Finset.univ.fold max b f ≠ ⊥ := fun h => by
    rw [h, hx] at h1
    exact absurd h1 (not_le.2 (EReal.bot_lt_coe x))
  exact ⟨_, (EReal.coe_toReal h2.ne h3).symm⟩

/-- What the three running values hold after the first `n` keys: nothing yet, or for SOME real `μ` (the running maximum)
    the sum of `2^(s κ - μ)` and the sum of `v κ · 2^(s κ - μ)`. -/
def Running (s : ℕ → ℝ) (v : ℕ → EReal) (n : ℕ) (m l a : EReal) : Prop :=
  (n = 0 ∧ m = ⊥ ∧ l = 0 ∧ a = 0) ∨
    ∃ μ : ℝ, m = μ ∧ l = ((∑ κ ∈ Finset.range n, (2 : ℝ) ^ (s κ - μ) : ℝ) : EReal)
      ∧ a = ∑ κ ∈ Finset.range n, v κ * (((2 : ℝ) ^ (s κ - μ) : ℝ) : EReal)

theorem Running.start (s : ℕ → ℝ) (v : ℕ → EReal) : Running s v 0 ⊥ 0 0 := Or.inl ⟨rfl, rfl, rfl, rfl⟩

/-- The power of two at a real, as the real power. -/
theorem exp2_real (x : ℝ) : Ideal.exp2 (x : EReal) = (((2 : ℝ) ^ x : ℝ) : EReal) := rfl

/-- ONE TILE of `T` keys: the maximum moves to the tile's, both sums are rescaled and the tile's terms added. -/
theorem Running.step {s : ℕ → ℝ} {v : ℕ → EReal} {n : ℕ} {m l a : EReal} (h : Running s v n m l a) (T : ℕ) (hT : 0 < T)
    (st vt : Fin T → EReal) (hst : ∀ j : Fin T, st j = (s (n + j) : EReal)) (hvt : ∀ j : Fin T, vt j = v (n + j))
    (m' : EReal) (hm' : m' = max m (Finset.univ.fold max ⊥ st)) :
    Running s v (n + T) m' (Ideal.exp2 (m - m') * l + ∑ j, Ideal.exp2 (st j - m'))
      (Ideal.exp2 (m - m') * a + ∑ j, vt j * Ideal.exp2 (st j - m')) := by
  obtain ⟨τ, hτ⟩ := fold_max_coe hT ⊥ bot_ne_top st fun j => ⟨_, hst j⟩
  obtain ⟨μ', hμ'⟩ : ∃ μ' : ℝ, m' = μ' := by
    rcases h with ⟨-, hm, -, -⟩ | ⟨μ, hm, -, -⟩
    · exact ⟨τ, by rw [hm', hτ, hm, max_eq_right bot_le]⟩
    · exact ⟨max μ τ, by rw [hm', hτ, hm]; exact (EReal.coe_strictMono.monotone.map_max (a := μ) (b := τ)).symm⟩
  have hp : ∀ j : Fin T, Ideal.exp2 (st j - m') = (((2 : ℝ) ^ (s (n + j) - μ') : ℝ) : EReal) := fun j => by
    rw [hst, hμ', ← EReal.coe_sub, exp2_real]
  have hl : ∑ j : Fin T, Ideal.exp2 (st j - m') = ((∑ j ∈ Finset.range T, (2 : ℝ) ^ (s (n + j) - μ') : ℝ) : EReal) := by
    rw [coe_sum, Finset.sum_range]
    exact Finset.sum_congr rfl fun j _ => hp j
  have ha : ∑ j : Fin T, vt j * Ideal.exp2 (st j - m')
      = ∑ j ∈ Finset.range T, v (n + j) * (((2 : ℝ) ^ (s (n + j) - μ') : ℝ) : EReal) := by
    rw [Finset.sum_range]
    exact Finset.sum_congr rfl fun j _ => by rw [hp, hvt]
  refine Or.inr ⟨μ', hμ', ?_, ?_⟩
  · rw [hl, Finset.sum_range_add, EReal.coe_add]
    congr 1
    rcases h with ⟨h0, hm, hl0, -⟩ | ⟨μ, hm, hl0, -⟩
    · subst h0; rw [hl0]; simp
    · rw [hl0, hm, hμ', ← EReal.coe_sub, exp2_real, ← EReal.coe_mul, Finset.mul_sum]
      congr 1
      refine Finset.sum_congr rfl fun κ _ => ?_
      rw [← Real.rpow_add two_pos]; congr 1; ring
  · rw [ha, Finset.sum_range_add]
    congr 1
    rcases h with ⟨h0, hm, -, ha0⟩ | ⟨μ, hm, -, ha0⟩
    · subst h0; rw [ha0]; simp
    · rw [ha0, hm, hμ', ← EReal.coe_sub, exp2_real, coe_mul_sum _ (Real.rpow_nonneg two_pos.le _)]
      refine Finset.sum_congr rfl fun κ _ => ?_
      rw [mul_left_comm, ← EReal.coe_mul, ← Real.rpow_add two_pos]
      congr 3; ring

/-- The weight of key `κ` among the first `n`: its power of two over the sum of all of them. -/
def weight (s : ℕ → ℝ) (n κ : ℕ) : ℝ := (2 : ℝ) ^ s κ / ∑ κ' ∈ Finset.range n, (2 : ℝ) ^ s κ'

/-- THE QUOTIENT of the two running sums is the weighted average of the values. -/
theorem Running.quotient {s : ℕ → ℝ} {v : ℕ → EReal} {n : ℕ} {m l a : EReal} (h : Running s v n m l a) (hn : 0 < n) :
    Ideal.div a l = ∑ κ ∈ Finset.range n, v κ * (weight s n κ : EReal) := by
  rcases h with ⟨h0, -⟩ | ⟨μ, -, hl, ha⟩
  · omega
  have hpos : 0 < ∑ κ ∈ Finset.range n, (2 : ℝ) ^ (s κ - μ) :=
    Finset.sum_pos (fun κ _ => Real.rpow_pos_of_pos two_pos _) ⟨0, Finset.mem_range.2 hn⟩
  rw [hl, Ideal.div_coe hpos.ne', ha, sum_mul_coe _ (one_div_nonneg.2 hpos.le)]
  refine Finset.sum_congr rfl fun κ _ => ?_
  rw [mul_assoc, ← EReal.coe_mul]
  congr 2
  have hsum : ∑ κ ∈ Finset.range n, (2 : ℝ) ^ (s κ - μ) = (∑ κ ∈ Finset.range n, (2 : ℝ) ^ s κ) * (2 : ℝ) ^ (-μ) := by
    rw [Finset.sum_mul]
    exact Finset.sum_congr rfl fun κ _ => by rw [← Real.rpow_add two_pos, sub_eq_add_neg]
  rw [weight, hsum, sub_eq_add_neg, Real.rpow_add two_pos, mul_one_div, mul_div_mul_right _ _ (Real.rpow_pos_of_pos two_pos _).ne']

/-- THE SOFTMAX of the scores times `ln 2`, shifted by any real `μ`: its weight of key `κ` is the same. -/
theorem softmax_weight (s : ℕ → ℝ) (n : ℕ) (hn : 0 < n) (μ : ℝ) (κ : ℕ) :
    Ideal.div (Ideal.exp ((s κ : EReal) * ((Real.log 2 : ℝ) : EReal) - (μ : EReal)))
        (∑ j : Fin n, Ideal.exp ((s j : EReal) * ((Real.log 2 : ℝ) : EReal) - (μ : EReal)))
      = (weight s n κ : EReal) := by
  have he : ∀ κ : ℕ, Ideal.exp ((s κ : EReal) * ((Real.log 2 : ℝ) : EReal) - (μ : EReal))
      = (((2 : ℝ) ^ s κ * Real.exp (-μ) : ℝ) : EReal) := fun κ => by
    rw [← EReal.coe_mul, ← EReal.coe_sub, Ideal.exp_coe, sub_eq_add_neg, Real.exp_add, Real.rpow_def_of_pos two_pos,
      mul_comm (Real.log 2)]
  have hpos : 0 < ∑ κ ∈ Finset.range n, (2 : ℝ) ^ s κ :=
    Finset.sum_pos (fun κ _ => Real.rpow_pos_of_pos two_pos _) ⟨0, Finset.mem_range.2 hn⟩
  have hs : ∑ j : Fin n, Ideal.exp ((s j : EReal) * ((Real.log 2 : ℝ) : EReal) - (μ : EReal))
      = (((∑ κ ∈ Finset.range n, (2 : ℝ) ^ s κ) * Real.exp (-μ) : ℝ) : EReal) := by
    rw [Finset.sum_mul, coe_sum, Finset.sum_range]
    exact Finset.sum_congr rfl fun j _ => he j
  rw [hs, he, Ideal.div_coe (mul_pos hpos (Real.exp_pos _)).ne', ← EReal.coe_mul, mul_one_div,
    mul_div_mul_right _ _ (Real.exp_pos _).ne']
  rfl

end Cert.Online

end
-- ==== Proof.Tile.lean ====
module

public import proofs.«01_k».proof.Proof.Gen.KernelIdeal.Skeleton
public import proofs.«01_k».proof.Proof.Online
public import Idealize.ShloMosaic.Lib.Pointwise
public import Idealize.ShloMosaic.Lib.Tactic

@[expose] public section

noncomputable section

open Idealize.ShloMosaic Idealize.ShloMosaic.TcCoe Idealize.SL.Sem

namespace Cert.KernelIdeal.Tile
open Cert.KernelIdeal Cert.KernelIdeal.Gen Cert.Online

variable {F : FTy → Type} [FloatOps F]

/-- A tile's scores: keys by queries. -/
def scores (q : Vec F S1024x256 .bf16) (kt : Vec F S768x256 .bf16) : FVec F S768x1024 .f32 :=
  matmul dot_S768x256_S1024x256_S768x1024_1_1_0_0_n_n none kt q (constant S768x1024 .f32 0x00000000#32)

/-- The running maximum after a tile. -/
def nextM (q : Vec F S1024x256 .bf16) (kt : Vec F S768x256 .bf16) (m : FVec F S1x1024 .f32) : FVec F S1x1024 .f32 :=
  maximumf m (shapeCast S1x1024 (multiReduction .maximumf [0] S1024 (scores q kt) 0xFF800000#32 reduces_S768x1024_S1024 (.inl rfl) rfl) shapeCasts_S1024_S1x1024)

/-- The factor the two running sums are rescaled by. -/
def rescale (q : Vec F S1024x256 .bf16) (kt : Vec F S768x256 .bf16) (m : FVec F S1x1024 .f32) : FVec F S1x1024 .f32 :=
  exp2 (subf m (nextM q kt m))

/-- The tile's powers of two. -/
def powers (q : Vec F S1024x256 .bf16) (kt : Vec F S768x256 .bf16) (m : FVec F S1x1024 .f32) : FVec F S768x1024 .f32 :=
  exp2 (subf (scores q kt) (broadcastTo S768x1024 (nextM q kt m) broadcasts_S1x1024_S768x1024))

/-- The running sum of the powers after a tile. -/
def nextL (q : Vec F S1024x256 .bf16) (kt : Vec F S768x256 .bf16) (m l : FVec F S1x1024 .f32) : FVec F S1x1024 .f32 :=
  addf (mulf (rescale q kt m) l)
    (shapeCast S1x1024 (multiReduction .add [0] S1024 (powers q kt m) 0x00000000#32 reduces_S768x1024_S1024 (.inl rfl) rfl) shapeCasts_S1024_S1x1024)

/-- The running weighted sum of the values after a tile. -/
def nextA (q : Vec F S1024x256 .bf16) (kt : Vec F S768x256 .bf16) (vt : Vec F S128x768 .bf16) (m : FVec F S1x1024 .f32)
    (a : FVec F S128x1024 .f32) : FVec F S128x1024 .f32 :=
  addf (mulf (broadcastTo S128x1024 (rescale q kt m) broadcasts_S1x1024_S128x1024) a)
    (matmul dot_S128x768_S768x1024_S128x1024_1_0_0_1_n_n none vt (truncf .bf16 (powers q kt m) bitsLt_bf16_f32)
      (constant S128x1024 .f32 0x00000000#32))

/-- The block stored: the quotient, a row per query. -/
def quotient (l : FVec F S1x1024 .f32) (a : FVec F S128x1024 .f32) : FVec F S1024x128 .bf16 :=
  truncf .bf16 (transpose S1024x128 [1, 0] (divf a (broadcastTo S128x1024 l broadcasts_S1x1024_S128x1024)) transposes_S128x1024_p1_0_S1024x128) bitsLt_bf16_f32

def m0 : FVec F S1x1024 .f32 := broadcast S1x1024 (Scalar.ofBits .f32 0xFF800000#32)
def l0 : FVec F S1x1024 .f32 := broadcast S1x1024 (Scalar.ofBits .f32 0x00000000#32)
def a0 : FVec F S128x1024 .f32 := broadcast S128x1024 (Scalar.ofBits .f32 0x00000000#32)

theorem scores_apply (q : Vec Ideal S1024x256 .bf16) (kt : Vec Ideal S768x256 .bf16) (j : Fin 768) (r : Fin 1024) :
    scores q kt (ix2 j r) = ∑ d : Fin 256, kt (ix2 j d) * q (ix2 r d) := by
  pointwise [scores]

theorem ninf : Ideal.ofBits .f32 0xFF800000#32 = ⊥ := by simp [Ideal.ofBits, Ideal.ieee]

theorem nextM_apply (q : Vec Ideal S1024x256 .bf16) (kt : Vec Ideal S768x256 .bf16) (m : FVec Ideal S1x1024 .f32) (u : Fin 1) (r : Fin 1024) :
    nextM q kt m (ix2 u r) = max (m (ix2 u r)) (Finset.univ.fold max ⊥ fun j : Fin 768 => scores q kt (ix2 j r)) := by
  pointwise [nextM]
  simp [ninf]

theorem rescale_apply (q : Vec Ideal S1024x256 .bf16) (kt : Vec Ideal S768x256 .bf16) (m : FVec Ideal S1x1024 .f32) (u : Fin 1) (r : Fin 1024) :
    rescale q kt m (ix2 u r) = Ideal.exp2 (m (ix2 u r) - nextM q kt m (ix2 u r)) := by
  pointwise [rescale]
  rfl

theorem powers_apply (q : Vec Ideal S1024x256 .bf16) (kt : Vec Ideal S768x256 .bf16) (m : FVec Ideal S1x1024 .f32) (j : Fin 768) (r : Fin 1024) :
    powers q kt m (ix2 j r) = Ideal.exp2 (scores q kt (ix2 j r) - nextM q kt m (ix2 0 r)) := by
  pointwise [powers]
  rfl

theorem nextL_apply (q : Vec Ideal S1024x256 .bf16) (kt : Vec Ideal S768x256 .bf16) (m l : FVec Ideal S1x1024 .f32) (r : Fin 1024) :
    nextL q kt m l (ix2 0 r) = Ideal.exp2 (m (ix2 0 r) - nextM q kt m (ix2 0 r)) * l (ix2 0 r)
      + ∑ j : Fin 768, Ideal.exp2 (scores q kt (ix2 j r) - nextM q kt m (ix2 0 r)) := by
  pointwise [nextL]
  simp [rescale_apply, powers_apply]

theorem nextA_apply (q : Vec Ideal S1024x256 .bf16) (kt : Vec Ideal S768x256 .bf16) (vt : Vec Ideal S128x768 .bf16) (m : FVec Ideal S1x1024 .f32) (a : FVec Ideal S128x1024 .f32) (d : Fin 128) (r : Fin 1024) :
    nextA q kt vt m a (ix2 d r) = Ideal.exp2 (m (ix2 0 r) - nextM q kt m (ix2 0 r)) * a (ix2 d r)
      + ∑ j : Fin 768, vt (ix2 d j) * Ideal.exp2 (scores q kt (ix2 j r) - nextM q kt m (ix2 0 r)) := by
  pointwise [nextA]
  simp [rescale_apply, powers_apply]

theorem quotient_apply (l : FVec Ideal S1x1024 .f32) (a : FVec Ideal S128x1024 .f32) (r : Fin 1024) (d : Fin 128) :
    quotient l a (ix2 r d) = Ideal.div (a (ix2 d r)) (l (ix2 0 r)) := by
  pointwise [quotient]

/-! ## The tiles one after another -/

/-- The running maximum after the first `n` tiles. -/
def runM (q : Vec F S1024x256 .bf16) (K : ℕ → Vec F S768x256 .bf16) : ℕ → FVec F S1x1024 .f32
  | 0 => m0
  | n + 1 => nextM q (K n) (runM q K n)

/-- The running sum of powers after the first `n` tiles. -/
def runL (q : Vec F S1024x256 .bf16) (K : ℕ → Vec F S768x256 .bf16) : ℕ → FVec F S1x1024 .f32
  | 0 => l0
  | n + 1 => nextL q (K n) (runM q K n) (runL q K n)

/-- The running weighted sum of values after the first `n` tiles. -/
def runA (q : Vec F S1024x256 .bf16) (K : ℕ → Vec F S768x256 .bf16) (V : ℕ → Vec F S128x768 .bf16) : ℕ → FVec F S128x1024 .f32
  | 0 => a0
  | n + 1 => nextA q (K n) (V n) (runM q K n) (runA q K V n)

/-- After `n` tiles the three values are, at every query `r` and value column `d`, the running values of the first
    `768 n` keys, when the tiles' scores are the reals `s r κ` and the tiles' values are `v d κ`. -/
theorem running (q : Vec Ideal S1024x256 .bf16) (K : ℕ → Vec Ideal S768x256 .bf16) (V : ℕ → Vec Ideal S128x768 .bf16)
    (r : Fin 1024) (d : Fin 128) (s : ℕ → ℝ) (v : ℕ → EReal) (N : ℕ)
    (hs : ∀ n < N, ∀ j : Fin 768, ∑ e : Fin 256, K n (ix2 j e) * q (ix2 r e) = (s (768 * n + j) : EReal))
    (hv : ∀ n < N, ∀ j : Fin 768, V n (ix2 d j) = v (768 * n + j)) :
    ∀ n ≤ N, Running s v (768 * n) (runM q K n (ix2 0 r)) (runL q K n (ix2 0 r)) (runA q K V n (ix2 d r))
  | 0, _ => by
    have h := Running.start s v
    have e1 : runM q K 0 (ix2 0 r) = ⊥ := ninf
    have e2 : runL q K 0 (ix2 0 r) = 0 := Ideal.ofBits_zero_f32
    have e3 : runA q K V 0 (ix2 d r) = 0 := Ideal.ofBits_zero_f32
    rw [e1, e2, e3]; exact h
  | n + 1, hn => by
    have h := (running q K V r d s v N hs hv n (by omega)).step 768 (by omega) (fun j => scores q (K n) (ix2 j r))
      (fun j => V n (ix2 d j)) (fun j => (scores_apply ..).trans (hs n (by omega) j)) (fun j => hv n (by omega) j)
      (runM q K (n + 1) (ix2 0 r)) (nextM_apply ..)
    have e2 := nextL_apply q (K n) (runM q K n) (runL q K n) r
    have e3 := nextA_apply q (K n) (V n) (runM q K n) (runA q K V n) d r
    show Running s v (768 * (n + 1)) _ (nextL q (K n) (runM q K n) (runL q K n) (ix2 0 r))
      (nextA q (K n) (V n) (runM q K n) (runA q K V n) (ix2 d r))
    rw [e2, e3, Nat.mul_succ]
    exact h

/-! ## The body's named values are these -/

section
variable (q : Vec F S1024x256 .bf16) (K : ℕ → Vec F S768x256 .bf16) (V : ℕ → Vec F S128x768 .bf16)

theorem max2 : k0_pay9 q (K 0) (K 1) = runM q K 2 := rfl
theorem max4 : k0_pay19 q (runM q K 2) (K 2) (K 3) = runM q K 4 := rfl
theorem max6 : k0_pay29 q (runM q K 4) (K 4) (K 5) = runM q K 6 := rfl
theorem max8 : k0_pay39 q (runM q K 6) (K 6) (K 7) = runM q K 8 := rfl
theorem max10 : k0_pay49 q (runM q K 8) (K 8) (K 9) = runM q K 10 := rfl
theorem sum4 : k0_pay22 q (runM q K 2) (k0_pay12 q (K 0) (K 1)) (k0_pay13 q (K 0) (K 1)) (K 2) (K 3) = runL q K 4 := rfl
theorem sum6 : k0_pay32 q (runM q K 4) (runL q K 4) (K 4) (K 5) = runL q K 6 := rfl
theorem sum8 : k0_pay42 q (runM q K 6) (runL q K 6) (K 6) (K 7) = runL q K 8 := rfl
theorem sum10 : k0_pay52 q (runM q K 8) (runL q K 8) (K 8) (K 9) = runL q K 10 := rfl
theorem acc1 : k0_pay7 q (K 0) (V 0) = runA q K V 1 := rfl
theorem acc6 : k0_pay33 q (V 3) (runM q K 4) (k0_pay21 q (runM q K 2) (K 2) (K 3))
    (k0_pay23 q (runA q K V 1) (V 1) (runM q K 2) (k0_pay10 q (K 0) (K 1)) (k0_pay11 q (K 0) (K 1)) (K 2) (V 2) (K 3))
    (K 4) (V 4) (K 5) (V 5) = runA q K V 6 := rfl
theorem acc8 : k0_pay43 q (runM q K 6) (runA q K V 6) (K 6) (V 6) (K 7) (V 7) = runA q K V 8 := rfl
theorem acc10 : k0_pay53 q (runM q K 8) (runA q K V 8) (K 8) (V 8) (K 9) (V 9) = runA q K V 10 := rfl
theorem stored : k0_pay1 (runM q K 10) (runL q K 10) (runA q K V 10) (V 10) (k0_pay54 q (K 10))
    = quotient (runL q K 11) (runA q K V 11) := rfl
end

end Cert.KernelIdeal.Tile
-- ==== Proof.Spec.lean ====
/-
  THE FUNCTION BOTH PROGRAMS COMPUTE. `attention q k vt` is, at row `R` and column `C` of the result, the average of the
  values of row `R`'s batch entry (8448 keys, 8192 rows) in column `C`, weighted by `2^score / ∑ 2^score`, where the
  score of a key is the product of the query and the key over the 256 columns of the head `C / 128`.
-/
module

public import proofs.«01_k».proof.Proof.Online
public import Idealize.ShloMosaic.Lib.Pointwise.Index

@[expose] public section

noncomputable section

open Idealize.ShloMosaic

namespace Cert.Attention

/-- A row of the queries and the keys, a column of them, and a row of the transposed values. -/
abbrev row (n : ℕ) : Fin 16896 := ⟨n % 16896, Nat.mod_lt _ (by omega)⟩
abbrev col (n : ℕ) : Fin 2048 := ⟨n % 2048, Nat.mod_lt _ (by omega)⟩
abbrev vcol (n : ℕ) : Fin 1024 := ⟨n % 1024, Nat.mod_lt _ (by omega)⟩

/-- The shapes of the queries and keys, of the transposed values and of the result. -/
abbrev SQ : Shape := ⟨2, ![16896, 2048]⟩
abbrev SV : Shape := ⟨2, ![1024, 16896]⟩
abbrev SO : Shape := ⟨2, ![16384, 1024]⟩

variable (q k : SQ.Idx → EReal) (vt : SV.Idx → EReal)

/-- The score of key `κ` for row `R` under head `h`. -/
def score (R h κ : ℕ) : ℝ :=
  ∑ e : Fin 256, (k (ix2 (row (R / 8192 * 8448 + κ)) (col (h * 256 + e)))).toReal * (q (ix2 (row R) (col (h * 256 + e)))).toReal

/-- The value of key `κ` in row `R`'s batch entry, column `C`. -/
def value (R C κ : ℕ) : EReal := vt (ix2 (vcol C) (row (R / 8192 * 8448 + κ)))

/-- Every entry of an array is a real. -/
def Finite (x : SQ.Idx → EReal) : Prop := ∀ i, ((x i).toReal : EReal) = x i

/-- Attention: the weighted average of the values. -/
def attention : SO.Idx → EReal := fun i =>
  ∑ κ ∈ Finset.range 8448, value vt (i 0) (i 1) κ * ((Online.weight (score q k (i 0) ((i 1 : ℕ) / 128)) 8448 κ : ℝ) : EReal)

/-- On finite queries and keys the score is the sum of the products as the programs form it. -/
theorem score_coe (hq : Finite q) (hk : Finite k) (R h κ : ℕ) :
    (score q k R h κ : EReal)
      = ∑ e : Fin 256, k (ix2 (row (R / 8192 * 8448 + κ)) (col (h * 256 + e))) * q (ix2 (row R) (col (h * 256 + e))) := by
  rw [score, Online.coe_sum]
  exact Finset.sum_congr rfl fun e _ => by rw [EReal.coe_mul, hq, hk]

end Cert.Attention

end
-- ==== Proof.Blocks.lean ====
/-
  THE ATTENTION KERNEL'S RESULT ARRAY, over the extended reals: it is `Cert.Attention.attention` of its arguments when the
  queries and the keys are finite.
-/
module

public import proofs.«01_k».proof.Proof.Tile
public import proofs.«01_k».proof.Proof.Spec
public import proofs.«01_k».proof.Proof.Gen.KernelIdeal.Value
public import Idealize.ShloMosaic.Lib.Pointwise
public import Idealize.ShloMosaic.Lib.Pipeline.ValueKit
public import Idealize.ShloMosaic.Lib.Tactic

@[expose] public section

noncomputable section

open Idealize.ShloMosaic Idealize.ShloMosaic.TcCoe Idealize.SL.Sem

namespace Cert.KernelIdeal.Blocks
open Cert.KernelIdeal Cert.KernelIdeal.Gen Cert.KernelIdeal.Tile Cert.Attention

variable {F : FTy → Type} [FloatOps F]

theorem hz : (![0, 0] : Fin 2 → Nat) = fun _ => 0 := funext fun a => by fin_cases a <;> rfl

/-- Tile `n` of a block of keys: its rows from `768 n` on. -/
def keys (k : Vec F S8448x256 .bf16) (n : ℕ) : Vec F S768x256 .bf16 :=
  fun x => k (ix2 ⟨(768 * n + (x 0).val) % 8448, Nat.mod_lt _ (by omega)⟩ (x 1))

/-- Tile `n` of a block of transposed values: its columns from `768 n` on. -/
def vals (v : Vec F S128x8448 .bf16) (n : ℕ) : Vec F S128x768 .bf16 :=
  fun x => v (ix2 (x 0) ⟨(768 * n + (x 1).val) % 8448, Nat.mod_lt _ (by omega)⟩)

theorem ld_keys (k : Vec F S8448x256 .bf16) (n o : ℕ) (ho : o = 768 * n) (hn : n < 11)
    (inb : ∀ a, (![o, 0] : Fin 2 → ℕ) a + (![768, 256] : Fin 2 → ℕ) a ≤ S8448x256.size a) :
    View.ld (S := S8448x256) k (Rect.unit ![o, 0] ![768, 256] inb) = keys k n := by
  subst ho
  funext x
  have h0 : (x 0 : ℕ) < 768 := (x 0).isLt
  refine congrArg k (Shape.idx_ext₂ ?_ ?_)
  · show 768 * n + 1 * (x 0 : ℕ) = (768 * n + (x 0 : ℕ)) % 8448
    omega
  · show 0 + 1 * (x 1 : ℕ) = (x 1 : ℕ)
    omega

theorem ld_vals (v : Vec F S128x8448 .bf16) (n o : ℕ) (ho : o = 768 * n) (hn : n < 11)
    (inb : ∀ a, (![0, o] : Fin 2 → ℕ) a + (![128, 768] : Fin 2 → ℕ) a ≤ S128x8448.size a) :
    View.ld (S := S128x8448) v (Rect.unit ![0, o] ![128, 768] inb) = vals v n := by
  subst ho
  funext x
  have h0 : (x 1 : ℕ) < 768 := (x 1).isLt
  refine congrArg v (Shape.idx_ext₂ ?_ ?_)
  · show 0 + 1 * (x 0 : ℕ) = (x 0 : ℕ)
    omega
  · show 768 * n + 1 * (x 1 : ℕ) = (768 * n + (x 1 : ℕ)) % 8448
    omega

/-- WHAT ONE RUN OF THE BODY STORES: the quotient of the running sums after the eleven tiles. -/
theorem out_eq (c : Dev nD) (i : grid0.Coords) (a1 : Memref sig .tc .vmem S1024x256 .bf16) (h1 : a1.IsWhole)
    (a2 : Memref sig .tc .vmem S8448x256 .bf16) (h2 : a2.IsWhole) (a3 : Memref sig .tc .vmem S128x8448 .bf16) (h3 : a3.IsWhole)
    (a4 : Memref sig .tc .vmem S1024x128 .bf16) (h4 : a4.IsWhole)
    (q : Vec F S1024x256 .bf16) (k : Vec F S8448x256 .bf16) (v : Vec F S128x8448 .bf16) :
    out0_A_3 c i a1 h1 a2 h2 a3 h3 a4 h4 q k v = quotient (runL q (keys k) 11) (runA q (keys k) (vals v) 11) := by
  unfold out0_A_3
  rw [View.read_writes_eq_canon _ _ _ (cover0_A_3 c i a1 h1 a2 h2 a3 h3 a4 h4 q k v)]
  unfold kernelRun0_A
  dsimp only
  sl_unfold_words
  rw [View.canon_unit_zero hz]
  simp only [View.readAt_eq_ld, h1.read_unread, h2.read_unread, h3.read_unread, View.ld_unit_zero (S := S1024x256) hz, shapeCast_self]
  simp only [ld_keys k 0 0 rfl (by omega), ld_keys k 1 768 rfl (by omega), ld_keys k 2 1536 rfl (by omega), ld_keys k 3 2304 rfl (by omega),
    ld_keys k 4 3072 rfl (by omega), ld_keys k 5 3840 rfl (by omega), ld_keys k 6 4608 rfl (by omega), ld_keys k 7 5376 rfl (by omega),
    ld_keys k 8 6144 rfl (by omega), ld_keys k 9 6912 rfl (by omega), ld_keys k 10 7680 rfl (by omega),
    ld_vals v 0 0 rfl (by omega), ld_vals v 1 768 rfl (by omega), ld_vals v 2 1536 rfl (by omega), ld_vals v 3 2304 rfl (by omega),
    ld_vals v 4 3072 rfl (by omega), ld_vals v 5 3840 rfl (by omega), ld_vals v 6 4608 rfl (by omega), ld_vals v 7 5376 rfl (by omega),
    ld_vals v 8 6144 rfl (by omega), ld_vals v 9 6912 rfl (by omega), ld_vals v 10 7680 rfl (by omega)]
  simp only [max2 q (keys k), max4 q (keys k), max6 q (keys k), max8 q (keys k), max10 q (keys k), sum4 q (keys k), sum6 q (keys k),
    sum8 q (keys k), sum10 q (keys k), acc1 q (keys k) (vals v), acc6 q (keys k) (vals v), acc8 q (keys k) (vals v),
    acc10 q (keys k) (vals v), stored q (keys k) (vals v)]

/-- … so at query `r` and value column `d`, when the block's scores for that query are the reals `s`: the average of the
    block's values in that column under the weights of `s`. -/
theorem out_apply (q : Vec Ideal S1024x256 .bf16) (k : Vec Ideal S8448x256 .bf16) (v : Vec Ideal S128x8448 .bf16)
    (r : Fin 1024) (d : Fin 128) (s : ℕ → ℝ) (w : ℕ → EReal)
    (hs : ∀ κ : Fin 8448, ∑ e : Fin 256, k (ix2 κ e) * q (ix2 r e) = (s κ : EReal))
    (hw : ∀ κ : Fin 8448, v (ix2 d κ) = w κ) :
    quotient (runL q (keys k) 11) (runA q (keys k) (vals v) 11) (ix2 r d)
      = ∑ κ ∈ Finset.range 8448, w κ * ((Online.weight s 8448 κ : ℝ) : EReal) := by
  rw [quotient_apply]
  refine (running q (keys k) (vals v) r d s w 11 (fun n hn j => ?_) (fun n hn j => ?_) 11 le_rfl).quotient (by omega)
  · have hj := j.isLt
    have e : (768 * n + j.val) % 8448 = 768 * n + j.val := Nat.mod_eq_of_lt (by omega)
    refine (hs ⟨(768 * n + j.val) % 8448, Nat.mod_lt _ (by omega)⟩).trans ?_
    show ((s ((768 * n + j.val) % 8448) : ℝ) : EReal) = _
    rw [e]
  · have hj := j.isLt
    have e : (768 * n + j.val) % 8448 = 768 * n + j.val := Nat.mod_eq_of_lt (by omega)
    refine (hw ⟨(768 * n + j.val) % 8448, Nat.mod_lt _ (by omega)⟩).trans ?_
    show w ((768 * n + j.val) % 8448) = _
    rw [e]

/-! ## The blocks in the arrays: grid point `t` is batch entry `t / 64`, head `t / 8 % 8`, row block `t % 8` -/

variable (m : (ℓ : Loc nD τ sig) → Buf (Elt F) ℓ)

theorem idx : ∀ t : Fin cfg0.N, win0_0.index t = ![t.val / 64 * 8 + t.val % 8, t.val / 8 % 8]
    ∧ win0_1.index t = ![t.val / 64, t.val / 8 % 8] ∧ win0_2.index t = ![t.val / 8 % 8, t.val / 64]
    ∧ win0_3.index t = ![t.val / 64 * 8 + t.val % 8, t.val / 8 % 8] := by
  decide +kernel

theorem idx0 (t : Fin cfg0.N) : win0_0.index t = ![t.val / 64 * 8 + t.val % 8, t.val / 8 % 8] := (idx t).1
theorem idx1 (t : Fin cfg0.N) : win0_1.index t = ![t.val / 64, t.val / 8 % 8] := (idx t).2.1
theorem idx2 (t : Fin cfg0.N) : win0_2.index t = ![t.val / 8 % 8, t.val / 64] := (idx t).2.2.1
theorem idx3 (t : Fin cfg0.N) : win0_3.index t = ![t.val / 64 * 8 + t.val % 8, t.val / 8 % 8] := (idx t).2.2.2

theorem q_apply (c : Dev nD) (t : Fin cfg0.N) (r : Fin 1024) (e : Fin 256) :
    X0_0 m c t (ix2 r e) = m ((c : Thread nD τ).loc main_arg0)
      (ix2 (row ((t.val / 64 * 8 + t.val % 8) * 1024 + r)) (col (t.val / 8 % 8 * 256 + e))) := by
  have ht : t.val < 128 := t.isLt
  unfold X0_0 Pipeline.Window.fill
  rw [dif_pos (moved0_0 t _)]
  blk_ext [iblk, V, idx0 t]

theorem k_apply (c : Dev nD) (t : Fin cfg0.N) (κ : Fin 8448) (e : Fin 256) :
    iblk m c 1 t (ix2 κ e) = m ((c : Thread nD τ).loc main_arg1) (ix2 (row (t.val / 64 * 8448 + κ)) (col (t.val / 8 % 8 * 256 + e))) := by
  have ht : t.val < 128 := t.isLt
  blk_ext [iblk, V, idx1 t]

theorem v_apply (c : Dev nD) (t : Fin cfg0.N) (d : Fin 128) (κ : Fin 8448) :
    iblk m c 2 t (ix2 d κ) = m ((c : Thread nD τ).loc main_arg2) (ix2 (vcol (t.val / 8 % 8 * 128 + d)) (row (t.val / 64 * 8448 + κ))) := by
  have ht : t.val < 128 := t.isLt
  blk_ext [iblk, V, idx2 t]

/-- What point `t` stores at row `r` and column `d` of its block is the attention at the block's place. -/
theorem point_apply (m : (ℓ : Loc nD τ sig) → Buf (Elt Ideal) ℓ) (c : Dev nD) (hq : Finite (m ((c : Thread nD τ).loc main_arg0)))
    (hk : Finite (m ((c : Thread nD τ).loc main_arg1))) (t : Fin cfg0.N) (r : Fin 1024) (d : Fin 128) (R : Fin 16384) (C : Fin 1024)
    (hR : R.val = (t.val / 64 * 8 + t.val % 8) * 1024 + r) (hC : C.val = t.val / 8 % 8 * 128 + d) :
    quotient (runL (X0_0 m c t) (keys (iblk m c 1 t)) 11) (runA (X0_0 m c t) (keys (iblk m c 1 t)) (vals (iblk m c 2 t)) 11) (ix2 r d)
      = attention (m ((c : Thread nD τ).loc main_arg0)) (m ((c : Thread nD τ).loc main_arg1)) (m ((c : Thread nD τ).loc main_arg2)) (ix2 R C) := by
  have ht : t.val < 128 := t.isLt
  have hr := r.isLt
  have hd := d.isLt
  have e1 : R.val / 8192 = t.val / 64 := by omega
  have e2 : C.val / 128 = t.val / 8 % 8 := by omega
  refine out_apply _ _ _ r d (score (m ((c : Thread nD τ).loc main_arg0)) (m ((c : Thread nD τ).loc main_arg1)) R (C.val / 128))
    (value (m ((c : Thread nD τ).loc main_arg2)) R C) (fun κ => ?_) (fun κ => ?_)
  · rw [score_coe _ _ hq hk]
    refine Finset.sum_congr rfl fun e _ => ?_
    rw [k_apply, q_apply, e1, e2, hR]
  · rw [v_apply, value, e1, hC]

/-- THE RESULT ARRAY is the attention of the argument arrays. -/
theorem array_eq (m : (ℓ : Loc nD τ sig) → Buf (Elt Ideal) ℓ) (c : Dev nD) (hq : Finite (m ((c : Thread nD τ).loc main_arg0)))
    (hk : Finite (m ((c : Thread nD τ).loc main_arg1))) :
    (dats m 0 c).arrAt 3 cfg0.N = attention (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht : t.val < 128 := t.isLt
  blk_simp
  rw [after0_3]
  unfold outsAt0
  rw [out_eq]
  obtain ⟨r, hr⟩ : ∃ r : Fin 1024, r = y 0 := ⟨_, rfl⟩
  obtain ⟨d, hd⟩ : ∃ d : Fin 128, d = y 1 := ⟨_, rfl⟩
  have hy : y = ix2 r d := by rw [hr, hd]; exact Shape.idx_ext₂ rfl rfl
  have hr' := r.isLt
  have hd' := d.isLt
  have h := point_apply m c hq hk t r d ⟨(t.val / 64 * 8 + t.val % 8) * 1024 + r, by omega⟩ ⟨t.val / 8 % 8 * 128 + d, by omega⟩ rfl rfl
  rw [hy]
  refine h.trans (congrArg _ ?_)
  blk_ext [idx3 t]

end Cert.KernelIdeal.Blocks
-- ==== Proof.RefValue.lean ====
/-
  THE REFERENCE'S RESULT, over the extended reals: it is `Cert.Attention.attention` of its arguments when the queries and
  the keys are finite.
-/
module

public import proofs.«01_k».proof.Proof.Spec
public import proofs.«01_k».proof.Proof.Gen.ReferenceIdeal.Run
public import Idealize.ShloMosaic.Lib.Pointwise

@[expose] public section

noncomputable section

open Idealize.ShloMosaic Idealize.ShloMosaic.TcCoe Idealize.SL.Sem

namespace Cert.ReferenceIdeal.Softmax
open Cert.ReferenceIdeal Cert.ReferenceIdeal.Gen Cert.Attention

variable {F : FTy → Type} [FloatOps F]

/-- The scores times `ln 2`, by batch entry, head, row and key. -/
def logits (q k : FVec F S16896x2048 .bf16) : FVec F S2x8x8192x8448 .f32 :=
  mulf (Host.dotGeneral dot_S2x8192x8x256_S2x8448x8x256_S2x8x8192x8448_3_3_1_1_02_02 none
      (shapeCast _ (extf .f32 (extractStridedSlice S16384x2048 ![0, 0] q slices_S16896x2048_S16384x2048_0_0) bitsLt_bf16_f32) shapeCasts_S16384x2048_S2x8192x8x256)
      (shapeCast _ (extf .f32 k bitsLt_bf16_f32) shapeCasts_S16896x2048_S2x8448x8x256))
    (broadcastInDim S2x8x8192x8448 ![] bcast_S_S2x8x8192x8448 (Host.log (constant S_ .f32 0x40000000#32)))

/-- A row's largest logit. -/
def largest (x : FVec F S2x8x8192x8448 .f32) : FVec F S2x8x8192 .f32 :=
  maximumf (broadcastInDim S2x8x8192 ![] bcast_S_S2x8x8192 (constant S_ .f32 0xFF800000#32))
    (Host.reduce FloatOps.maximumf x (constant S_ .f32 0xFF800000#32) reducesTo_S2x8x8192x8448_S2x8x8192_d3 h_S_)

/-- The exponentials of the logits less the row's largest. -/
def expo (x : FVec F S2x8x8192x8448 .f32) : FVec F S2x8x8192x8448 .f32 :=
  Host.exp (subf x (broadcastInDim S2x8x8192x8448 ![0, 1, 2, 3] bcast_S2x8x8192x1_S2x8x8192x8448_0_1_2_3
    (broadcastInDim S2x8x8192x1 ![0, 1, 2] bcast_S2x8x8192_S2x8x8192x1_0_1_2 (largest x))))

/-- The softmax. -/
def softmax (x : FVec F S2x8x8192x8448 .f32) : FVec F S2x8x8192x8448 .f32 :=
  Host.divf (expo x) (broadcastInDim S2x8x8192x8448 ![0, 1, 2, 3] bcast_S2x8x8192x1_S2x8x8192x8448_0_1_2_3
    (broadcastInDim S2x8x8192x1 ![0, 1, 2] bcast_S2x8x8192_S2x8x8192x1_0_1_2
      (Host.reduceAdd (expo x) (constant S_ .f32 0x00000000#32) reducesTo_S2x8x8192x8448_S2x8x8192_d3 h_S_)))

/-- The values by key, head and column, and the result array. -/
def result (q k : FVec F S16896x2048 .bf16) (vt : FVec F S1024x16896 .bf16) : FVec F S16384x1024 .bf16 :=
  truncf .bf16 (shapeCast _ (transpose S2x8192x8x128 [0, 3, 1, 2]
    (Host.dotGeneral dot_S2x8448x8x128_S2x8x8192x8448_S2x8x128x8192_1_3_3_2_02_01 none
      (shapeCast _ (transpose S16896x1024 [1, 0] (extf .f32 vt bitsLt_bf16_f32) transposes_S1024x16896_S16896x1024_1_0) shapeCasts_S16896x1024_S2x8448x8x128)
      (softmax (logits q k))) transposes_S2x8x128x8192_S2x8192x8x128_0_3_1_2) shapeCasts_S2x8192x8x128_S16384x1024) bitsLt_bf16_f32

/-- A logit: the score under exact products, times `ln 2`. -/
theorem logits_apply (q k : FVec Ideal S16896x2048 .bf16) (b : Fin 2) (h : Fin 8) (r : Fin 8192) (κ : Fin 8448) :
    logits q k (ix4 b h r κ) = (∑ e : Fin 256, q (ix2 (row ((b : ℕ) * 8192 + r)) (col ((h : ℕ) * 256 + e)))
      * k (ix2 (row ((b : ℕ) * 8448 + κ)) (col ((h : ℕ) * 256 + e)))) * ((Real.log 2 : ℝ) : EReal) := by
  have h2 : Ideal.log (Ideal.ofBits FTy.f32 1073741824#32) = ((Real.log 2 : ℝ) : EReal) := by
    have e : Ideal.ofBits FTy.f32 1073741824#32 = ((2 : ℝ) : EReal) := by
      simp [Ideal.ofBits, Ideal.ieee]
      rw [← EReal.coe_mul]
      norm_num
    rw [e, Ideal.log_coe, if_neg (by norm_num)]
  have hr : ∀ n (hn : n < 16896), (⟨n, hn⟩ : Fin 16896) = row n := fun n hn => Fin.ext (Nat.mod_eq_of_lt hn).symm
  have hc : ∀ n (hn : n < 2048), (⟨n, hn⟩ : Fin 2048) = col n := fun n hn => Fin.ext (Nat.mod_eq_of_lt hn).symm
  pointwise [logits]
  refine congrArg₂ (· * ·) (Finset.sum_congr rfl fun e _ => ?_) h2
  exact congrArg₂ (· * ·) (congrArg₂ (fun a b => q (ix2 a b)) (hr _ _) (hc _ _)) (congrArg₂ (fun a b => k (ix2 a b)) (hr _ _) (hc _ _))

/-- The maximum over the last axis of a rank-four array, one entry of the result. -/
theorem reduce_last {A B C D : Nat} (x : FVec Ideal ⟨4, ![A, B, C, D]⟩ .f32) (init : FVec Ideal ⟨0, ![]⟩ .f32)
    (h' : Shape.ReducesTo ⟨4, ![A, B, C, D]⟩ [3] ⟨3, ![A, B, C]⟩) (hu : 0 < (⟨0, ![]⟩ : Shape).numel) (b : Fin A) (h : Fin B) (r : Fin C) :
    Host.reduce FloatOps.maximumf x init h' hu (ix3 b h r) = Finset.univ.fold max (init (Shape.Idx.first hu)) fun κ : Fin D => x (ix4 b h r κ) := by
  pointwise

/-- The elementwise maximum at one entry. -/
theorem maximumf_at {s : Shape} (x y : FVec Ideal s .f32) (i : s.Idx) : maximumf x y i = max (x i) (y i) := rfl

/-- The array every entry of which is `-∞`. -/
theorem ninf_at (i : S2x8x8192.Idx) :
    broadcastInDim S2x8x8192 ![] bcast_S_S2x8x8192 (constant (F := Ideal) S_ .f32 0xFF800000#32) i = (⊥ : EReal) := by
  show Ideal.ofBits FTy.f32 4286578688#32 = ⊥
  simp [Ideal.ofBits, Ideal.ieee]

/-- The row maximum of real logits is real. -/
theorem largest_real (x : FVec Ideal S2x8x8192x8448 .f32) (b : Fin 2) (h : Fin 8) (r : Fin 8192)
    (hx : ∀ κ, ∃ y : ℝ, x (ix4 b h r κ) = y) : ∃ μ : ℝ, largest x (ix3 b h r) = μ := by
  have hb : Ideal.ofBits FTy.f32 4286578688#32 = ⊥ := by simp [Ideal.ofBits, Ideal.ieee]
  rw [largest, maximumf_at, ninf_at, reduce_last (A := 2) (B := 8) (C := 8192) (D := 8448), bot_sup_eq]
  exact Online.fold_max_coe (by norm_num) _ (by show Ideal.ofBits FTy.f32 4286578688#32 ≠ ⊤; rw [hb]; exact bot_ne_top) _ hx

/-- An exponential of a logit less its row's largest. -/
theorem expo_apply (x : FVec Ideal S2x8x8192x8448 .f32) (b : Fin 2) (h : Fin 8) (r : Fin 8192) (κ : Fin 8448) :
    expo x (ix4 b h r κ) = Ideal.exp (x (ix4 b h r κ) - largest x (ix3 b h r)) := by
  pointwise [expo]

/-- The softmax at one place. -/
theorem softmax_apply (x : FVec Ideal S2x8x8192x8448 .f32) (b : Fin 2) (h : Fin 8) (r : Fin 8192) (κ : Fin 8448) :
    softmax x (ix4 b h r κ) = Ideal.div (expo x (ix4 b h r κ)) (∑ κ : Fin 8448, expo x (ix4 b h r κ)) := by
  pointwise [softmax]

/-- The result's entry: the values of the column weighted by the softmax. -/
theorem result_apply (q k : FVec Ideal S16896x2048 .bf16) (vt : FVec Ideal S1024x16896 .bf16) (R : Fin 16384) (C : Fin 1024) :
    result q k vt (ix2 R C) = ∑ κ : Fin 8448, value vt R C κ
      * softmax (logits q k) (ix4 ⟨R / 8192, by omega⟩ ⟨C / 128, by omega⟩ ⟨R % 8192, by omega⟩ κ) := by
  have hr : ∀ n (hn : n < 16896), (⟨n, hn⟩ : Fin 16896) = row n := fun n hn => Fin.ext (Nat.mod_eq_of_lt hn).symm
  have hc : vcol (C : ℕ) = C := Fin.ext (Nat.mod_eq_of_lt C.isLt)
  pointwise [result]
  refine Finset.sum_congr rfl fun κ _ => ?_
  rw [value, hc, ← hr _ (by omega)]

/-- On finite queries and keys the softmax of the logits is the weight `2^score / ∑ 2^score`. -/
theorem softmax_eq (q k : FVec Ideal S16896x2048 .bf16) (hq : Finite q) (hk : Finite k) (b : Fin 2) (h : Fin 8) (r : Fin 8192) (κ : Fin 8448) :
    softmax (logits q k) (ix4 b h r κ) = (Online.weight (score q k ((b : ℕ) * 8192 + r) h) 8448 κ : EReal) := by
  have hl : ∀ κ : Fin 8448, logits q k (ix4 b h r κ)
      = (score q k ((b : ℕ) * 8192 + r) h κ : EReal) * ((Real.log 2 : ℝ) : EReal) := fun κ => by
    rw [logits_apply, score_coe q k hq hk, show ((b : ℕ) * 8192 + r) / 8192 = b by omega]
    exact congrArg (· * _) (Finset.sum_congr rfl fun e _ => mul_comm _ _)
  obtain ⟨μ, hμ⟩ := largest_real (logits q k) b h r fun κ => ⟨score q k ((b : ℕ) * 8192 + r) h κ * Real.log 2, by rw [hl, EReal.coe_mul]⟩
  rw [softmax_apply]
  simp only [expo_apply, hl, hμ]
  exact Online.softmax_weight (score q k ((b : ℕ) * 8192 + r) h) 8448 (by norm_num) μ κ

/-- The reference's result is the attention. -/
theorem result_eq (q k : FVec Ideal S16896x2048 .bf16) (vt : FVec Ideal S1024x16896 .bf16) (hq : Finite q) (hk : Finite k) :
    result q k vt = attention q k vt := by
  have point : ∀ (R : Fin 16384) (C : Fin 1024), result q k vt (ix2 R C) = attention q k vt (ix2 R C) := fun R C => by
    rw [result_apply]
    simp only [softmax_eq q k hq hk]
    show _ = ∑ κ ∈ Finset.range 8448, value vt R C κ * ((Online.weight (score q k R ((C : ℕ) / 128)) 8448 κ : ℝ) : EReal)
    rw [Finset.sum_range, show (R : ℕ) / 8192 * 8192 + (R : ℕ) % 8192 = R by omega]
  funext y
  rw [show y = ix2 (y 0) (y 1) from Shape.idx_ext₂ rfl rfl]
  exact point _ _

end Cert.ReferenceIdeal.Softmax
-- ==== Proof.Precondition.lean ====
/-
  WHAT THE PRECONDITION SAYS, over the extended reals: every entry of the queries and of the keys is a real.
-/
module

public import proofs.«01_k».proof.Proof.Spec
public import proofs.«01_k».proof.Pre_finite
public import Idealize.ShloMosaic.Lib.ReduceAll

@[expose] public section

noncomputable section

open Idealize.ShloMosaic

namespace Cert.Pre_finite.Meaning
open Cert.Pre_finite Cert.Attention

/-- The shape facts of the printed precondition. -/
theorem facts : Cert.Pre_finite.Facts where
  bitsLt_bf16_f32 := by decide
  bcast_S_S16896x2048 := by decide
  reducesTo_S16896x2048_S_d0_1 := by decide
  h_S_ := by decide

/-- An extended real whose absolute value is below infinity is a real. -/
theorem real_of_abs (x : EReal) (h : max x (-x) < ⊤) : (x.toReal : EReal) = x := by
  induction x with
  | bot => simp at h
  | top => simp at h
  | coe r => rfl

/-- The comparison of an absolute value with infinity, where it holds. -/
theorem real_of_cmp (x : EReal) (h : (FloatOps.cmpf (F := Ideal) (φ := .f32) .olt (max x (-x)) (Ideal.ofBits .f32 0x7F800000#32)) = 1#1) :
    (x.toReal : EReal) = x := by
  have ht : Ideal.ofBits .f32 0x7F800000#32 = (⊤ : EReal) := by simp [Ideal.ofBits, Ideal.ieee]
  rw [ht] at h
  refine real_of_abs x ?_
  by_contra hn
  have : (FloatOps.cmpf (F := Ideal) (φ := .f32) .olt (max x (-x)) (⊤ : EReal)) = 0#1 := by
    show Ideal.cmp _ _ _ = _
    simp [Ideal.cmp, hn]
  rw [this] at h
  exact absurd h (by decide)

/-- The precondition says that the queries and the keys are finite. -/
theorem finite [Facts] (q k : FVec Ideal S16896x2048 .bf16) (vt : FVec Ideal S1024x16896 .bf16)
    (h : (fn (F := Ideal) q k vt).1 = (fun _ => 1#1) ∧ (fn (F := Ideal) q k vt).2 = (fun _ => 1#1)) : Finite q ∧ Finite k := by
  haveI : Subsingleton S_.Idx := ⟨fun a b => funext fun d => d.elim0⟩
  obtain ⟨h1, h2⟩ := h
  dsimp only [fn] at h1 h2
  refine ⟨fun i => real_of_cmp (q i) ?_, fun i => real_of_cmp (k i) ?_⟩
  · exact Host.reduce_andi_all _ _ _ _ (fun d => d.elim0) (congrFun h1 _) i
  · exact Host.reduce_andi_all _ _ _ _ (fun d => d.elim0) (congrFun h2 _) i

end Cert.Pre_finite.Meaning
-- ==== Proof.ExpertsRun.lean ====
/- ONE VISIT OF THE ROUTED EXPERTS' KERNEL, over the extended reals.

   The kernel walks 328 blocks of 512 rows. At each block it reads the table of experts: when the block is the first or its
   expert differs from the last block's, it rounds the expert's three weight matrices into three scratch buffers. It then reads
   the number of blocks in use: below it, it runs the block's rows through the expert in the scratch buffers; from it on, it
   writes zeros. This module states what ONE visit leaves, for any tables. -/
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The table of experts, a word per block. -/
abbrev expertTable : Memref sig .tc .smem S328 .i32 := Memref.whole main_arg0
/-- The number of blocks in use, one word. -/
abbrev usedTable : Memref sig .tc .smem S1 .i32 := Memref.whole main_arg1
/-- The scratch buffer of the rounded gate weights. -/
abbrev gateScratch : Memref sig .tc .vmem S2048x512 .bf16 := Memref.whole cc0_scratch0
/-- The scratch buffer of the rounded up weights. -/
abbrev upScratch : Memref sig .tc .vmem S2048x512 .bf16 := Memref.whole cc0_scratch1
/-- The scratch buffer of the rounded down weights. -/
abbrev downScratch : Memref sig .tc .vmem S512x2048 .bf16 := Memref.whole cc0_scratch2

/-- The word the kernel reads as the block's own expert. -/
abbrev ownWord (i : grid0.Coords) (T0 : S328.Idx → BitVec 32) : BitVec 32 :=
  View.readAt (Elt Ideal) expertTable.view (Rect.unit (s := S328) (k0_off1 i) S1.size (k0_off1_inb i)).toLoadRect T0 (Shape.Idx.first (numel1_S1.symm ▸ Nat.one_pos))

/-- The word the kernel reads as the last block's expert. -/
abbrev lastWord (i : grid0.Coords) (T0 : S328.Idx → BitVec 32) : BitVec 32 :=
  View.readAt (Elt Ideal) expertTable.view (Rect.unit (s := S328) (k0_off2 i) S1.size (k0_off2_inb i)).toLoadRect T0 (Shape.Idx.first (numel1_S1.symm ▸ Nat.one_pos))

/-- The word the kernel reads as the number of blocks in use. -/
abbrev usedWord (T1 : S1.Idx → BitVec 32) : BitVec 32 :=
  View.readAt (Elt Ideal) usedTable.view (Rect.unit (s := S1) ![0] S1.size inb_S1_S1_0).toLoadRect T1 (Shape.Idx.first (numel1_S1.symm ▸ Nat.one_pos))

/-- The kernel refills its scratch buffers at this block. -/
abbrev Refills (i : grid0.Coords) (T0 : S328.Idx → BitVec 32) : Prop :=
  Scalar.cmpi .ne (Scalar.extui (Scalar.ori (Scalar.cmpi .eq (BitVec.ofNat 32 (i 0).val) 0#32) (Scalar.cmpi .ne (ownWord i T0) (lastWord i T0)))) 0#32 = 1#1

/-- The block is one of those in use, as the kernel decides it. -/
abbrev InUse (i : grid0.Coords) (T1 : S1.Idx → BitVec 32) : Prop := k0_cond2 i (usedWord T1) = 1#1

/-- A word's comparison with another, widened and tested against zero, is the comparison. -/
theorem test_ofBool (b : Bool) : Scalar.cmpi .ne (Scalar.extui (BitVec.ofBool b) : BitVec 32) 0#32 = 1#1 ↔ b = true := by
  cases b <;> decide

/-- The block is in use exactly when its number is below the number of blocks in use, the words read as signed. -/
theorem cond2_iff (i : grid0.Coords) (w : BitVec 32) : k0_cond2 i w = 1#1 ↔ (BitVec.ofNat 32 (i 0).val).slt w = true := by
  rw [← test_ofBool]; rfl

/-- The second test of the kernel is the first one's opposite. -/
theorem cond3_iff (i : grid0.Coords) (w : BitVec 32) : k0_cond3 i w = 1#1 ↔ ¬ k0_cond2 i w = 1#1 := by
  have h : k0_cond3 i w = 1#1 ↔ w.sle (BitVec.ofNat 32 (i 0).val) = true := by
    rw [← test_ofBool]; rfl
  rw [h, cond2_iff, BitVec.sle_iff_toInt_le, BitVec.slt_iff_toInt_lt, not_lt]

/-- The block of the result a visit leaves: the rows through the expert when the block is in use, zeros else. -/
def visitBlock (used : Prop) [Decidable used] (x : S512x1024.Idx → BitVec 32) (wg wu : FVec Ideal S2048x512 .bf16) (wd : FVec Ideal S512x2048 .bf16) :
    S1024x1024.Idx → Elt Ideal .bf16 :=
  if used then k0_pay4 (F := Ideal) x wg wu wd else k0_pay5 (F := Ideal)

variable (c : Dev nD) (i : grid0.Coords)
  (arg3 : Memref sig .tc .vmem S512x1024 .i32) (harg3 : arg3.IsWhole)
  (arg4 : Memref sig .tc .vmem S1x1x2048x512 .f32) (harg4 : arg4.IsWhole)
  (arg5 : Memref sig .tc .vmem S1x1x2048x512 .f32) (harg5 : arg5.IsWhole)
  (arg6 : Memref sig .tc .vmem S1x1x512x2048 .f32) (harg6 : arg6.IsWhole)
  (arg7 : Memref sig .tc .vmem S1024x1024 .bf16) (harg7 : arg7.IsWhole)
  (T0 : S328.Idx → BitVec 32) (T1 : S1.Idx → BitVec 32)
  (x0 : S512x1024.Idx → BitVec 32) (x1 x2 : S1x1x2048x512.Idx → Elt Ideal .f32) (x3 : S1x1x512x2048.Idx → Elt Ideal .f32)

/-- What a visit holds when it starts: the block's inputs, the tables, the result's buffer, and the scratch buffers with `s0`, `s1`, `s2`. -/
def Before (s0 s1 : FVec Ideal S2048x512 .bf16) (s2 : FVec Ideal S512x2048 .bf16) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (expertTable.view.loc (c : Thread nD τ) ↦{fullShare.right} T0)
    ∗ (usedTable.view.loc (c : Thread nD τ) ↦{fullShare.right} T1)
    ∗ (∃ d, owns (c : Thread nD τ) arg7 fullShare d)
    ∗ owns (c : Thread nD τ) gateScratch fullShare s0
    ∗ owns (c : Thread nD τ) upScratch fullShare s1
    ∗ owns (c : Thread nD τ) downScratch fullShare s2)

/-- What a visit holds when it ends: the inputs and tables as they were, the scratch buffers with the expert's rounded weights,
    and the block of the result. -/
def After : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (expertTable.view.loc (c : Thread nD τ) ↦{fullShare.right} T0)
    ∗ (usedTable.view.loc (c : Thread nD τ) ↦{fullShare.right} T1)
    ∗ owns (c : Thread nD τ) arg7 fullShare
        (visitBlock (InUse i T1) x0 (k0_pay1 (F := Ideal) x1) (k0_pay2 (F := Ideal) x2) (k0_pay3 (F := Ideal) x3))
    ∗ owns (c : Thread nD τ) gateScratch fullShare (k0_pay1 (F := Ideal) x1)
    ∗ owns (c : Thread nD τ) upScratch fullShare (k0_pay2 (F := Ideal) x2)
    ∗ owns (c : Thread nD τ) downScratch fullShare (k0_pay3 (F := Ideal) x3))

/-- The block's computation depends only on its four operands. -/
theorem pay4_congr {x x' : S512x1024.Idx → BitVec 32} {g g' u u' : FVec Ideal S2048x512 .bf16} {d d' : FVec Ideal S512x2048 .bf16}
    (hx : x = x') (hg : g = g') (hu : u = u') (hd : d = d') : k0_pay4 (F := Ideal) x g u d = k0_pay4 (F := Ideal) x' g' u' d' := by
  rw [hx, hg, hu, hd]

set_option maxHeartbeats 4000000 in
/-- ONE VISIT: when the scratch buffers hold the expert's weights already or the visit refills them, it ends in `After`. -/
theorem visit (s0 s1 : FVec Ideal S2048x512 .bf16) (s2 : FVec Ideal S512x2048 .bf16)
    (hs : ¬ Refills i T0 → s0 = k0_pay1 (F := Ideal) x1 ∧ s1 = k0_pay2 (F := Ideal) x2 ∧ s2 = k0_pay3 (F := Ideal) x3)
    (Q : PUnit → sProp 𝕄) :
    iprop(Before c arg3 arg4 arg5 arg6 arg7 T0 T1 x0 x1 x2 x3 s0 s1 s2
        ∗ (After c i arg3 arg4 arg5 arg6 arg7 T0 T1 x0 x1 x2 x3 -∗ Q ⟨⟩))
      ⊢ wp frame (wpE (defs₀ (F := Ideal)) Variants.none c none) Set.univ
          (cc0_routed_experts (F := Ideal) i expertTable (Memref.isWhole_whole _) usedTable (Memref.isWhole_whole _) arg3 harg3 arg4 harg4 arg5 harg5 arg6 harg6 arg7 harg7
            gateScratch (Memref.isWhole_whole _) upScratch (Memref.isWhole_whole _) downScratch (Memref.isWhole_whole _)) Q := by
  rw [cc0_routed_experts_eq_skeleton]
  unfold Before After visitBlock
  have hS0 : gateScratch.IsWhole := Memref.isWhole_whole _
  have hS1 : upScratch.IsWhole := Memref.isWhole_whole _
  have hS2 : downScratch.IsWhole := Memref.isWhole_whole _
  have hT0 : expertTable.IsWhole := Memref.isWhole_whole _
  have hT1 : usedTable.IsWhole := Memref.isWhole_whole _
  by_cases hr : Refills i T0
  · by_cases hu : InUse i T1
    · have hc0 := hr
      have k0_h2 := hu
      have k0_h3 : ¬ k0_cond3 i (usedWord T1) = 1#1 := fun h => (cond3_iff i _).1 h hu
      rw [if_pos hu]
      unfold cc0_routed_experts_skel owns
      iintro ⟨⟨H0, H1, H2, H3, HT0, HT1, ⟨%d, %f4, %hf4, H4⟩, ⟨%f0, %hf0, HS0⟩, ⟨%f1, %hf1, HS1⟩, ⟨%f2, %hf2, HS2⟩⟩, Hk⟩
      sl_exec! (disch := first
        | (guard_target = Scalar.cmpi _ _ _ = _; exact hc0)
        | (guard_target = k0_cond2 _ _ = _; exact k0_h2)
        | (guard_target = ¬(k0_cond3 _ _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · iexists _; isplitr; swap
        · iexact H4
        · ipureintro; sl_unfold_words
          exact (View.read_writes_full _ _ _ _ _).trans (pay4_congr (View.readAt_rep_full _ _ _)
            (((View.readCov_full _ _ _ _ _).trans (congrArg (k0_pay1 (F := Ideal)) (View.readAt_rep_full _ _ _))))
            (((View.readCov_full _ _ _ _ _).trans (congrArg (k0_pay2 (F := Ideal)) (View.readAt_rep_full _ _ _))))
            (((View.readCov_full _ _ _ _ _).trans (congrArg (k0_pay3 (F := Ideal)) (View.readAt_rep_full _ _ _)))))
      isplitl [HS0]
      · iexists _; isplitr; swap
        · iexact HS0
        · ipureintro; sl_unfold_words; exact (View.read_writes_full _ _ _ _ _).trans (congrArg (k0_pay1 (F := Ideal)) (View.readAt_rep_full _ _ _))
      isplitl [HS1]
      · iexists _; isplitr; swap
        · iexact HS1
        · ipureintro; sl_unfold_words; exact (View.read_writes_full _ _ _ _ _).trans (congrArg (k0_pay2 (F := Ideal)) (View.readAt_rep_full _ _ _))
      iexists _; isplitr; swap
      · iexact HS2
      · ipureintro; sl_unfold_words; exact (View.read_writes_full _ _ _ _ _).trans (congrArg (k0_pay3 (F := Ideal)) (View.readAt_rep_full _ _ _))
    · have hc0 := hr
      have k0_h2 := hu
      have k0_h3 : k0_cond3 i (usedWord T1) = 1#1 := (cond3_iff i _).2 hu
      rw [if_neg hu]
      unfold cc0_routed_experts_skel owns
      iintro ⟨⟨H0, H1, H2, H3, HT0, HT1, ⟨%d, %f4, %hf4, H4⟩, ⟨%f0, %hf0, HS0⟩, ⟨%f1, %hf1, HS1⟩, ⟨%f2, %hf2, HS2⟩⟩, Hk⟩
      sl_exec! (disch := first
        | (guard_target = Scalar.cmpi _ _ _ = _; exact hc0)
        | (guard_target = ¬(k0_cond2 _ _ = _); exact k0_h2)
        | (guard_target = k0_cond3 _ _ = _; exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · iexists _; isplitr; swap
        · iexact H4
        · ipureintro; sl_unfold_words
          exact View.read_writes_full _ _ _ _ _
      isplitl [HS0]
      · iexists _; isplitr; swap
        · iexact HS0
        · ipureintro; sl_unfold_words; exact (View.read_writes_full _ _ _ _ _).trans (congrArg (k0_pay1 (F := Ideal)) (View.readAt_rep_full _ _ _))
      isplitl [HS1]
      · iexists _; isplitr; swap
        · iexact HS1
        · ipureintro; sl_unfold_words; exact (View.read_writes_full _ _ _ _ _).trans (congrArg (k0_pay2 (F := Ideal)) (View.readAt_rep_full _ _ _))
      iexists _; isplitr; swap
      · iexact HS2
      · ipureintro; sl_unfold_words; exact (View.read_writes_full _ _ _ _ _).trans (congrArg (k0_pay3 (F := Ideal)) (View.readAt_rep_full _ _ _))
  · by_cases hu : InUse i T1
    · have hc0 := hr
      have k0_h2 := hu
      have k0_h3 : ¬ k0_cond3 i (usedWord T1) = 1#1 := fun h => (cond3_iff i _).1 h hu
      rw [if_pos hu]
      unfold cc0_routed_experts_skel owns
      iintro ⟨⟨H0, H1, H2, H3, HT0, HT1, ⟨%d, %f4, %hf4, H4⟩, ⟨%f0, %hf0, HS0⟩, ⟨%f1, %hf1, HS1⟩, ⟨%f2, %hf2, HS2⟩⟩, Hk⟩
      obtain ⟨e0, e1, e2⟩ := hs hr
      rw [e0] at hf0; rw [e1] at hf1; rw [e2] at hf2
      sl_exec! (disch := first
        | (guard_target = ¬(Scalar.cmpi _ _ _ = _); exact hc0)
        | (guard_target = k0_cond2 _ _ = _; exact k0_h2)
        | (guard_target = ¬(k0_cond3 _ _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · iexists _; isplitr; swap
        · iexact H4
        · ipureintro; sl_unfold_words
          exact (View.read_writes_full _ _ _ _ _).trans (pay4_congr (View.readAt_rep_full _ _ _)
            ((View.readAt_full _ _ _).trans hf0) ((View.readAt_full _ _ _).trans hf1) ((View.readAt_full _ _ _).trans hf2))
      isplitl [HS0]
      · iexists _; isplitr; swap
        · iexact HS0
        · ipureintro; exact hf0
      isplitl [HS1]
      · iexists _; isplitr; swap
        · iexact HS1
        · ipureintro; exact hf1
      iexists _; isplitr; swap
      · iexact HS2
      · ipureintro; exact hf2
    · have hc0 := hr
      have k0_h2 := hu
      have k0_h3 : k0_cond3 i (usedWord T1) = 1#1 := (cond3_iff i _).2 hu
      rw [if_neg hu]
      unfold cc0_routed_experts_skel owns
      iintro ⟨⟨H0, H1, H2, H3, HT0, HT1, ⟨%d, %f4, %hf4, H4⟩, ⟨%f0, %hf0, HS0⟩, ⟨%f1, %hf1, HS1⟩, ⟨%f2, %hf2, HS2⟩⟩, Hk⟩
      obtain ⟨e0, e1, e2⟩ := hs hr
      rw [e0] at hf0; rw [e1] at hf1; rw [e2] at hf2
      sl_exec! (disch := first
        | (guard_target = ¬(Scalar.cmpi _ _ _ = _); exact hc0)
        | (guard_target = ¬(k0_cond2 _ _ = _); exact k0_h2)
        | (guard_target = k0_cond3 _ _ = _; exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · iexists _; isplitr; swap
        · iexact H4
        · ipureintro; sl_unfold_words
          exact View.read_writes_full _ _ _ _ _
      isplitl [HS0]
      · iexists _; isplitr; swap
        · iexact HS0
        · ipureintro; exact hf0
      isplitl [HS1]
      · iexists _; isplitr; swap
        · iexact HS1
        · ipureintro; exact hf1
      iexists _; isplitr; swap
      · iexact HS2
      · ipureintro; exact hf2

end Cert.Kernel2Ideal.Experts

end
-- ==== Proof.ExpertsTables.lean ====
/- THE TABLES OF THE ROUTED EXPERTS' KERNEL, and what it reads off them.

   `Tables` is what the kernel needs of its two integer arguments: every expert below 64, between 1 and 328 blocks in use.
   From it: the words a visit reads, the two tests it makes, and the blocks of the arrays it is handed. -/
module

public import proofs.«01_k».proof.Proof.ExpertsRun
public import Idealize.ShloMosaic.Lib.Pointwise.Index

@[expose] public section

set_option maxRecDepth 16384
set_option Elab.async false

noncomputable section

namespace Cert.Kernel2Ideal.Experts

open Cert.Kernel2Ideal Cert.Kernel2Ideal.Gen
open Idealize.ShloMosaic

/-! ## Words as numbers -/

/-- A small number's word, read as signed, is the number. -/
theorem toInt_small (w : BitVec 32) (h : w.toNat < 2 ^ 31) : w.toInt = (w.toNat : ℤ) := by
  rw [BitVec.toInt_eq_toNat_cond, if_pos (by omega)]

/-- Comparing small words as signed compares their numbers. -/
theorem slt_small (v w : BitVec 32) (hv : v.toNat < 2 ^ 31) (hw : w.toNat < 2 ^ 31) : v.slt w = true ↔ v.toNat < w.toNat := by
  rw [BitVec.slt_iff_toInt_lt, toInt_small v hv, toInt_small w hw]; omega

/-- The smaller of a block's number and the last block in use, as the kernel computes it. -/
theorem min_last (n : ℕ) (u : BitVec 32) (hn : n < 328) (h1 : 1 ≤ u.toNat) (h2 : u.toNat ≤ 328) :
    (Scalar.minsi (BitVec.ofNat 32 n) (Scalar.subi u 1#32)).toNat = min n (u.toNat - 1) := by
  have hs : (Scalar.subi u 1#32 : BitVec 32).toNat = u.toNat - 1 := by
    show (u - 1#32).toNat = _
    rw [BitVec.toNat_sub]; simp; omega
  have hn' : (BitVec.ofNat 32 n).toNat = n := by rw [BitVec.toNat_ofNat]; omega
  show (if (BitVec.ofNat 32 n).slt (Scalar.subi u 1#32) then BitVec.ofNat 32 n else Scalar.subi u 1#32).toNat = _
  by_cases h : (BitVec.ofNat 32 n).slt (Scalar.subi u 1#32) = true
  · rw [if_pos h, hn']
    rw [slt_small _ _ (by omega) (by omega), hs, hn'] at h
    omega
  · rw [if_neg h, hs]
    rw [slt_small _ _ (by omega) (by omega), hs, hn'] at h
    omega

/-- A comparison of two words for difference. -/
theorem cmpi_ne (v w : BitVec 32) : Scalar.cmpi .ne v w = BitVec.ofBool (v != w) := rfl

/-- Two one-bit words joined. -/
theorem or_ofBool (a b : Bool) : Scalar.ori (BitVec.ofBool a) (BitVec.ofBool b) = BitVec.ofBool (a || b) := by
  cases a <;> cases b <;> rfl

/-! ## The words a visit reads -/

/-- A block's number, from the grid's coordinates. -/
abbrev number (i : grid0.Coords) : Fin 328 := i 0

/-- The kernel's own word is the table's word of the block. -/
theorem ownWord_eq (i : grid0.Coords) (T0 : S328.Idx → BitVec 32) : ownWord i T0 = T0 (ix1 (number i)) := by
  unfold ownWord
  refine congrArg T0 (funext fun a => Fin.ext ?_)
  fin_cases a
  show k0_off1 i 0 + 1 * 0 = _
  rw [k0_off1_eq]; rfl

/-- The offset of the last block's word. -/
theorem off2_eq (i : grid0.Coords) : k0_off2 i 0 = (i 0).val - 1 := by
  have h : ∀ n : Fin 328, (Scalar.maxsi (Scalar.subi (BitVec.ofNat 32 n.val) 1#32) 0#32 : BitVec 32).toNat = n.val - 1 := by decide +kernel
  exact h (i 0)

/-- The kernel's last word is the table's word of the block before (of the block itself at the first). -/
theorem lastWord_eq (i : grid0.Coords) (T0 : S328.Idx → BitVec 32) :
    lastWord i T0 = T0 (ix1 ⟨(number i).val - 1, by have := (number i).isLt; omega⟩) := by
  unfold lastWord
  refine congrArg T0 (funext fun a => Fin.ext ?_)
  fin_cases a
  show k0_off2 i 0 + 1 * 0 = _
  rw [off2_eq]; rfl

/-- The kernel's word of the number of blocks in use is the second table's only word. -/
theorem usedWord_eq (T1 : S1.Idx → BitVec 32) : usedWord T1 = T1 (ix1 0) := by
  unfold usedWord
  refine congrArg T1 (funext fun a => Fin.ext ?_)
  fin_cases a
  rfl

/-- The scratch buffers are refilled at the first block and where the expert changes. -/
theorem refills_iff (i : grid0.Coords) (T0 : S328.Idx → BitVec 32) :
    Refills i T0 ↔ (number i).val = 0 ∨ T0 (ix1 (number i)) ≠ T0 (ix1 ⟨(number i).val - 1, by have := (number i).isLt; omega⟩) := by
  have h0 : (Scalar.cmpi .eq (BitVec.ofNat 32 (i 0).val) 0#32) = BitVec.ofBool (decide ((i 0).val = 0)) := by
    have h : ∀ n : Fin 328, (Scalar.cmpi .eq (BitVec.ofNat 32 n.val) 0#32) = BitVec.ofBool (decide (n.val = 0)) := by decide +kernel
    exact h (i 0)
  unfold Refills
  rw [h0, cmpi_ne (ownWord i T0), or_ofBool, test_ofBool, ownWord_eq, lastWord_eq, Bool.or_eq_true, decide_eq_true_iff, bne_iff_ne]

/-- WHAT THE KERNEL NEEDS OF ITS TABLES: every expert is one of the 64, and from 1 to 328 blocks are in use. -/
structure Tables where
  /-- Each block's expert. -/
  expert : S328.Idx → BitVec 32
  /-- The number of blocks in use. -/
  used : S1.Idx → BitVec 32
  expert_lt : ∀ x, (expert x).toNat < 64
  used_pos : 1 ≤ (used (ix1 0)).toNat
  used_le : (used (ix1 0)).toNat ≤ 328

variable (T : Tables)

/-- The expert of block `n`. -/
def Tables.expertAt (n : Fin 328) : Fin 64 := ⟨(T.expert (ix1 n)).toNat, T.expert_lt _⟩

/-- The number of blocks in use. -/
def Tables.count : ℕ := (T.used (ix1 0)).toNat

/-- A visit runs its rows through the expert exactly when its block's number is below the number in use. -/
theorem inUse_iff (i : grid0.Coords) : InUse i T.used ↔ (number i).val < T.count := by
  have hn : (i 0).val < 328 := (i 0).isLt
  have e : (BitVec.ofNat 32 (i 0).val).toNat = (i 0).val := by rw [BitVec.toNat_ofNat]; omega
  have h2 := T.used_le
  unfold InUse Tables.count
  rw [cond2_iff, usedWord_eq, slt_small _ _ (by omega) (by omega), e]

/-- Where the scratch buffers are not refilled, the block is not the first and the block before has the same expert. -/
theorem kept (i : grid0.Coords) (h : ¬ Refills i T.expert) :
    (number i).val ≠ 0 ∧ T.expertAt (number i) = T.expertAt ⟨(number i).val - 1, by have := (number i).isLt; omega⟩ := by
  rw [refills_iff, not_or, not_not] at h
  refine ⟨h.1, Fin.ext ?_⟩
  show (T.expert (ix1 (number i))).toNat = (T.expert (ix1 _)).toNat
  rw [h.2]

/-! ## The tables as the region is handed them, and the blocks they choose -/

/-- The two tables as one value. -/
def Tables.contents : pre0.Contents (Elt Ideal) := fun | ⟨0, _⟩ => T.expert | ⟨1, _⟩ => T.used | ⟨_ + 2, h⟩ => absurd h (by simp)

/-- A visit's rows are those of its own block, or of the last block in use. -/
theorem rows_index (i : grid0.Coords) : cc0_transform_0 inb_S1_S1_0 numel1_S1 T.contents i = ![min (number i).val (T.count - 1), 0] := by
  have h : T.contents.at 1 (Rect.unit (s := S1) ![0] S1.size inb_S1_S1_0) numel1_S1 = T.used (ix1 0) :=
    congrArg T.used (funext fun a => Fin.ext (by fin_cases a; rfl))
  unfold cc0_transform_0
  dsimp only
  rw [h, min_last _ _ (i 0).isLt T.used_pos T.used_le]
  rfl

/-- The word an index map of the weights reads is the block's expert. -/
theorem expert_index (i : grid0.Coords) :
    (T.contents.at 0 (Rect.unit (s := S328) (k0_off1 i) S1.size (k0_off1_inb i)) numel1_S1 : BitVec 32) = T.expert (ix1 (number i)) := by
  refine congrArg T.expert (funext fun a => Fin.ext ?_)
  fin_cases a
  show k0_off1 i 0 + 1 * 0 = _
  rw [k0_off1_eq]; rfl

/-- A visit's gate weights are its block's expert's. -/
theorem gate_index (i : grid0.Coords) : cc0_transform_1 k0_off1_inb numel1_S1 T.contents i = ![0, (T.expertAt (number i)).val, 0, 0] := by
  have h := congrArg BitVec.toNat (expert_index T i)
  show ![0, _, 0, 0] = _
  rw [show (T.expertAt (number i)).val = (T.expert (ix1 (number i))).toNat from rfl, ← h]
  rfl

/-- A visit's up weights are its block's expert's. -/
theorem up_index (i : grid0.Coords) : cc0_transform_2 k0_off1_inb numel1_S1 T.contents i = ![0, (T.expertAt (number i)).val, 0, 0] := gate_index T i

/-- A visit's down weights are its block's expert's. -/
theorem down_index (i : grid0.Coords) : cc0_transform_3 k0_off1_inb numel1_S1 T.contents i = ![0, (T.expertAt (number i)).val, 0, 0] := gate_index T i

/-- Every block the tables choose lies inside its array. -/
theorem Tables.ok : ok0 (F := Ideal) T.contents := by
  have hc : ∀ i : grid0.Coords, min (number i).val (T.count - 1) < 328 := fun i => lt_of_le_of_lt (min_le_left _ _) (number i).isLt
  have he : ∀ i : grid0.Coords, (T.expertAt (number i)).val < 64 := fun i => (T.expertAt (number i)).isLt
  refine ⟨fun i => ⟨?_, .inl rfl⟩, fun i => ⟨?_, .inl rfl⟩, fun i => ⟨?_, .inl rfl⟩, fun i => ⟨?_, .inl rfl⟩⟩
  · rw [rows_index]; have := hc i
    intro a; fin_cases a
    · show (min (number i).val (T.count - 1) + 1) * 512 ≤ 167936; omega
    · show (0 + 1) * 1024 ≤ 1024; omega
  · rw [gate_index]; have := he i
    intro a; fin_cases a
    · show (0 + 1) * 1 ≤ 2; omega
    · show ((T.expertAt (number i)).val + 1) * 1 ≤ 64; omega
    · show (0 + 1) * 2048 ≤ 2048; omega
    · show (0 + 1) * 512 ≤ 512; omega
  · rw [up_index]; have := he i
    intro a; fin_cases a
    · show (0 + 1) * 1 ≤ 2; omega
    · show ((T.expertAt (number i)).val + 1) * 1 ≤ 64; omega
    · show (0 + 1) * 2048 ≤ 2048; omega
    · show (0 + 1) * 512 ≤ 512; omega
  · rw [down_index]; have := he i
    intro a; fin_cases a
    · show (0 + 1) * 1 ≤ 2; omega
    · show ((T.expertAt (number i)).val + 1) * 1 ≤ 64; omega
    · show (0 + 1) * 512 ≤ 512; omega
    · show (0 + 1) * 2048 ≤ 2048; omega

/-- The tables with the proof that their blocks lie inside the arrays. -/
def Tables.adm : (pcfg0 (F := Ideal)).Adm := ⟨T.contents, T.ok⟩

/-- The walk over the blocks at these tables. -/
abbrev Tables.cfg : Pipeline.Cfg sig Λ₀ := cfg0 (F := Ideal) T.adm

/-- A point of the walk is its block's number. -/
theorem number_coords (t : Fin T.cfg.N) : (number (T.cfg.grid.coords t)).val = t.val := by
  have h := Pipeline.Grid.coords_val (G := grid0) t (0 : Fin 1) (S := 1) (B := 328) (by decide) rfl
  have ht : t.val < 328 := t.isLt
  rw [show (number (T.cfg.grid.coords t)).val = (grid0.coords t 0).val from rfl, h]; omega

/-- A visit stores its block of the result at every point. -/
theorem stores_result (t : Fin T.cfg.N) : T.cfg.idle (4 : Fin 5) (T.cfg.grid.coords t) = false := by
  show (!(k0_cond2 (grid0.coords t) (T.contents.atD 1 ![0]) == 1#1) && !(k0_cond3 (grid0.coords t) (T.contents.atD 1 ![0]) == 1#1)) = false
  by_cases h : k0_cond2 (grid0.coords t) (T.contents.atD 1 ![0]) = 1#1
  · rw [h]; rfl
  · rw [(cond3_iff _ _).2 h, Bool.and_eq_false_iff]; right; rfl

end Cert.Kernel2Ideal.Experts

end
-- ==== Proof.ExpertsFrame.lean ====
/- THE ROUTED EXPERTS' KERNEL RUN WHOLE: the walk over the 328 blocks at any tables `Tables` admits.

   The invariant between visits: the scratch buffers hold the rounded weights of the last block's expert. From one visit
   (`visit`) and the invariant: every execution ends, the arguments unchanged and every semaphore at zero (`frame`), and the
   result array holds what the visits' blocks write (`run`). -/
module

public import proofs.«01_k».proof.Proof.ExpertsTables
public import Idealize.ShloMosaic.Lib.Pipeline.ValueKit

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tables) (m : (ℓ : Loc nD τ sig) → Buf (Elt Ideal) ℓ) (ρ : Dev nD → PrngReg)

/-! ## The blocks of the arguments -/

/-- The expert of the block numbered `n`. -/
def Tables.expertOf (n : ℕ) : Fin 64 := T.expertAt ⟨n % 328, Nat.mod_lt _ (by omega)⟩

theorem expertOf_coords (t : Fin T.cfg.N) : T.expertAt (number (T.cfg.grid.coords t)) = T.expertOf t.val := by
  have ht : t.val < 328 := t.isLt
  exact congrArg T.expertAt (Fin.ext ((number_coords T t).trans (Nat.mod_eq_of_lt ht).symm))

/-- Rows `512 n` to `512 n + 511` of the words. -/
def rowsBlock (c : Dev nD) (n : ℕ) : S512x1024.Idx → BitVec 32 :=
  fun y => m ((c : Thread nD τ).loc main_arg2) (ix2 ⟨(n * 512 + (y 0).val) % 167936, Nat.mod_lt _ (by omega)⟩ (y 1))

/-- Expert `e`'s gate weights. -/
def gateBlock (c : Dev nD) (e : Fin 64) : S1x1x2048x512.Idx → Elt Ideal .f32 :=
  fun y => m ((c : Thread nD τ).loc main_arg3) (ix4 ⟨0, by omega⟩ e (y 2) (y 3))

/-- Expert `e`'s up weights. -/
def upBlock (c : Dev nD) (e : Fin 64) : S1x1x2048x512.Idx → Elt Ideal .f32 :=
  fun y => m ((c : Thread nD τ).loc main_arg4) (ix4 ⟨0, by omega⟩ e (y 2) (y 3))

/-- Expert `e`'s down weights. -/
def downBlock (c : Dev nD) (e : Fin 64) : S1x1x512x2048.Idx → Elt Ideal .f32 :=
  fun y => m ((c : Thread nD τ).loc main_arg5) (ix4 ⟨0, by omega⟩ e (y 2) (y 3))

/-- Window `w`'s block at a point, read off its array. -/
def iblk (c : Dev nD) (w : Fin T.cfg.W) (t : Fin T.cfg.N) : ((T.cfg.win w).xblock (T.cfg.grid.coords t)).Idx → Elt Ideal (T.cfg.win w).elt :=
  ((T.cfg.win w).blk t).view.read (Elt Ideal) ((s₀ m ρ).mem ((T.cfg.win w).arr.view.loc (c : Thread nD τ)))

theorem iblk_rows (c : Dev nD) (t : Fin T.cfg.N) : iblk T m ρ c (0 : Fin 5) t = rowsBlock m c (min t.val (T.count - 1)) := by
  have hx : ∀ a, (T.cfg.win (0 : Fin 5)).index t a = ![min t.val (T.count - 1), 0] a := fun a => by
    show cc0_transform_0 inb_S1_S1_0 numel1_S1 T.contents (T.cfg.grid.coords t) a = _
    rw [rows_index, number_coords]
  have ht : t.val < 328 := t.isLt
  funext y
  refine congrArg (m ((c : Thread nD τ).loc main_arg2)) (funext fun a => Fin.ext ?_)
  refine ((T.cfg.win (0 : Fin 5)).rect_emb_val t y a).trans ?_
  rw [hx]
  fin_cases a
  · have hy : (y 0).val < 512 := (y 0).isLt
    show min t.val (T.count - 1) * 512 + (y 0).val = (min t.val (T.count - 1) * 512 + (y 0).val) % 167936
    omega
  · show 0 * 1024 + (y 1).val = (y 1).val
    omega

theorem iblk_gate (c : Dev nD) (t : Fin T.cfg.N) : iblk T m ρ c (1 : Fin 5) t = gateBlock m c (T.expertOf t.val) := by
  have hx : ∀ a, (T.cfg.win (1 : Fin 5)).index t a = ![0, (T.expertOf t.val).val, 0, 0] a := fun a => by
    show cc0_transform_1 k0_off1_inb numel1_S1 T.contents (T.cfg.grid.coords t) a = _
    rw [gate_index, expertOf_coords]
  funext y
  refine congrArg (m ((c : Thread nD τ).loc main_arg3)) (funext fun a => Fin.ext ?_)
  refine ((T.cfg.win (1 : Fin 5)).rect_emb_val t y a).trans ?_
  rw [hx]
  fin_cases a
  · have hy : (y 0).val < 1 := (y 0).isLt
    show 0 * 1 + (y 0).val = 0
    omega
  · have hy : (y 1).val < 1 := (y 1).isLt
    show (T.expertOf t.val).val * 1 + (y 1).val = (T.expertOf t.val).val
    omega
  · show 0 * 2048 + (y 2).val = (y 2).val
    omega
  · show 0 * 512 + (y 3).val = (y 3).val
    omega

theorem iblk_up (c : Dev nD) (t : Fin T.cfg.N) : iblk T m ρ c (2 : Fin 5) t = upBlock m c (T.expertOf t.val) := by
  have hx : ∀ a, (T.cfg.win (2 : Fin 5)).index t a = ![0, (T.expertOf t.val).val, 0, 0] a := fun a => by
    show cc0_transform_2 k0_off1_inb numel1_S1 T.contents (T.cfg.grid.coords t) a = _
    rw [up_index, expertOf_coords]
  funext y
  refine congrArg (m ((c : Thread nD τ).loc main_arg4)) (funext fun a => Fin.ext ?_)
  refine ((T.cfg.win (2 : Fin 5)).rect_emb_val t y a).trans ?_
  rw [hx]
  fin_cases a
  · have hy : (y 0).val < 1 := (y 0).isLt
    show 0 * 1 + (y 0).val = 0
    omega
  · have hy : (y 1).val < 1 := (y 1).isLt
    show (T.expertOf t.val).val * 1 + (y 1).val = (T.expertOf t.val).val
    omega
  · show 0 * 2048 + (y 2).val = (y 2).val
    omega
  · show 0 * 512 + (y 3).val = (y 3).val
    omega

theorem iblk_down (c : Dev nD) (t : Fin T.cfg.N) : iblk T m ρ c (3 : Fin 5) t = downBlock m c (T.expertOf t.val) := by
  have hx : ∀ a, (T.cfg.win (3 : Fin 5)).index t a = ![0, (T.expertOf t.val).val, 0, 0] a := fun a => by
    show cc0_transform_3 k0_off1_inb numel1_S1 T.contents (T.cfg.grid.coords t) a = _
    rw [down_index, expertOf_coords]
  funext y
  refine congrArg (m ((c : Thread nD τ).loc main_arg5)) (funext fun a => Fin.ext ?_)
  refine ((T.cfg.win (3 : Fin 5)).rect_emb_val t y a).trans ?_
  rw [hx]
  fin_cases a
  · have hy : (y 0).val < 1 := (y 0).isLt
    show 0 * 1 + (y 0).val = 0
    omega
  · have hy : (y 1).val < 1 := (y 1).isLt
    show (T.expertOf t.val).val * 1 + (y 1).val = (T.expertOf t.val).val
    omega
  · show 0 * 512 + (y 2).val = (y 2).val
    omega
  · show 0 * 2048 + (y 3).val = (y 3).val
    omega

/-! ## What the walk leaves -/

/-- The rounded gate weights of expert `e`. -/
def gateOf (c : Dev nD) (e : Fin 64) : FVec Ideal S2048x512 .bf16 := k0_pay1 (F := Ideal) (gateBlock m c e)
/-- The rounded up weights of expert `e`. -/
def upOf (c : Dev nD) (e : Fin 64) : FVec Ideal S2048x512 .bf16 := k0_pay2 (F := Ideal) (upBlock m c e)
/-- The rounded down weights of expert `e`. -/
def downOf (c : Dev nD) (e : Fin 64) : FVec Ideal S512x2048 .bf16 := k0_pay3 (F := Ideal) (downBlock m c e)

/-- The block of the result that point `n` writes. -/
def resultBlock (c : Dev nD) (n : ℕ) : S1024x1024.Idx → Elt Ideal .bf16 :=
  visitBlock (n < T.count) (rowsBlock m c (min n (T.count - 1))) (gateOf m c (T.expertOf n)) (upOf m c (T.expertOf n)) (downOf m c (T.expertOf n))

theorem visitBlock_congr {p q : Prop} [Decidable p] [Decidable q] (h : p ↔ q) (x : S512x1024.Idx → BitVec 32) (g u : FVec Ideal S2048x512 .bf16)
    (d : FVec Ideal S512x2048 .bf16) : visitBlock p x g u d = visitBlock q x g u d := by
  unfold visitBlock
  by_cases hp : p
  · rw [if_pos hp, if_pos (h.1 hp)]
  · rw [if_neg hp, if_neg (fun hq => hp (h.2 hq))]

/-- THE INVARIANT before point `n`: the scratch buffers hold the rounded weights of the block before's expert (anything before the
    first), and the tables are as they were. -/
def Inv (c : Dev nD) (n : ℕ) : sProp 𝕄 :=
  iprop(∃ (s0 s1 : FVec Ideal S2048x512 .bf16) (s2 : FVec Ideal S512x2048 .bf16),
    ⌜n ≠ 0 → s0 = gateOf m c (T.expertOf (n - 1)) ∧ s1 = upOf m c (T.expertOf (n - 1)) ∧ s2 = downOf m c (T.expertOf (n - 1))⌝
    ∗ owns (c : Thread nD τ) gateScratch fullShare s0
    ∗ owns (c : Thread nD τ) upScratch fullShare s1
    ∗ owns (c : Thread nD τ) downScratch fullShare s2
    ∗ (expertTable.view.loc (c : Thread nD τ) ↦{fullShare.right} T.expert)
    ∗ (usedTable.view.loc (c : Thread nD τ) ↦{fullShare.right} T.used))

/-- The walk's data: the arrays at launch, the blocks each visit leaves, the invariant. -/
def dats (_ : Fin 1) (c : Dev nD) : Dat τ (Elt Ideal) Unit ℕ (UR sig nD τ) ℕ T.cfg c where
  A w := (s₀ m ρ).mem ((T.cfg.win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => resultBlock T m c t.val
  Φ t := Inv T m c t.val
  q _ := fullShare
  owed _ := 0

theorem after_rows (c : Dev nD) (t : Fin T.cfg.N) : (dats T m ρ 0 c).after (0 : Fin 5) t = iblk T m ρ c (0 : Fin 5) t := rfl
theorem after_gate (c : Dev nD) (t : Fin T.cfg.N) : (dats T m ρ 0 c).after (1 : Fin 5) t = iblk T m ρ c (1 : Fin 5) t := rfl
theorem after_up (c : Dev nD) (t : Fin T.cfg.N) : (dats T m ρ 0 c).after (2 : Fin 5) t = iblk T m ρ c (2 : Fin 5) t := rfl
theorem after_down (c : Dev nD) (t : Fin T.cfg.N) : (dats T m ρ 0 c).after (3 : Fin 5) t = iblk T m ρ c (3 : Fin 5) t := rfl
theorem after_result (c : Dev nD) (t : Fin T.cfg.N) : (dats T m ρ 0 c).after (4 : Fin 5) t = resultBlock T m c t.val := rfl

theorem before_rows (c : Dev nD) (t : Fin T.cfg.N) (d) : (dats T m ρ 0 c).before (0 : Fin 5) t d = iblk T m ρ c (0 : Fin 5) t :=
  ((dats T m ρ 0 c).before_in_eq_fetched (0 : Fin 5) rfl (fun _ => rfl) (fun _ _ _ => rfl)
    (fun t => by rw [after_rows]; unfold Dat.blockOf iblk; rfl) t d).trans (by unfold Dat.fetched Dat.blockOf iblk; rfl)
theorem before_gate (c : Dev nD) (t : Fin T.cfg.N) (d) : (dats T m ρ 0 c).before (1 : Fin 5) t d = iblk T m ρ c (1 : Fin 5) t :=
  ((dats T m ρ 0 c).before_in_eq_fetched (1 : Fin 5) rfl (fun _ => rfl) (fun _ _ _ => rfl)
    (fun t => by rw [after_gate]; unfold Dat.blockOf iblk; rfl) t d).trans (by unfold Dat.fetched Dat.blockOf iblk; rfl)
theorem before_up (c : Dev nD) (t : Fin T.cfg.N) (d) : (dats T m ρ 0 c).before (2 : Fin 5) t d = iblk T m ρ c (2 : Fin 5) t :=
  ((dats T m ρ 0 c).before_in_eq_fetched (2 : Fin 5) rfl (fun _ => rfl) (fun _ _ _ => rfl)
    (fun t => by rw [after_up]; unfold Dat.blockOf iblk; rfl) t d).trans (by unfold Dat.fetched Dat.blockOf iblk; rfl)
theorem before_down (c : Dev nD) (t : Fin T.cfg.N) (d) : (dats T m ρ 0 c).before (3 : Fin 5) t d = iblk T m ρ c (3 : Fin 5) t :=
  ((dats T m ρ 0 c).before_in_eq_fetched (3 : Fin 5) rfl (fun _ => rfl) (fun _ _ _ => rfl)
    (fun t => by rw [after_down]; unfold Dat.blockOf iblk; rfl) t d).trans (by unfold Dat.fetched Dat.blockOf iblk; rfl)

/-! ## One point of the walk -/

/-- Each window's staging buffer at a point, and that it is a whole buffer. -/
abbrev stg0 (t : Fin T.cfg.N) : Memref sig .tc .vmem S512x1024 .i32 := spec0_0.stage (T.cfg.slots t (0 : Fin 5))
abbrev hstg0 (t : Fin T.cfg.N) : (stg0 T t).IsWhole := hstage0_0 ((T.cfg.slots t (0 : Fin 5)).cast nbuf0_0)
abbrev stg1 (t : Fin T.cfg.N) : Memref sig .tc .vmem S1x1x2048x512 .f32 := spec0_1.stage (T.cfg.slots t (1 : Fin 5))
abbrev hstg1 (t : Fin T.cfg.N) : (stg1 T t).IsWhole := hstage0_1 ((T.cfg.slots t (1 : Fin 5)).cast nbuf0_1)
abbrev stg2 (t : Fin T.cfg.N) : Memref sig .tc .vmem S1x1x2048x512 .f32 := spec0_2.stage (T.cfg.slots t (2 : Fin 5))
abbrev hstg2 (t : Fin T.cfg.N) : (stg2 T t).IsWhole := hstage0_2 ((T.cfg.slots t (2 : Fin 5)).cast nbuf0_2)
abbrev stg3 (t : Fin T.cfg.N) : Memref sig .tc .vmem S1x1x512x2048 .f32 := spec0_3.stage (T.cfg.slots t (3 : Fin 5))
abbrev hstg3 (t : Fin T.cfg.N) : (stg3 T t).IsWhole := hstage0_3 ((T.cfg.slots t (3 : Fin 5)).cast nbuf0_3)
abbrev stg4 (t : Fin T.cfg.N) : Memref sig .tc .vmem S1024x1024 .bf16 := spec0_4.stage (T.cfg.slots t (4 : Fin 5))
abbrev hstg4 (t : Fin T.cfg.N) : (stg4 T t).IsWhole := hstage0_4 ((T.cfg.slots t (4 : Fin 5)).cast nbuf0_4)

set_option maxHeartbeats 4000000 in
/-- ONE POINT: from the invariant and the staging buffers with the point's blocks, the visit leaves the next point's invariant, the
    blocks and the point's block of the result. -/
theorem point (c : Dev nD) (t : Fin T.cfg.N) :
    iprop((dats T m ρ 0 c).Φ t.castSucc ∗ (dats T m ρ 0 c).owesAt () t.castSucc
        ∗ (∃ d, owns (c : Thread nD τ) (stg0 T t) fullShare ((dats T m ρ 0 c).before (0 : Fin 5) t d))
        ∗ (∃ d, owns (c : Thread nD τ) (stg1 T t) fullShare ((dats T m ρ 0 c).before (1 : Fin 5) t d))
        ∗ (∃ d, owns (c : Thread nD τ) (stg2 T t) fullShare ((dats T m ρ 0 c).before (2 : Fin 5) t d))
        ∗ (∃ d, owns (c : Thread nD τ) (stg3 T t) fullShare ((dats T m ρ 0 c).before (3 : Fin 5) t d))
        ∗ (∃ d, owns (c : Thread nD τ) (stg4 T t) fullShare ((dats T m ρ 0 c).before (4 : Fin 5) t d)))
      ⊢ wp frame (wpE (defs₀ (F := Ideal)) Variants.none c none) Set.univ
          (cc0_routed_experts (F := Ideal) (T.cfg.grid.coords t) expertTable (Memref.isWhole_whole _) usedTable (Memref.isWhole_whole _)
            (stg0 T t) (hstg0 T t) (stg1 T t) (hstg1 T t) (stg2 T t) (hstg2 T t) (stg3 T t) (hstg3 T t) (stg4 T t) (hstg4 T t)
            gateScratch (Memref.isWhole_whole _) upScratch (Memref.isWhole_whole _) downScratch (Memref.isWhole_whole _)) fun _ =>
          iprop((dats T m ρ 0 c).Φ t.succ ∗ (dats T m ρ 0 c).owesAt () t.succ
            ∗ bigSep Finset.univ fun w : Fin T.cfg.W =>
                match T.cfg.idle w (T.cfg.grid.coords t) with
                | true =>
                  match (T.cfg.win w).flush t with
                  | false => iprop(∃ d, owns (c : Thread nD τ) ((T.cfg.win w).stage (T.cfg.slots t w)) fullShare ((dats T m ρ 0 c).before w t d))
                  | true => owns (c : Thread nD τ) ((T.cfg.win w).stage (T.cfg.slots t w)) fullShare ((dats T m ρ 0 c).after w t)
                | false => owns (c : Thread nD τ) ((T.cfg.win w).stage (T.cfg.slots t w)) fullShare ((dats T m ρ 0 c).after w t)) := by
  have ht : t.val < 328 := t.isLt
  rw [bigSep_W0]
  rewrite [stores_result T t]
  simp only [before_rows, before_gate, before_up, before_down, after_rows, after_gate, after_up, after_down, after_result]
  rewrite [show (dats T m ρ 0 c).Φ t.succ = Inv T m c (t.val + 1) from rfl, show (dats T m ρ 0 c).Φ t.castSucc = Inv T m c t.val from rfl,
    show (dats T m ρ 0 c).owesAt () t.succ = (dats T m ρ 0 c).owesAt () t.castSucc from rfl]
  have hrow := iblk_rows T m ρ c t
  have hgate := iblk_gate T m ρ c t
  have hup := iblk_up T m ρ c t
  have hdown := iblk_down T m ρ c t
  rw [hrow, hgate, hup, hdown]
  have hres : visitBlock (InUse (T.cfg.grid.coords t) T.used) (rowsBlock m c (min t.val (T.count - 1))) (k0_pay1 (F := Ideal) (gateBlock m c (T.expertOf t.val)))
      (k0_pay2 (F := Ideal) (upBlock m c (T.expertOf t.val))) (k0_pay3 (F := Ideal) (downBlock m c (T.expertOf t.val))) = resultBlock T m c t.val :=
    visitBlock_congr (by rw [inUse_iff, number_coords]) _ _ _ _
  have hkept : ¬ Refills (T.cfg.grid.coords t) T.expert → t.val ≠ 0 ∧ T.expertOf (t.val - 1) = T.expertOf t.val := fun h => by
    obtain ⟨h0, h1⟩ := kept T _ h
    rw [number_coords] at h0
    refine ⟨h0, ?_⟩
    rw [expertOf_coords] at h1
    rw [h1]
    refine congrArg T.expertAt (Fin.ext ?_)
    show (t.val - 1) % 328 = (number (T.cfg.grid.coords t)).val - 1
    rw [number_coords]; omega
  unfold Inv
  iintro ⟨⟨%s0, %s1, %s2, %hs, HS0, HS1, HS2, HT0, HT1⟩, Ho, ⟨%d0, H0⟩, ⟨%d1, H1⟩, ⟨%d2, H2⟩, ⟨%d3, H3⟩, ⟨%d4, H4⟩⟩
  iapply (visit c (T.cfg.grid.coords t) (stg0 T t) (hstg0 T t) (stg1 T t) (hstg1 T t) (stg2 T t) (hstg2 T t) (stg3 T t) (hstg3 T t) (stg4 T t) (hstg4 T t)
    T.expert T.used (rowsBlock m c (min t.val (T.count - 1))) (gateBlock m c (T.expertOf t.val)) (upBlock m c (T.expertOf t.val)) (downBlock m c (T.expertOf t.val))
    s0 s1 s2 (fun h => by obtain ⟨h0, h1⟩ := hkept h; have := hs h0; rw [h1] at this; exact this))
  unfold Before After
  isplitl [H0 H1 H2 H3 HT0 HT1 H4 HS0 HS1 HS2]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iexact HS2
  rw [hres]
  iintro ⟨H0, H1, H2, H3, HT0, HT1, H4, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    · ipureintro; intro _; exact ⟨rfl, rfl, rfl⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

end Cert.Kernel2Ideal.Experts

end
-- ==== Proof.ExpertsLaunch.lean ====
/- THE ROUTED EXPERTS' PROGRAM RUN FROM A LAUNCH MEMORY whose two integer arguments are tables `Tables` admits: every execution
   ends with the arguments unchanged, every semaphore at zero (`frame`) and the result array at what the walk writes (`run`). -/
module

public import proofs.«01_k».proof.Proof.ExpertsFrame

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tables) (m : (ℓ : Loc nD τ sig) → Buf (Elt Ideal) ℓ) (ρ : Dev nD → PrngReg)

/-- The launch memory's two integer arguments are the tables. -/
def Holds : Prop :=
  (∀ c : Dev nD, m ((c : Thread nD τ).loc main_arg0) = T.expert) ∧ ∀ c : Dev nD, m ((c : Thread nD τ).loc main_arg1) = T.used

/-- The walk is safe at every point. -/
theorem body (c : Dev nD) : BodyObligation (dats T m ρ 0 c) (defs₀ (F := Ideal)) Variants.none () Set.univ := fun t => by
  rw [bigSep_W0]
  exact point T m ρ c t

/-- Where the resource algebra of the rounds sits in the whole. -/
abbrev embedding : Emb (UR sig nD τ) 𝕄 := emb₁

/-- The one pipeline at these tables. -/
abbrev pipes : Fin 1 → Pipeline.Cfg sig Λ₀ := Pipeline.pin (pcfgs (F := Ideal)) fun _ => T.adm

/-- The resource the launch starts with. -/
def startElement : UR sig nD τ :=
  initOf (Pipeline.cells (pipes T) ((launch0 (F := Ideal)).cellOf_inj fun _ => T.adm))
    (Pipeline.launchToks (pipes T) ((launch0 (F := Ideal)).cellOf_inj fun _ => T.adm))

/-- Every array is held whole. -/
theorem share_full (c : Dev nD) (w : Fin T.cfg.W) : (dats T m ρ 0 c).share w = fullShare := by unfold Dat.share; split <;> rfl

/-- The tables as the launch hands them over, one by one. -/
theorem held_tables (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

/-- A whole scratch buffer held with some contents is owned with what the contents read as. -/
theorem owns_of_whole {b : Ref sig .tc} {sp : Space} {s : Shape} {e : EltTy} (c : Dev nD) (M : Memref sig .tc sp s e) (h : M.IsWhole)
    (f : Buf (Elt Ideal) (M.view.loc (c : Thread nD τ))) :
    (iprop(M.view.loc (c : Thread nD τ) ↦{fullShare} f) : sProp 𝕄) ⊢ owns (c : Thread nD τ) M fullShare (M.view.read (Elt Ideal) f) := by
  unfold owns
  rw [h.set_eq_univ]
  iintro H
  iexists f
  isplitr; swap
  · iexact H
  · ipureintro; rfl

/-- The invariant before the first point, from the tables and the scratch buffers as they are. -/
theorem start (c : Dev nD) :
    iprop(BI.emp ∗ Pipeline.prefHeld pre0 c (fun _ => fullShare.right) T.adm.1 ∗ Pipeline.scopedRest spec0 c) ⊢ (dats T m ρ 0 c).Φ 0 := by
  rw [held_tables, scopedRest0_eq, show (dats T m ρ 0 c).Φ 0 = Inv T m c 0 from rfl]
  unfold Inv
  iintro ⟨-, ⟨HT0, HT1⟩, ⟨%a0, HS0⟩, ⟨%a1, HS1⟩, ⟨%a2, HS2⟩⟩
  iexists _; iexists _; iexists _
  isplitr; swap
  · isplitl [HS0]; · iapply (owns_of_whole (b := cc0_scratch0) c gateScratch (Memref.isWhole_whole _) a0); iexact HS0
    isplitl [HS1]; · iapply (owns_of_whole (b := cc0_scratch1) c upScratch (Memref.isWhole_whole _) a1); iexact HS1
    isplitl [HS2]; · iapply (owns_of_whole (b := cc0_scratch2) c downScratch (Memref.isWhole_whole _) a2); iexact HS2
    isplitl [HT0]; · iexact HT0
    iexact HT1
  · ipureintro; intro h; exact absurd rfl h

/-- A scratch buffer owned is held with some contents. -/
theorem whole_of_owns {sp : Space} {s : Shape} {e : EltTy} (c : Dev nD) (M : Memref sig .tc sp s e) (h : M.IsWhole) (x : s.Idx → Elt Ideal e) :
    (owns (c : Thread nD τ) M fullShare x : sProp 𝕄) ⊢ iprop(∃ f, M.view.loc (c : Thread nD τ) ↦{fullShare} f) := by
  unfold owns
  rw [h.set_eq_univ]
  iintro ⟨%f, -, H⟩
  iexists f
  iexact H

/-- The invariant after the last point gives the scratch buffers back. -/
theorem finish (c : Dev nD) : (dats T m ρ 0 c).Φ (Fin.last T.cfg.N) ⊢ iprop(BI.emp ∗ Pipeline.scopedRest spec0 c) := by
  rw [scopedRest0_eq, show (dats T m ρ 0 c).Φ (Fin.last T.cfg.N) = Inv T m c T.cfg.N from rfl]
  unfold Inv
  iintro ⟨%s0, %s1, %s2, -, HS0, HS1, HS2, -, -⟩
  isplitr; · iempintro
  isplitl [HS0]; · iapply (whole_of_owns c gateScratch (Memref.isWhole_whole _) s0); iexact HS0
  isplitl [HS1]; · iapply (whole_of_owns c upScratch (Memref.isWhole_whole _) s1); iexact HS1
  iapply (whole_of_owns c downScratch (Memref.isWhole_whole _) s2); iexact HS2

/-- What a run ends with: every array as the walk leaves it, every table as it was. -/
def Ends : PUnit × MemSt nD τ sig (Elt Ideal) → Prop := fun r =>
  ∀ c : Dev nD, (∀ w : Fin T.cfg.W, r.2.mem ((T.cfg.win w).arr.view.loc (c : Thread nD τ)) = (dats T m ρ 0 c).arrAt w T.cfg.N)
    ∧ ∀ j, r.2.mem ((c : Thread nD τ).loc (pre0.ref j)) = T.adm.1 j

/-- The tables the region reads are those of the launch memory. -/
theorem tables_read (h : Holds T m) (c : Dev nD) (j : Fin 2) : m ((c : Thread nD τ).loc (pre0.ref j)) = T.adm.1 j := by
  fin_cases j
  · exact h.1 c
  · exact h.2 c

set_option backward.isDefEq.respectTransparency.types false in
set_option maxHeartbeats 4000000 in
/-- EVERY EXECUTION ends as `Ends` says, with every semaphore at zero. -/
theorem run_all (h : Holds T m) : θ_run (defs (F := Ideal)) (onTc (τ := τ) (main (F := Ideal))) (s₀ m ρ) (fun r => Ends T m ρ r ∧ r.2.sem = fun _ => 0) :=
  Pipeline.θ_run_region_noSem_pf_quiescent pcfgs (fun _ => T.adm) (dats T m ρ) () ((launch0 (F := Ideal)).cellOf_inj fun _ => T.adm) (0 : Fin 1)
    (launch0 (F := Ideal)).win.to₀ (launch0 (F := Ideal)).pre embedding defs₀ Variants.none m ρ main
    (hbody := fun c => (body T m ρ c).loose) (hne := (launch0 (F := Ideal)).block_pos)
    (harr := (launch0 (F := Ideal)).arr_whole) (hstage := (launch0 (F := Ideal)).stage_whole) (howed := fun _ _ => rfl)
    (u₀ := startElement T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes T) (dats T m ρ) 0 (launch0 (F := Ideal)).win.arr_inj c (launch0 (F := Ideal)).arr_whole
      (share_full T m ρ c) _ _ fun _ => rfl)
    (hpf := tables_read T m h)
    (X := fun _ => iprop(emp)) (Y := fun _ => iprop(emp)) (Z := fun _ => iprop(emp))
    (hX := fun c => by rw [unscopedRestP0_eq]; iintro -; isplitr <;> iempintro)
    (hin := start T m ρ)
    (hout := finish T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- THE FRAME: every execution ends, the arguments unchanged and every semaphore at zero. -/
theorem frame (h : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨((hr.1 c).2 0).trans (h.1 c).symm, ((hr.1 c).2 1).trans (h.2 c).symm,
    ((hr.1 c).1 (0 : Fin 5)).trans ((dats T m ρ 0 c).arrAt_in (0 : Fin 5) rfl _),
    ((hr.1 c).1 (1 : Fin 5)).trans ((dats T m ρ 0 c).arrAt_in (1 : Fin 5) rfl _),
    ((hr.1 c).1 (2 : Fin 5)).trans ((dats T m ρ 0 c).arrAt_in (2 : Fin 5) rfl _),
    ((hr.1 c).1 (3 : Fin 5)).trans ((dats T m ρ 0 c).arrAt_in (3 : Fin 5) rfl _)⟩, hr.2⟩) (run_all T m ρ h)

end Cert.Kernel2Ideal.Experts

end
-- ==== Proof.ExpertsBitsRun.lean ====
/- ONE VISIT OF THE ROUTED EXPERTS' KERNEL, over the machine's floats.

   The kernel walks 328 blocks of 512 rows. At each block it reads the table of experts: when the block is the first or its
   expert differs from the last block's, it rounds the expert's three weight matrices into three scratch buffers. It then reads
   the number of blocks in use: below it, it runs the block's rows through the expert in the scratch buffers; from it on, it
   writes zeros. This module states what ONE visit leaves, for any tables. -/
module

public import proofs.«01_k».proof.Proof.Gen.Kernel2.Skeleton
public import proofs.«01_k».proof.Proof.Gen.Kernel2.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The table of experts, a word per block. -/
abbrev expertTable : Memref sig .tc .smem S328 .i32 := Memref.whole main_arg0
/-- The number of blocks in use, one word. -/
abbrev usedTable : Memref sig .tc .smem S1 .i32 := Memref.whole main_arg1
/-- The scratch buffer of the rounded gate weights. -/
abbrev gateScratch : Memref sig .tc .vmem S2048x512 .bf16 := Memref.whole cc0_scratch0
/-- The scratch buffer of the rounded up weights. -/
abbrev upScratch : Memref sig .tc .vmem S2048x512 .bf16 := Memref.whole cc0_scratch1
/-- The scratch buffer of the rounded down weights. -/
abbrev downScratch : Memref sig .tc .vmem S512x2048 .bf16 := Memref.whole cc0_scratch2

/-- The word the kernel reads as the block's own expert. -/
abbrev ownWord (i : grid0.Coords) (T0 : S328.Idx → BitVec 32) : BitVec 32 :=
  View.readAt (Elt Bits) expertTable.view (Rect.unit (s := S328) (k0_off1 i) S1.size (k0_off1_inb i)).toLoadRect T0 (Shape.Idx.first (numel1_S1.symm ▸ Nat.one_pos))

/-- The word the kernel reads as the last block's expert. -/
abbrev lastWord (i : grid0.Coords) (T0 : S328.Idx → BitVec 32) : BitVec 32 :=
  View.readAt (Elt Bits) expertTable.view (Rect.unit (s := S328) (k0_off2 i) S1.size (k0_off2_inb i)).toLoadRect T0 (Shape.Idx.first (numel1_S1.symm ▸ Nat.one_pos))

/-- The word the kernel reads as the number of blocks in use. -/
abbrev usedWord (T1 : S1.Idx → BitVec 32) : BitVec 32 :=
  View.readAt (Elt Bits) usedTable.view (Rect.unit (s := S1) ![0] S1.size inb_S1_S1_0).toLoadRect T1 (Shape.Idx.first (numel1_S1.symm ▸ Nat.one_pos))

/-- The kernel refills its scratch buffers at this block. -/
abbrev Refills (i : grid0.Coords) (T0 : S328.Idx → BitVec 32) : Prop :=
  Scalar.cmpi .ne (Scalar.extui (Scalar.ori (Scalar.cmpi .eq (BitVec.ofNat 32 (i 0).val) 0#32) (Scalar.cmpi .ne (ownWord i T0) (lastWord i T0)))) 0#32 = 1#1

/-- The block is one of those in use, as the kernel decides it. -/
abbrev InUse (i : grid0.Coords) (T1 : S1.Idx → BitVec 32) : Prop := k0_cond2 i (usedWord T1) = 1#1

/-- A word's comparison with another, widened and tested against zero, is the comparison. -/
theorem test_ofBool (b : Bool) : Scalar.cmpi .ne (Scalar.extui (BitVec.ofBool b) : BitVec 32) 0#32 = 1#1 ↔ b = true := by
  cases b <;> decide

/-- The block is in use exactly when its number is below the number of blocks in use, the words read as signed. -/
theorem cond2_iff (i : grid0.Coords) (w : BitVec 32) : k0_cond2 i w = 1#1 ↔ (BitVec.ofNat 32 (i 0).val).slt w = true := by
  rw [← test_ofBool]; rfl

/-- The second test of the kernel is the first one's opposite. -/
theorem cond3_iff (i : grid0.Coords) (w : BitVec 32) : k0_cond3 i w = 1#1 ↔ ¬ k0_cond2 i w = 1#1 := by
  have h : k0_cond3 i w = 1#1 ↔ w.sle (BitVec.ofNat 32 (i 0).val) = true := by
    rw [← test_ofBool]; rfl
  rw [h, cond2_iff, BitVec.sle_iff_toInt_le, BitVec.slt_iff_toInt_lt, not_lt]

/-- The block of the result a visit leaves: the rows through the expert when the block is in use, zeros else. -/
def visitBlock (used : Prop) [Decidable used] (x : S512x1024.Idx → BitVec 32) (wg wu : FVec Bits S2048x512 .bf16) (wd : FVec Bits S512x2048 .bf16) :
    S1024x1024.Idx → Elt Bits .bf16 :=
  if used then k0_pay4 (F := Bits) x wg wu wd else k0_pay5 (F := Bits)

variable (c : Dev nD) (i : grid0.Coords)
  (arg3 : Memref sig .tc .vmem S512x1024 .i32) (harg3 : arg3.IsWhole)
  (arg4 : Memref sig .tc .vmem S1x1x2048x512 .f32) (harg4 : arg4.IsWhole)
  (arg5 : Memref sig .tc .vmem S1x1x2048x512 .f32) (harg5 : arg5.IsWhole)
  (arg6 : Memref sig .tc .vmem S1x1x512x2048 .f32) (harg6 : arg6.IsWhole)
  (arg7 : Memref sig .tc .vmem S1024x1024 .bf16) (harg7 : arg7.IsWhole)
  (T0 : S328.Idx → BitVec 32) (T1 : S1.Idx → BitVec 32)
  (x0 : S512x1024.Idx → BitVec 32) (x1 x2 : S1x1x2048x512.Idx → Elt Bits .f32) (x3 : S1x1x512x2048.Idx → Elt Bits .f32)

/-- What a visit holds when it starts: the block's inputs, the tables, the result's buffer, and the scratch buffers with `s0`, `s1`, `s2`. -/
def Before (s0 s1 : FVec Bits S2048x512 .bf16) (s2 : FVec Bits S512x2048 .bf16) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (expertTable.view.loc (c : Thread nD τ) ↦{fullShare.right} T0)
    ∗ (usedTable.view.loc (c : Thread nD τ) ↦{fullShare.right} T1)
    ∗ (∃ d, owns (c : Thread nD τ) arg7 fullShare d)
    ∗ owns (c : Thread nD τ) gateScratch fullShare s0
    ∗ owns (c : Thread nD τ) upScratch fullShare s1
    ∗ owns (c : Thread nD τ) downScratch fullShare s2)

/-- What a visit holds when it ends: the inputs and tables as they were, the scratch buffers with the expert's rounded weights,
    and the block of the result. -/
def After : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (expertTable.view.loc (c : Thread nD τ) ↦{fullShare.right} T0)
    ∗ (usedTable.view.loc (c : Thread nD τ) ↦{fullShare.right} T1)
    ∗ owns (c : Thread nD τ) arg7 fullShare
        (visitBlock (InUse i T1) x0 (k0_pay1 (F := Bits) x1) (k0_pay2 (F := Bits) x2) (k0_pay3 (F := Bits) x3))
    ∗ owns (c : Thread nD τ) gateScratch fullShare (k0_pay1 (F := Bits) x1)
    ∗ owns (c : Thread nD τ) upScratch fullShare (k0_pay2 (F := Bits) x2)
    ∗ owns (c : Thread nD τ) downScratch fullShare (k0_pay3 (F := Bits) x3))

/-- The block's computation depends only on its four operands. -/
theorem pay4_congr {x x' : S512x1024.Idx → BitVec 32} {g g' u u' : FVec Bits S2048x512 .bf16} {d d' : FVec Bits S512x2048 .bf16}
    (hx : x = x') (hg : g = g') (hu : u = u') (hd : d = d') : k0_pay4 (F := Bits) x g u d = k0_pay4 (F := Bits) x' g' u' d' := by
  rw [hx, hg, hu, hd]

set_option maxHeartbeats 4000000 in
/-- ONE VISIT: when the scratch buffers hold the expert's weights already or the visit refills them, it ends in `After`. -/
theorem visit (s0 s1 : FVec Bits S2048x512 .bf16) (s2 : FVec Bits S512x2048 .bf16)
    (hs : ¬ Refills i T0 → s0 = k0_pay1 (F := Bits) x1 ∧ s1 = k0_pay2 (F := Bits) x2 ∧ s2 = k0_pay3 (F := Bits) x3)
    (Q : PUnit → sProp 𝕄) :
    iprop(Before c arg3 arg4 arg5 arg6 arg7 T0 T1 x0 x1 x2 x3 s0 s1 s2
        ∗ (After c i arg3 arg4 arg5 arg6 arg7 T0 T1 x0 x1 x2 x3 -∗ Q ⟨⟩))
      ⊢ wp frame (wpE (defs₀ (F := Bits)) Variants.none c none) Set.univ
          (cc0_routed_experts (F := Bits) i expertTable (Memref.isWhole_whole _) usedTable (Memref.isWhole_whole _) arg3 harg3 arg4 harg4 arg5 harg5 arg6 harg6 arg7 harg7
            gateScratch (Memref.isWhole_whole _) upScratch (Memref.isWhole_whole _) downScratch (Memref.isWhole_whole _)) Q := by
  rw [cc0_routed_experts_eq_skeleton]
  unfold Before After visitBlock
  have hS0 : gateScratch.IsWhole := Memref.isWhole_whole _
  have hS1 : upScratch.IsWhole := Memref.isWhole_whole _
  have hS2 : downScratch.IsWhole := Memref.isWhole_whole _
  have hT0 : expertTable.IsWhole := Memref.isWhole_whole _
  have hT1 : usedTable.IsWhole := Memref.isWhole_whole _
  by_cases hr : Refills i T0
  · by_cases hu : InUse i T1
    · have hc0 := hr
      have k0_h2 := hu
      have k0_h3 : ¬ k0_cond3 i (usedWord T1) = 1#1 := fun h => (cond3_iff i _).1 h hu
      rw [if_pos hu]
      unfold cc0_routed_experts_skel owns
      iintro ⟨⟨H0, H1, H2, H3, HT0, HT1, ⟨%d, %f4, %hf4, H4⟩, ⟨%f0, %hf0, HS0⟩, ⟨%f1, %hf1, HS1⟩, ⟨%f2, %hf2, HS2⟩⟩, Hk⟩
      sl_exec! (disch := first
        | (guard_target = Scalar.cmpi _ _ _ = _; exact hc0)
        | (guard_target = k0_cond2 _ _ = _; exact k0_h2)
        | (guard_target = ¬(k0_cond3 _ _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · iexists _; isplitr; swap
        · iexact H4
        · ipureintro; sl_unfold_words
          exact (View.read_writes_full _ _ _ _ _).trans (pay4_congr (View.readAt_rep_full _ _ _)
            (((View.readCov_full _ _ _ _ _).trans (congrArg (k0_pay1 (F := Bits)) (View.readAt_rep_full _ _ _))))
            (((View.readCov_full _ _ _ _ _).trans (congrArg (k0_pay2 (F := Bits)) (View.readAt_rep_full _ _ _))))
            (((View.readCov_full _ _ _ _ _).trans (congrArg (k0_pay3 (F := Bits)) (View.readAt_rep_full _ _ _)))))
      isplitl [HS0]
      · iexists _; isplitr; swap
        · iexact HS0
        · ipureintro; sl_unfold_words; exact (View.read_writes_full _ _ _ _ _).trans (congrArg (k0_pay1 (F := Bits)) (View.readAt_rep_full _ _ _))
      isplitl [HS1]
      · iexists _; isplitr; swap
        · iexact HS1
        · ipureintro; sl_unfold_words; exact (View.read_writes_full _ _ _ _ _).trans (congrArg (k0_pay2 (F := Bits)) (View.readAt_rep_full _ _ _))
      iexists _; isplitr; swap
      · iexact HS2
      · ipureintro; sl_unfold_words; exact (View.read_writes_full _ _ _ _ _).trans (congrArg (k0_pay3 (F := Bits)) (View.readAt_rep_full _ _ _))
    · have hc0 := hr
      have k0_h2 := hu
      have k0_h3 : k0_cond3 i (usedWord T1) = 1#1 := (cond3_iff i _).2 hu
      rw [if_neg hu]
      unfold cc0_routed_experts_skel owns
      iintro ⟨⟨H0, H1, H2, H3, HT0, HT1, ⟨%d, %f4, %hf4, H4⟩, ⟨%f0, %hf0, HS0⟩, ⟨%f1, %hf1, HS1⟩, ⟨%f2, %hf2, HS2⟩⟩, Hk⟩
      sl_exec! (disch := first
        | (guard_target = Scalar.cmpi _ _ _ = _; exact hc0)
        | (guard_target = ¬(k0_cond2 _ _ = _); exact k0_h2)
        | (guard_target = k0_cond3 _ _ = _; exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · iexists _; isplitr; swap
        · iexact H4
        · ipureintro; sl_unfold_words
          exact View.read_writes_full _ _ _ _ _
      isplitl [HS0]
      · iexists _; isplitr; swap
        · iexact HS0
        · ipureintro; sl_unfold_words; exact (View.read_writes_full _ _ _ _ _).trans (congrArg (k0_pay1 (F := Bits)) (View.readAt_rep_full _ _ _))
      isplitl [HS1]
      · iexists _; isplitr; swap
        · iexact HS1
        · ipureintro; sl_unfold_words; exact (View.read_writes_full _ _ _ _ _).trans (congrArg (k0_pay2 (F := Bits)) (View.readAt_rep_full _ _ _))
      iexists _; isplitr; swap
      · iexact HS2
      · ipureintro; sl_unfold_words; exact (View.read_writes_full _ _ _ _ _).trans (congrArg (k0_pay3 (F := Bits)) (View.readAt_rep_full _ _ _))
  · by_cases hu : InUse i T1
    · have hc0 := hr
      have k0_h2 := hu
      have k0_h3 : ¬ k0_cond3 i (usedWord T1) = 1#1 := fun h => (cond3_iff i _).1 h hu
      rw [if_pos hu]
      unfold cc0_routed_experts_skel owns
      iintro ⟨⟨H0, H1, H2, H3, HT0, HT1, ⟨%d, %f4, %hf4, H4⟩, ⟨%f0, %hf0, HS0⟩, ⟨%f1, %hf1, HS1⟩, ⟨%f2, %hf2, HS2⟩⟩, Hk⟩
      obtain ⟨e0, e1, e2⟩ := hs hr
      rw [e0] at hf0; rw [e1] at hf1; rw [e2] at hf2
      sl_exec! (disch := first
        | (guard_target = ¬(Scalar.cmpi _ _ _ = _); exact hc0)
        | (guard_target = k0_cond2 _ _ = _; exact k0_h2)
        | (guard_target = ¬(k0_cond3 _ _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · iexists _; isplitr; swap
        · iexact H4
        · ipureintro; sl_unfold_words
          exact (View.read_writes_full _ _ _ _ _).trans (pay4_congr (View.readAt_rep_full _ _ _)
            ((View.readAt_full _ _ _).trans hf0) ((View.readAt_full _ _ _).trans hf1) ((View.readAt_full _ _ _).trans hf2))
      isplitl [HS0]
      · iexists _; isplitr; swap
        · iexact HS0
        · ipureintro; exact hf0
      isplitl [HS1]
      · iexists _; isplitr; swap
        · iexact HS1
        · ipureintro; exact hf1
      iexists _; isplitr; swap
      · iexact HS2
      · ipureintro; exact hf2
    · have hc0 := hr
      have k0_h2 := hu
      have k0_h3 : k0_cond3 i (usedWord T1) = 1#1 := (cond3_iff i _).2 hu
      rw [if_neg hu]
      unfold cc0_routed_experts_skel owns
      iintro ⟨⟨H0, H1, H2, H3, HT0, HT1, ⟨%d, %f4, %hf4, H4⟩, ⟨%f0, %hf0, HS0⟩, ⟨%f1, %hf1, HS1⟩, ⟨%f2, %hf2, HS2⟩⟩, Hk⟩
      obtain ⟨e0, e1, e2⟩ := hs hr
      rw [e0] at hf0; rw [e1] at hf1; rw [e2] at hf2
      sl_exec! (disch := first
        | (guard_target = ¬(Scalar.cmpi _ _ _ = _); exact hc0)
        | (guard_target = ¬(k0_cond2 _ _ = _); exact k0_h2)
        | (guard_target = k0_cond3 _ _ = _; exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · iexists _; isplitr; swap
        · iexact H4
        · ipureintro; sl_unfold_words
          exact View.read_writes_full _ _ _ _ _
      isplitl [HS0]
      · iexists _; isplitr; swap
        · iexact HS0
        · ipureintro; exact hf0
      isplitl [HS1]
      · iexists _; isplitr; swap
        · iexact HS1
        · ipureintro; exact hf1
      iexists _; isplitr; swap
      · iexact HS2
      · ipureintro; exact hf2

end Cert.Kernel2.Experts

end
-- ==== Proof.ExpertsBitsFrame.lean ====
/- THE ROUTED EXPERTS' KERNEL RUN WHOLE: the walk over the 328 blocks at any tables `Tables` admits.

   The invariant between visits: the scratch buffers hold the rounded weights of the last block's expert. From one visit
   (`visit`) and the invariant: every execution ends, the arguments unchanged and every semaphore at zero (`frame`), and the
   result array holds what the visits' blocks write (`run`). -/
module

public import proofs.«01_k».proof.Proof.ExpertsBitsTables
public import Idealize.ShloMosaic.Lib.Pipeline.ValueKit

@[expose] public section

set_option maxRecDepth 16384
set_option Elab.async false

noncomputable section

namespace Cert.Kernel2.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (T : Tables) (m : (ℓ : Loc nD τ sig) → Buf (Elt Bits) ℓ) (ρ : Dev nD → PrngReg)

/-! ## The blocks of the arguments -/

/-- The expert of the block numbered `n`. -/
def Tables.expertOf (n : ℕ) : Fin 64 := T.expertAt ⟨n % 328, Nat.mod_lt _ (by omega)⟩

theorem expertOf_coords (t : Fin T.cfg.N) : T.expertAt (number (T.cfg.grid.coords t)) = T.expertOf t.val := by
  have ht : t.val < 328 := t.isLt
  exact congrArg T.expertAt (Fin.ext ((number_coords T t).trans (Nat.mod_eq_of_lt ht).symm))

/-- Rows `512 n` to `512 n + 511` of the words. -/
def rowsBlock (c : Dev nD) (n : ℕ) : S512x1024.Idx → BitVec 32 :=
  fun y => m ((c : Thread nD τ).loc main_arg2) (ix2 ⟨(n * 512 + (y 0).val) % 167936, Nat.mod_lt _ (by omega)⟩ (y 1))

/-- Expert `e`'s gate weights. -/
def gateBlock (c : Dev nD) (e : Fin 64) : S1x1x2048x512.Idx → Elt Bits .f32 :=
  fun y => m ((c : Thread nD τ).loc main_arg3) (ix4 ⟨0, by omega⟩ e (y 2) (y 3))

/-- Expert `e`'s up weights. -/
def upBlock (c : Dev nD) (e : Fin 64) : S1x1x2048x512.Idx → Elt Bits .f32 :=
  fun y => m ((c : Thread nD τ).loc main_arg4) (ix4 ⟨0, by omega⟩ e (y 2) (y 3))

/-- Expert `e`'s down weights. -/
def downBlock (c : Dev nD) (e : Fin 64) : S1x1x512x2048.Idx → Elt Bits .f32 :=
  fun y => m ((c : Thread nD τ).loc main_arg5) (ix4 ⟨0, by omega⟩ e (y 2) (y 3))

/-- Window `w`'s block at a point, read off its array. -/
def iblk (c : Dev nD) (w : Fin T.cfg.W) (t : Fin T.cfg.N) : ((T.cfg.win w).xblock (T.cfg.grid.coords t)).Idx → Elt Bits (T.cfg.win w).elt :=
  ((T.cfg.win w).blk t).view.read (Elt Bits) ((s₀ m ρ).mem ((T.cfg.win w).arr.view.loc (c : Thread nD τ)))

theorem iblk_rows (c : Dev nD) (t : Fin T.cfg.N) : iblk T m ρ c (0 : Fin 5) t = rowsBlock m c (min t.val (T.count - 1)) := by
  have hx : ∀ a, (T.cfg.win (0 : Fin 5)).index t a = ![min t.val (T.count - 1), 0] a := fun a => by
    show cc0_transform_0 inb_S1_S1_0 numel1_S1 T.contents (T.cfg.grid.coords t) a = _
    rw [rows_index, number_coords]
  have ht : t.val < 328 := t.isLt
  funext y
  refine congrArg (m ((c : Thread nD τ).loc main_arg2)) (funext fun a => Fin.ext ?_)
  refine ((T.cfg.win (0 : Fin 5)).rect_emb_val t y a).trans ?_
  rw [hx]
  fin_cases a
  · have hy : (y 0).val < 512 := (y 0).isLt
    show min t.val (T.count - 1) * 512 + (y 0).val = (min t.val (T.count - 1) * 512 + (y 0).val) % 167936
    omega
  · show 0 * 1024 + (y 1).val = (y 1).val
    omega

theorem iblk_gate (c : Dev nD) (t : Fin T.cfg.N) : iblk T m ρ c (1 : Fin 5) t = gateBlock m c (T.expertOf t.val) := by
  have hx : ∀ a, (T.cfg.win (1 : Fin 5)).index t a = ![0, (T.expertOf t.val).val, 0, 0] a := fun a => by
    show cc0_transform_1 k0_off1_inb numel1_S1 T.contents (T.cfg.grid.coords t) a = _
    rw [gate_index, expertOf_coords]
  funext y
  refine congrArg (m ((c : Thread nD τ).loc main_arg3)) (funext fun a => Fin.ext ?_)
  refine ((T.cfg.win (1 : Fin 5)).rect_emb_val t y a).trans ?_
  rw [hx]
  fin_cases a
  · have hy : (y 0).val < 1 := (y 0).isLt
    show 0 * 1 + (y 0).val = 0
    omega
  · have hy : (y 1).val < 1 := (y 1).isLt
    show (T.expertOf t.val).val * 1 + (y 1).val = (T.expertOf t.val).val
    omega
  · show 0 * 2048 + (y 2).val = (y 2).val
    omega
  · show 0 * 512 + (y 3).val = (y 3).val
    omega

theorem iblk_up (c : Dev nD) (t : Fin T.cfg.N) : iblk T m ρ c (2 : Fin 5) t = upBlock m c (T.expertOf t.val) := by
  have hx : ∀ a, (T.cfg.win (2 : Fin 5)).index t a = ![0, (T.expertOf t.val).val, 0, 0] a := fun a => by
    show cc0_transform_2 k0_off1_inb numel1_S1 T.contents (T.cfg.grid.coords t) a = _
    rw [up_index, expertOf_coords]
  funext y
  refine congrArg (m ((c : Thread nD τ).loc main_arg4)) (funext fun a => Fin.ext ?_)
  refine ((T.cfg.win (2 : Fin 5)).rect_emb_val t y a).trans ?_
  rw [hx]
  fin_cases a
  · have hy : (y 0).val < 1 := (y 0).isLt
    show 0 * 1 + (y 0).val = 0
    omega
  · have hy : (y 1).val < 1 := (y 1).isLt
    show (T.expertOf t.val).val * 1 + (y 1).val = (T.expertOf t.val).val
    omega
  · show 0 * 2048 + (y 2).val = (y 2).val
    omega
  · show 0 * 512 + (y 3).val = (y 3).val
    omega

theorem iblk_down (c : Dev nD) (t : Fin T.cfg.N) : iblk T m ρ c (3 : Fin 5) t = downBlock m c (T.expertOf t.val) := by
  have hx : ∀ a, (T.cfg.win (3 : Fin 5)).index t a = ![0, (T.expertOf t.val).val, 0, 0] a := fun a => by
    show cc0_transform_3 k0_off1_inb numel1_S1 T.contents (T.cfg.grid.coords t) a = _
    rw [down_index, expertOf_coords]
  funext y
  refine congrArg (m ((c : Thread nD τ).loc main_arg5)) (funext fun a => Fin.ext ?_)
  refine ((T.cfg.win (3 : Fin 5)).rect_emb_val t y a).trans ?_
  rw [hx]
  fin_cases a
  · have hy : (y 0).val < 1 := (y 0).isLt
    show 0 * 1 + (y 0).val = 0
    omega
  · have hy : (y 1).val < 1 := (y 1).isLt
    show (T.expertOf t.val).val * 1 + (y 1).val = (T.expertOf t.val).val
    omega
  · show 0 * 512 + (y 2).val = (y 2).val
    omega
  · show 0 * 2048 + (y 3).val = (y 3).val
    omega

/-! ## What the walk leaves -/

/-- The rounded gate weights of expert `e`. -/
def gateOf (c : Dev nD) (e : Fin 64) : FVec Bits S2048x512 .bf16 := k0_pay1 (F := Bits) (gateBlock m c e)
/-- The rounded up weights of expert `e`. -/
def upOf (c : Dev nD) (e : Fin 64) : FVec Bits S2048x512 .bf16 := k0_pay2 (F := Bits) (upBlock m c e)
/-- The rounded down weights of expert `e`. -/
def downOf (c : Dev nD) (e : Fin 64) : FVec Bits S512x2048 .bf16 := k0_pay3 (F := Bits) (downBlock m c e)

/-- The block of the result that point `n` writes. -/
def resultBlock (c : Dev nD) (n : ℕ) : S1024x1024.Idx → Elt Bits .bf16 :=
  visitBlock (n < T.count) (rowsBlock m c (min n (T.count - 1))) (gateOf m c (T.expertOf n)) (upOf m c (T.expertOf n)) (downOf m c (T.expertOf n))

theorem visitBlock_congr {p q : Prop} [Decidable p] [Decidable q] (h : p ↔ q) (x : S512x1024.Idx → BitVec 32) (g u : FVec Bits S2048x512 .bf16)
    (d : FVec Bits S512x2048 .bf16) : visitBlock p x g u d = visitBlock q x g u d := by
  unfold visitBlock
  by_cases hp : p
  · rw [if_pos hp, if_pos (h.1 hp)]
  · rw [if_neg hp, if_neg (fun hq => hp (h.2 hq))]

/-- THE INVARIANT before point `n`: the scratch buffers hold the rounded weights of the block before's expert (anything before the
    first), and the tables are as they were. -/
def Inv (c : Dev nD) (n : ℕ) : sProp 𝕄 :=
  iprop(∃ (s0 s1 : FVec Bits S2048x512 .bf16) (s2 : FVec Bits S512x2048 .bf16),
    ⌜n ≠ 0 → s0 = gateOf m c (T.expertOf (n - 1)) ∧ s1 = upOf m c (T.expertOf (n - 1)) ∧ s2 = downOf m c (T.expertOf (n - 1))⌝
    ∗ owns (c : Thread nD τ) gateScratch fullShare s0
    ∗ owns (c : Thread nD τ) upScratch fullShare s1
    ∗ owns (c : Thread nD τ) downScratch fullShare s2
    ∗ (expertTable.view.loc (c : Thread nD τ) ↦{fullShare.right} T.expert)
    ∗ (usedTable.view.loc (c : Thread nD τ) ↦{fullShare.right} T.used))

/-- The walk's data: the arrays at launch, the blocks each visit leaves, the invariant. -/
def dats (_ : Fin 1) (c : Dev nD) : Dat τ (Elt Bits) Unit ℕ (UR sig nD τ) ℕ T.cfg c where
  A w := (s₀ m ρ).mem ((T.cfg.win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => resultBlock T m c t.val
  Φ t := Inv T m c t.val
  q _ := fullShare
  owed _ := 0

theorem after_rows (c : Dev nD) (t : Fin T.cfg.N) : (dats T m ρ 0 c).after (0 : Fin 5) t = iblk T m ρ c (0 : Fin 5) t := rfl
theorem after_gate (c : Dev nD) (t : Fin T.cfg.N) : (dats T m ρ 0 c).after (1 : Fin 5) t = iblk T m ρ c (1 : Fin 5) t := rfl
theorem after_up (c : Dev nD) (t : Fin T.cfg.N) : (dats T m ρ 0 c).after (2 : Fin 5) t = iblk T m ρ c (2 : Fin 5) t := rfl
theorem after_down (c : Dev nD) (t : Fin T.cfg.N) : (dats T m ρ 0 c).after (3 : Fin 5) t = iblk T m ρ c (3 : Fin 5) t := rfl
theorem after_result (c : Dev nD) (t : Fin T.cfg.N) : (dats T m ρ 0 c).after (4 : Fin 5) t = resultBlock T m c t.val := rfl

theorem before_rows (c : Dev nD) (t : Fin T.cfg.N) (d) : (dats T m ρ 0 c).before (0 : Fin 5) t d = iblk T m ρ c (0 : Fin 5) t :=
  ((dats T m ρ 0 c).before_in_eq_fetched (0 : Fin 5) rfl (fun _ => rfl) (fun _ _ _ => rfl)
    (fun t => by rw [after_rows]; unfold Dat.blockOf iblk; rfl) t d).trans (by unfold Dat.fetched Dat.blockOf iblk; rfl)
theorem before_gate (c : Dev nD) (t : Fin T.cfg.N) (d) : (dats T m ρ 0 c).before (1 : Fin 5) t d = iblk T m ρ c (1 : Fin 5) t :=
  ((dats T m ρ 0 c).before_in_eq_fetched (1 : Fin 5) rfl (fun _ => rfl) (fun _ _ _ => rfl)
    (fun t => by rw [after_gate]; unfold Dat.blockOf iblk; rfl) t d).trans (by unfold Dat.fetched Dat.blockOf iblk; rfl)
theorem before_up (c : Dev nD) (t : Fin T.cfg.N) (d) : (dats T m ρ 0 c).before (2 : Fin 5) t d = iblk T m ρ c (2 : Fin 5) t :=
  ((dats T m ρ 0 c).before_in_eq_fetched (2 : Fin 5) rfl (fun _ => rfl) (fun _ _ _ => rfl)
    (fun t => by rw [after_up]; unfold Dat.blockOf iblk; rfl) t d).trans (by unfold Dat.fetched Dat.blockOf iblk; rfl)
theorem before_down (c : Dev nD) (t : Fin T.cfg.N) (d) : (dats T m ρ 0 c).before (3 : Fin 5) t d = iblk T m ρ c (3 : Fin 5) t :=
  ((dats T m ρ 0 c).before_in_eq_fetched (3 : Fin 5) rfl (fun _ => rfl) (fun _ _ _ => rfl)
    (fun t => by rw [after_down]; unfold Dat.blockOf iblk; rfl) t d).trans (by unfold Dat.fetched Dat.blockOf iblk; rfl)

/-! ## One point of the walk -/

/-- Each window's staging buffer at a point, and that it is a whole buffer. -/
abbrev stg0 (t : Fin T.cfg.N) : Memref sig .tc .vmem S512x1024 .i32 := spec0_0.stage (T.cfg.slots t (0 : Fin 5))
abbrev hstg0 (t : Fin T.cfg.N) : (stg0 T t).IsWhole := hstage0_0 ((T.cfg.slots t (0 : Fin 5)).cast nbuf0_0)
abbrev stg1 (t : Fin T.cfg.N) : Memref sig .tc .vmem S1x1x2048x512 .f32 := spec0_1.stage (T.cfg.slots t (1 : Fin 5))
abbrev hstg1 (t : Fin T.cfg.N) : (stg1 T t).IsWhole := hstage0_1 ((T.cfg.slots t (1 : Fin 5)).cast nbuf0_1)
abbrev stg2 (t : Fin T.cfg.N) : Memref sig .tc .vmem S1x1x2048x512 .f32 := spec0_2.stage (T.cfg.slots t (2 : Fin 5))
abbrev hstg2 (t : Fin T.cfg.N) : (stg2 T t).IsWhole := hstage0_2 ((T.cfg.slots t (2 : Fin 5)).cast nbuf0_2)
abbrev stg3 (t : Fin T.cfg.N) : Memref sig .tc .vmem S1x1x512x2048 .f32 := spec0_3.stage (T.cfg.slots t (3 : Fin 5))
abbrev hstg3 (t : Fin T.cfg.N) : (stg3 T t).IsWhole := hstage0_3 ((T.cfg.slots t (3 : Fin 5)).cast nbuf0_3)
abbrev stg4 (t : Fin T.cfg.N) : Memref sig .tc .vmem S1024x1024 .bf16 := spec0_4.stage (T.cfg.slots t (4 : Fin 5))
abbrev hstg4 (t : Fin T.cfg.N) : (stg4 T t).IsWhole := hstage0_4 ((T.cfg.slots t (4 : Fin 5)).cast nbuf0_4)

set_option maxHeartbeats 4000000 in
/-- ONE POINT: from the invariant and the staging buffers with the point's blocks, the visit leaves the next point's invariant, the
    blocks and the point's block of the result. -/
theorem point (c : Dev nD) (t : Fin T.cfg.N) :
    iprop((dats T m ρ 0 c).Φ t.castSucc ∗ (dats T m ρ 0 c).owesAt () t.castSucc
        ∗ (∃ d, owns (c : Thread nD τ) (stg0 T t) fullShare ((dats T m ρ 0 c).before (0 : Fin 5) t d))
        ∗ (∃ d, owns (c : Thread nD τ) (stg1 T t) fullShare ((dats T m ρ 0 c).before (1 : Fin 5) t d))
        ∗ (∃ d, owns (c : Thread nD τ) (stg2 T t) fullShare ((dats T m ρ 0 c).before (2 : Fin 5) t d))
        ∗ (∃ d, owns (c : Thread nD τ) (stg3 T t) fullShare ((dats T m ρ 0 c).before (3 : Fin 5) t d))
        ∗ (∃ d, owns (c : Thread nD τ) (stg4 T t) fullShare ((dats T m ρ 0 c).before (4 : Fin 5) t d)))
      ⊢ wp frame (wpE (defs₀ (F := Bits)) Variants.none c none) Set.univ
          (cc0_routed_experts (F := Bits) (T.cfg.grid.coords t) expertTable (Memref.isWhole_whole _) usedTable (Memref.isWhole_whole _)
            (stg0 T t) (hstg0 T t) (stg1 T t) (hstg1 T t) (stg2 T t) (hstg2 T t) (stg3 T t) (hstg3 T t) (stg4 T t) (hstg4 T t)
            gateScratch (Memref.isWhole_whole _) upScratch (Memref.isWhole_whole _) downScratch (Memref.isWhole_whole _)) fun _ =>
          iprop((dats T m ρ 0 c).Φ t.succ ∗ (dats T m ρ 0 c).owesAt () t.succ
            ∗ bigSep Finset.univ fun w : Fin T.cfg.W =>
                match T.cfg.idle w (T.cfg.grid.coords t) with
                | true =>
                  match (T.cfg.win w).flush t with
                  | false => iprop(∃ d, owns (c : Thread nD τ) ((T.cfg.win w).stage (T.cfg.slots t w)) fullShare ((dats T m ρ 0 c).before w t d))
                  | true => owns (c : Thread nD τ) ((T.cfg.win w).stage (T.cfg.slots t w)) fullShare ((dats T m ρ 0 c).after w t)
                | false => owns (c : Thread nD τ) ((T.cfg.win w).stage (T.cfg.slots t w)) fullShare ((dats T m ρ 0 c).after w t)) := by
  have ht : t.val < 328 := t.isLt
  rw [bigSep_W0]
  rewrite [stores_result T t]
  simp only [before_rows, before_gate, before_up, before_down, after_rows, after_gate, after_up, after_down, after_result]
  rewrite [show (dats T m ρ 0 c).Φ t.succ = Inv T m c (t.val + 1) from rfl, show (dats T m ρ 0 c).Φ t.castSucc = Inv T m c t.val from rfl,
    show (dats T m ρ 0 c).owesAt () t.succ = (dats T m ρ 0 c).owesAt () t.castSucc from rfl]
  have hrow := iblk_rows T m ρ c t
  have hgate := iblk_gate T m ρ c t
  have hup := iblk_up T m ρ c t
  have hdown := iblk_down T m ρ c t
  rw [hrow, hgate, hup, hdown]
  have hres : visitBlock (InUse (T.cfg.grid.coords t) T.used) (rowsBlock m c (min t.val (T.count - 1))) (k0_pay1 (F := Bits) (gateBlock m c (T.expertOf t.val)))
      (k0_pay2 (F := Bits) (upBlock m c (T.expertOf t.val))) (k0_pay3 (F := Bits) (downBlock m c (T.expertOf t.val))) = resultBlock T m c t.val :=
    visitBlock_congr (by rw [inUse_iff, number_coords]) _ _ _ _
  have hkept : ¬ Refills (T.cfg.grid.coords t) T.expert → t.val ≠ 0 ∧ T.expertOf (t.val - 1) = T.expertOf t.val := fun h => by
    obtain ⟨h0, h1⟩ := kept T _ h
    rw [number_coords] at h0
    refine ⟨h0, ?_⟩
    rw [expertOf_coords] at h1
    rw [h1]
    refine congrArg T.expertAt (Fin.ext ?_)
    show (t.val - 1) % 328 = (number (T.cfg.grid.coords t)).val - 1
    rw [number_coords]; omega
  unfold Inv
  iintro ⟨⟨%s0, %s1, %s2, %hs, HS0, HS1, HS2, HT0, HT1⟩, Ho, ⟨%d0, H0⟩, ⟨%d1, H1⟩, ⟨%d2, H2⟩, ⟨%d3, H3⟩, ⟨%d4, H4⟩⟩
  iapply (visit c (T.cfg.grid.coords t) (stg0 T t) (hstg0 T t) (stg1 T t) (hstg1 T t) (stg2 T t) (hstg2 T t) (stg3 T t) (hstg3 T t) (stg4 T t) (hstg4 T t)
    T.expert T.used (rowsBlock m c (min t.val (T.count - 1))) (gateBlock m c (T.expertOf t.val)) (upBlock m c (T.expertOf t.val)) (downBlock m c (T.expertOf t.val))
    s0 s1 s2 (fun h => by obtain ⟨h0, h1⟩ := hkept h; have := hs h0; rw [h1] at this; exact this))
  unfold Before After
  isplitl [H0 H1 H2 H3 HT0 HT1 H4 HS0 HS1 HS2]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iexact HS2
  rw [hres]
  iintro ⟨H0, H1, H2, H3, HT0, HT1, H4, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    · ipureintro; intro _; exact ⟨rfl, rfl, rfl⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

end Cert.Kernel2.Experts

end
-- ==== Proof.ExpertsBitsLaunch.lean ====
/- THE ROUTED EXPERTS' PROGRAM RUN FROM A LAUNCH MEMORY whose two integer arguments are tables `Tables` admits: every execution
   ends with the arguments unchanged, every semaphore at zero (`frame`) and the result array at what the walk writes (`run`). -/
module

public import proofs.«01_k».proof.Proof.ExpertsBitsFrame

@[expose] public section

set_option maxRecDepth 16384
set_option Elab.async false

noncomputable section

namespace Cert.Kernel2.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (T : Tables) (m : (ℓ : Loc nD τ sig) → Buf (Elt Bits) ℓ) (ρ : Dev nD → PrngReg)

/-- The launch memory's two integer arguments are the tables. -/
def Holds : Prop :=
  (∀ c : Dev nD, m ((c : Thread nD τ).loc main_arg0) = T.expert) ∧ ∀ c : Dev nD, m ((c : Thread nD τ).loc main_arg1) = T.used

/-- The walk is safe at every point. -/
theorem body (c : Dev nD) : BodyObligation (dats T m ρ 0 c) (defs₀ (F := Bits)) Variants.none () Set.univ := fun t => by
  rw [bigSep_W0]
  exact point T m ρ c t

/-- Where the resource algebra of the rounds sits in the whole. -/
abbrev embedding : Emb (UR sig nD τ) 𝕄 := emb₁

/-- The one pipeline at these tables. -/
abbrev pipes : Fin 1 → Pipeline.Cfg sig Λ₀ := Pipeline.pin (pcfgs (F := Bits)) fun _ => T.adm

/-- The resource the launch starts with. -/
def startElement : UR sig nD τ :=
  initOf (Pipeline.cells (pipes T) ((launch0 (F := Bits)).cellOf_inj fun _ => T.adm))
    (Pipeline.launchToks (pipes T) ((launch0 (F := Bits)).cellOf_inj fun _ => T.adm))

/-- Every array is held whole. -/
theorem share_full (c : Dev nD) (w : Fin T.cfg.W) : (dats T m ρ 0 c).share w = fullShare := by unfold Dat.share; split <;> rfl

/-- The tables as the launch hands them over, one by one. -/
theorem held_tables (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

/-- A whole scratch buffer held with some contents is owned with what the contents read as. -/
theorem owns_of_whole {b : Ref sig .tc} {sp : Space} {s : Shape} {e : EltTy} (c : Dev nD) (M : Memref sig .tc sp s e) (h : M.IsWhole)
    (f : Buf (Elt Bits) (M.view.loc (c : Thread nD τ))) :
    (iprop(M.view.loc (c : Thread nD τ) ↦{fullShare} f) : sProp 𝕄) ⊢ owns (c : Thread nD τ) M fullShare (M.view.read (Elt Bits) f) := by
  unfold owns
  rw [h.set_eq_univ]
  iintro H
  iexists f
  isplitr; swap
  · iexact H
  · ipureintro; rfl

/-- The invariant before the first point, from the tables and the scratch buffers as they are. -/
theorem start (c : Dev nD) :
    iprop(BI.emp ∗ Pipeline.prefHeld pre0 c (fun _ => fullShare.right) T.adm.1 ∗ Pipeline.scopedRest spec0 c) ⊢ (dats T m ρ 0 c).Φ 0 := by
  rw [held_tables, scopedRest0_eq, show (dats T m ρ 0 c).Φ 0 = Inv T m c 0 from rfl]
  unfold Inv
  iintro ⟨-, ⟨HT0, HT1⟩, ⟨%a0, HS0⟩, ⟨%a1, HS1⟩, ⟨%a2, HS2⟩⟩
  iexists _; iexists _; iexists _
  isplitr; swap
  · isplitl [HS0]; · iapply (owns_of_whole (b := cc0_scratch0) c gateScratch (Memref.isWhole_whole _) a0); iexact HS0
    isplitl [HS1]; · iapply (owns_of_whole (b := cc0_scratch1) c upScratch (Memref.isWhole_whole _) a1); iexact HS1
    isplitl [HS2]; · iapply (owns_of_whole (b := cc0_scratch2) c downScratch (Memref.isWhole_whole _) a2); iexact HS2
    isplitl [HT0]; · iexact HT0
    iexact HT1
  · ipureintro; intro h; exact absurd rfl h

/-- A scratch buffer owned is held with some contents. -/
theorem whole_of_owns {sp : Space} {s : Shape} {e : EltTy} (c : Dev nD) (M : Memref sig .tc sp s e) (h : M.IsWhole) (x : s.Idx → Elt Bits e) :
    (owns (c : Thread nD τ) M fullShare x : sProp 𝕄) ⊢ iprop(∃ f, M.view.loc (c : Thread nD τ) ↦{fullShare} f) := by
  unfold owns
  rw [h.set_eq_univ]
  iintro ⟨%f, -, H⟩
  iexists f
  iexact H

/-- The invariant after the last point gives the scratch buffers back. -/
theorem finish (c : Dev nD) : (dats T m ρ 0 c).Φ (Fin.last T.cfg.N) ⊢ iprop(BI.emp ∗ Pipeline.scopedRest spec0 c) := by
  rw [scopedRest0_eq, show (dats T m ρ 0 c).Φ (Fin.last T.cfg.N) = Inv T m c T.cfg.N from rfl]
  unfold Inv
  iintro ⟨%s0, %s1, %s2, -, HS0, HS1, HS2, -, -⟩
  isplitr; · iempintro
  isplitl [HS0]; · iapply (whole_of_owns c gateScratch (Memref.isWhole_whole _) s0); iexact HS0
  isplitl [HS1]; · iapply (whole_of_owns c upScratch (Memref.isWhole_whole _) s1); iexact HS1
  iapply (whole_of_owns c downScratch (Memref.isWhole_whole _) s2); iexact HS2

/-- What a run ends with: every array as the walk leaves it, every table as it was. -/
def Ends : PUnit × MemSt nD τ sig (Elt Bits) → Prop := fun r =>
  ∀ c : Dev nD, (∀ w : Fin T.cfg.W, r.2.mem ((T.cfg.win w).arr.view.loc (c : Thread nD τ)) = (dats T m ρ 0 c).arrAt w T.cfg.N)
    ∧ ∀ j, r.2.mem ((c : Thread nD τ).loc (pre0.ref j)) = T.adm.1 j

/-- The tables the region reads are those of the launch memory. -/
theorem tables_read (h : Holds T m) (c : Dev nD) (j : Fin 2) : m ((c : Thread nD τ).loc (pre0.ref j)) = T.adm.1 j := by
  fin_cases j
  · exact h.1 c
  · exact h.2 c

set_option backward.isDefEq.respectTransparency.types false in
set_option maxHeartbeats 4000000 in
/-- EVERY EXECUTION ends as `Ends` says, with every semaphore at zero. -/
theorem run_all (h : Holds T m) : θ_run (defs (F := Bits)) (onTc (τ := τ) (main (F := Bits))) (s₀ m ρ) (fun r => Ends T m ρ r ∧ r.2.sem = fun _ => 0) :=
  Pipeline.θ_run_region_noSem_pf_quiescent pcfgs (fun _ => T.adm) (dats T m ρ) () ((launch0 (F := Bits)).cellOf_inj fun _ => T.adm) (0 : Fin 1)
    (launch0 (F := Bits)).win.to₀ (launch0 (F := Bits)).pre embedding defs₀ Variants.none m ρ main
    (hbody := fun c => (body T m ρ c).loose) (hne := (launch0 (F := Bits)).block_pos)
    (harr := (launch0 (F := Bits)).arr_whole) (hstage := (launch0 (F := Bits)).stage_whole) (howed := fun _ _ => rfl)
    (u₀ := startElement T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes T) (dats T m ρ) 0 (launch0 (F := Bits)).win.arr_inj c (launch0 (F := Bits)).arr_whole
      (share_full T m ρ c) _ _ fun _ => rfl)
    (hpf := tables_read T m h)
    (X := fun _ => iprop(emp)) (Y := fun _ => iprop(emp)) (Z := fun _ => iprop(emp))
    (hX := fun c => by rw [unscopedRestP0_eq]; iintro -; isplitr <;> iempintro)
    (hin := start T m ρ)
    (hout := finish T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- THE FRAME: every execution ends, the arguments unchanged and every semaphore at zero. -/
theorem frame (h : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨((hr.1 c).2 0).trans (h.1 c).symm, ((hr.1 c).2 1).trans (h.2 c).symm,
    ((hr.1 c).1 (0 : Fin 5)).trans ((dats T m ρ 0 c).arrAt_in (0 : Fin 5) rfl _),
    ((hr.1 c).1 (1 : Fin 5)).trans ((dats T m ρ 0 c).arrAt_in (1 : Fin 5) rfl _),
    ((hr.1 c).1 (2 : Fin 5)).trans ((dats T m ρ 0 c).arrAt_in (2 : Fin 5) rfl _),
    ((hr.1 c).1 (3 : Fin 5)).trans ((dats T m ρ 0 c).arrAt_in (3 : Fin 5) rfl _)⟩, hr.2⟩) (run_all T m ρ h)

end Cert.Kernel2.Experts

end
-- ==== Proof.ExpertsPre.lean ====
/-
  WHAT THE PRECONDITION OF THE ROUTED EXPERTS' CALL SAYS: every block names an expert below 64, and between 1 and 328 blocks are
  in use. The statement is about integers, so it is the same over the machine's floats and over the extended reals.
-/
module

public import proofs.«01_k».proof.Defs
public import proofs.«01_k».proof.Proof.Gen.Pre_tables
public import proofs.«01_k».proof.Proof.ExpertsLaunch
public import proofs.«01_k».proof.Proof.ExpertsBitsLaunch

@[expose] public section

noncomputable section

open Idealize.ShloMosaic Idealize.ShloMosaic.TcCoe Idealize.SL.Sem

namespace Cert.Pre_tables.Meaning
open Cert.Pre_tables

/-- A word between 0 and a small bound, read as signed, is below the bound. -/
theorem below (w b : BitVec 32) (hb : b.toNat < 2 ^ 31)
    (h : IntOp.andi (IntOp.cmpi .sge w 0#32) (IntOp.cmpi .slt w b) = 1#1) : w.toNat < b.toNat := by
  have h1 : (0#32).sle w = true ∧ w.slt b = true := by
    revert h
    show BitVec.ofBool ((0#32).sle w) &&& BitVec.ofBool (w.slt b) = 1#1 → _
    cases (0#32).sle w <;> cases w.slt b <;> simp
  obtain ⟨h1, h2⟩ := h1
  rw [BitVec.sle_iff_toInt_le] at h1
  rw [BitVec.slt_iff_toInt_lt] at h2
  rw [BitVec.toInt_eq_toNat_cond w] at h1 h2
  rw [BitVec.toInt_eq_toNat_cond] at h2
  have h3 : (0#32 : BitVec 32).toInt = 0 := by decide
  rw [h3] at h1
  split at h1 <;> omega

/-- A word between 1 and a small bound, read as signed, is between 1 and the bound. -/
theorem between (w b : BitVec 32) (hb : b.toNat < 2 ^ 31)
    (h : IntOp.andi (IntOp.cmpi .sge w 1#32) (IntOp.cmpi .sle w b) = 1#1) : 1 ≤ w.toNat ∧ w.toNat ≤ b.toNat := by
  have h1 : (1#32).sle w = true ∧ w.sle b = true := by
    revert h
    show BitVec.ofBool ((1#32).sle w) &&& BitVec.ofBool (w.sle b) = 1#1 → _
    cases (1#32).sle w <;> cases w.sle b <;> simp
  obtain ⟨h1, h2⟩ := h1
  rw [BitVec.sle_iff_toInt_le] at h1 h2
  rw [BitVec.toInt_eq_toNat_cond w] at h1 h2
  rw [BitVec.toInt_eq_toNat_cond] at h2
  have h3 : (1#32 : BitVec 32).toInt = 1 := by decide
  rw [h3] at h1
  split at h1 <;> omega

/-- The precondition: the experts are below 64, and between 1 and 328 blocks are in use. -/
theorem tables {F : FTy → Type} [FloatOps F] (be : IVec S328 32) (nu : IVec S1 32) (x : IVec S167936x1024 32)
    (wg wu : FVec F S2x64x2048x512 .f32) (wd : FVec F S2x64x512x2048 .f32)
    (h : (fn be nu x wg wu wd).1 = (fun _ => 1#1) ∧ (fn be nu x wg wu wd).2 = (fun _ => 1#1)) :
    (∀ i, (be i).toNat < 64) ∧ ∀ i, 1 ≤ (nu i).toNat ∧ (nu i).toNat ≤ 328 :=
  ⟨fun i => below (be i) 64#32 (by decide) (congrFun h.1 i), fun i => between (nu i) 328#32 (by decide) (congrFun h.2 i)⟩

end Cert.Pre_tables.Meaning

namespace Cert.Kernel2.Experts
open Cert.Kernel2

/-- The tables of a memory the precondition holds of. -/
def tablesOf (m : (ℓ : Loc nD τ sig) → Buf (Elt Bits) ℓ) (h : Pre_Kernel2 m) : Tables where
  expert := m (((0 : Dev nD) : Thread nD τ).loc main_arg0)
  used := m (((0 : Dev nD) : Thread nD τ).loc main_arg1)
  expert_lt := (Pre_tables.Meaning.tables _ _ _ _ _ _ (h 0)).1
  used_pos := ((Pre_tables.Meaning.tables _ _ _ _ _ _ (h 0)).2 _).1
  used_le := ((Pre_tables.Meaning.tables _ _ _ _ _ _ (h 0)).2 _).2

theorem holds (m : (ℓ : Loc nD τ sig) → Buf (Elt Bits) ℓ) (h : Pre_Kernel2 m) : Holds (tablesOf m h) m :=
  ⟨fun c => by rw [Subsingleton.elim c (0 : Dev nD)]; rfl, fun c => by rw [Subsingleton.elim c (0 : Dev nD)]; rfl⟩

end Cert.Kernel2.Experts

namespace Cert.Kernel2Ideal.Experts
open Cert.Kernel2Ideal

/-- The tables of a memory the precondition holds of. -/
def tablesOf (m : (ℓ : Loc nD τ sig) → Buf (Elt Ideal) ℓ) (h : Pre_Kernel2Ideal m) : Tables where
  expert := m (((0 : Dev nD) : Thread nD τ).loc main_arg0)
  used := m (((0 : Dev nD) : Thread nD τ).loc main_arg1)
  expert_lt := (Pre_tables.Meaning.tables _ _ _ _ _ _ (h 0)).1
  used_pos := ((Pre_tables.Meaning.tables _ _ _ _ _ _ (h 0)).2 _).1
  used_le := ((Pre_tables.Meaning.tables _ _ _ _ _ _ (h 0)).2 _).2

theorem holds (m : (ℓ : Loc nD τ sig) → Buf (Elt Ideal) ℓ) (h : Pre_Kernel2Ideal m) : Holds (tablesOf m h) m :=
  ⟨fun c => by rw [Subsingleton.elim c (0 : Dev nD)]; rfl, fun c => by rw [Subsingleton.elim c (0 : Dev nD)]; rfl⟩

end Cert.Kernel2Ideal.Experts

end
-- ==== Proof.ProjSpec.lean ====
/-
  THE INPUT PROJECTIONS as functions of one row (the seven results of a row of the residual stream), over the extended reals.
-/
module

public import Idealize.ShloMosaic.PureOps.Ideal
public import Idealize.ShloMosaic.Lib.Pointwise

@[expose] public section

noncomputable section

open Idealize.ShloMosaic

namespace Cert.Projections

/-- A row of `n` extended reals. -/
abbrev Row (n : ℕ) := Fin n → EReal

/-- The row after the modulation: scaled by one plus `s`, then shifted by `b`. -/
def modulate {n : ℕ} (x s b : Row n) : Row n := fun k => x k * (1 + s k) + b k

/-- A row times a matrix. -/
def times {n p : ℕ} (x : Row n) (w : Fin n → Row p) : Row p := fun j => ∑ k, x k * w k j

/-- The exact Gaussian error linear unit. -/
def gelu (z : EReal) : EReal :=
  Ideal.ofBits .f32 0x3F000000#32 * z * (1 + Ideal.erf (z * Ideal.ofBits .f32 0x3F3504F3#32))

/-- The mean of a row, whose length as a number is `c`. -/
def mean {n : ℕ} (c : EReal) (v : Row n) : EReal := Ideal.div (∑ d, v d) c

/-- A row less its mean. -/
def centred (v : Row 512) : Row 512 := fun d => v d - mean (Ideal.ofBits .f32 0x44000000#32) v

/-- Layer normalization with gain `g` and bias `b`. -/
def layerNorm (v g b : Row 512) : Row 512 := fun d =>
  centred v d * Ideal.rsqrt (mean (Ideal.ofBits .f32 0x44000000#32) (fun e => centred v e * centred v e) + Ideal.ofBits .f32 0x3727C5AC#32) * g d + b d

/-- Root-mean-square normalization with gain `g`, of a row whose length as a number is `c`. -/
def rmsNorm {n : ℕ} (c : EReal) (v g : Row n) : Row n := fun d =>
  v d * Ideal.rsqrt (mean c (fun e => v e * v e) + Ideal.ofBits .f32 0x358637BD#32) * g d

/-- The rotary embedding of 128 entries: the entry times `a`, plus the entry half a turn away times `b`. -/
def rotate (v a b : Row 128) : Row 128 := fun e => v e * a e + v ⟨(e.val + 64) % 128, Nat.mod_lt _ (by omega)⟩ * b e

/-- The gate's half of the gated unit, from the projected row. -/
def gate (p : Row 3968) : Row 512 := fun d => gelu (p ⟨d.val, by omega⟩)

/-- The normalized value half of the gated unit, from the projected row. -/
def valueNorm (p : Row 3968) (g b : Row 512) : Row 512 := layerNorm (fun d => gelu (p ⟨512 + d.val, by omega⟩)) g b

/-- The gated unit at place `t` of a chunk of 128 rows: `u` is the row's gate, `v` the chunk's normalized values. -/
def gated (u : Row 512) (v : Fin 128 → Row 512) (w : Fin 4 → Fin 128 → Row 128) (b : Fin 128 → Row 512) (t : Fin 128) : Row 512 := fun d =>
  u d * ((∑ s, w ⟨d.val / 128, by omega⟩ t s * v s d) + b t d)

/-- The queries before the embedding. -/
def queryFlat (p : Row 3968) (g : Row 768) (w : Fin 768 → Row 2048) : Row 2048 :=
  times (rmsNorm (Ideal.ofBits .f32 0x44400000#32) (fun j => p ⟨1024 + j.val, by omega⟩) g) w

/-- The queries of the eight heads, 256 entries each: the last 128 embedded, all scaled. -/
def query (y : Row 2048) (a b : Row 128) : Row 2048 := fun c =>
  (if h : c.val % 256 < 128 then y c
    else rotate (fun e => y ⟨c.val / 256 * 256 + 128 + e.val, by omega⟩) a b ⟨c.val % 256 - 128, by omega⟩) * Ideal.ofBits .f32 0x3DD53B95#32

/-- The normalized latent row of keys and values. -/
def latent (p : Row 3968) (g : Row 256) : Row 256 :=
  rmsNorm (Ideal.ofBits .f32 0x43800000#32) (fun j => p ⟨3584 + j.val, by omega⟩) g

/-- The keys of the eight heads, 256 entries each: the head's own 128, then the 128 embedded ones all heads share. -/
def key (y : Row 1024) (p : Row 3968) (a b : Row 128) : Row 2048 := fun c =>
  if h : c.val % 256 < 128 then y ⟨c.val / 256 * 128 + c.val % 256, by omega⟩
    else rotate (fun e => p ⟨3840 + e.val, by omega⟩) a b ⟨c.val % 256 - 128, by omega⟩

/-! ## The seven result arrays, from the argument arrays -/

/-- A matrix. -/
abbrev Mat (n p : ℕ) := (⟨2, ![n, p]⟩ : Shape).Idx → EReal

/-- A row of a matrix. -/
abbrev rowOf {n p : ℕ} (x : Mat n p) (r : Fin n) : Row p := fun k => x (ix2 r k)

/-- Row `R` of the residual stream, modulated by its group's shift and scale (8192 rows of each batch entry, then the rest) and projected. -/
def projectedRow (x : Mat 16896 2048) (m : (⟨3, ![3, 6, 2048]⟩ : Shape).Idx → EReal) (w : Mat 2048 3968) (R : Fin 16896) : Row 3968 :=
  times (modulate (rowOf x R) (fun k => m (ix3 ⟨R.val / 8192, by omega⟩ (1 : Fin 6) k)) (fun k => m (ix3 ⟨R.val / 8192, by omega⟩ (0 : Fin 6) k))) (rowOf w)

/-- The row whose keys and values stand at place `N`: of each batch entry the 256 context rows first, then its 8192 latent ones. -/
def source (N : Fin 16896) : Fin 16896 :=
  ⟨if N.val % 8448 < 256 then 16384 + N.val / 8448 * 256 + N.val % 8448 else N.val / 8448 * 8192 + (N.val % 8448 - 256), by split <;> omega⟩

section
variable (x : Mat 16896 2048) (m : (⟨3, ![3, 6, 2048]⟩ : Shape).Idx → EReal) (ca cb : Mat 16896 128) (w : Mat 2048 3968) (gv bv : Mat 1 512)
  (ws : (⟨3, ![4, 128, 128]⟩ : Shape).Idx → EReal) (bs : Mat 128 512) (gq : Mat 1 768) (wq : Mat 768 2048) (gk : Mat 1 256) (wk : Mat 256 1024)
  (wv : Mat 1024 256)

/-- The gated units. -/
def gatedArray : Mat 16896 512 := fun y =>
  let R : Fin 16896 := y 0
  gated (gate (projectedRow x m w R)) (fun s => valueNorm (projectedRow x m w ⟨R.val / 128 * 128 + s.val, by omega⟩) (rowOf gv 0) (rowOf bv 0))
    (fun h t s => ws (ix3 h t s)) (rowOf bs) ⟨R.val % 128, Nat.mod_lt _ (by omega)⟩ (y 1)

/-- A part of the projected rows: `n` columns from `o` on. -/
def partArray (o n : ℕ) (h : o + n ≤ 3968) : Mat 16896 n := fun y =>
  let d : Fin n := y 1
  projectedRow x m w (y 0) ⟨o + d.val, by omega⟩

/-- The queries. -/
def queryArray : Mat 16896 2048 := fun y =>
  query (queryFlat (projectedRow x m w (y 0)) (rowOf gq 0) (rowOf wq)) (rowOf ca (y 0)) (rowOf cb (y 0)) (y 1)

/-- The keys, a row each, at their places. -/
def keyArray : Mat 16896 2048 := fun y =>
  key (times (latent (projectedRow x m w (source (y 0))) (rowOf gk 0)) (rowOf wk)) (projectedRow x m w (source (y 0)))
    (rowOf ca (source (y 0))) (rowOf cb (source (y 0))) (y 1)

/-- The values, a column each, at their places. -/
def valueArray : Mat 1024 16896 := fun y =>
  ∑ l : Fin 256, wv (ix2 (y 0) l) * latent (projectedRow x m w (source (y 1))) (rowOf gk 0) l

end

end Cert.Projections

end
-- ==== Proof.ProjTile.lean ====
/-
  ONE TILE OF THE INPUT PROJECTIONS' KERNEL, over the extended reals, entry by entry.
-/
module

public import proofs.«01_k».proof.Proof.ProjSpec
public import proofs.«01_k».proof.Proof.Gen.Kernel3Ideal.Skeleton
public import Idealize.ShloMosaic.Lib.Pointwise

@[expose] public section

noncomputable section

open Idealize.ShloMosaic

namespace Cert.Kernel3Ideal.Proj
open Cert.Kernel3Ideal Cert.Kernel3Ideal.Gen Cert.Projections

/-- Row `r` of a matrix. -/
abbrev at_ {n p : ℕ} (x : (⟨2, ![n, p]⟩ : Shape).Idx → EReal) (r : Fin n) : Row p := fun k => x (ix2 r k)

/-- The modulated rows. -/
theorem pay1_apply (m : Vec Ideal S1x6x2048 .f32) (x : Vec Ideal S256x2048 .f32) (r : Fin 256) (k : Fin 2048) :
    k0_pay1 (F := Ideal) m x (ix2 r k) = modulate (at_ x r) (fun k => m (ix3 (0 : Fin 1) (1 : Fin 6) k)) (fun k => m (ix3 (0 : Fin 1) (0 : Fin 6) k)) k := by
  pointwise [k0_pay1]
  rfl

/-- The gated unit's activations. -/
theorem pay2_apply (m : Vec Ideal S1x6x2048 .f32) (x : Vec Ideal S256x2048 .f32) (w : Vec Ideal S2048x1024 .bf16) (r : Fin 256) (d : Fin 1024) :
    k0_pay2 (F := Ideal) m x w (ix2 r d) = gelu (times (at_ (k0_pay1 (F := Ideal) m x) r) (at_ w) d) := by
  pointwise [k0_pay2]
  rfl

theorem pay3_apply (m : Vec Ideal S1x6x2048 .f32) (x : Vec Ideal S256x2048 .f32) (w : Vec Ideal S2048x1024 .bf16) (r : Fin 256) (d : Fin 512) :
    k0_pay3 (F := Ideal) m x w (ix2 r d) = k0_pay2 (F := Ideal) m x w (ix2 r ⟨d.val, by omega⟩) := by
  pointwise [k0_pay3]

/-- The values less their mean. -/
theorem pay4_apply (m : Vec Ideal S1x6x2048 .f32) (x : Vec Ideal S256x2048 .f32) (w : Vec Ideal S2048x1024 .bf16) (r : Fin 256) (d : Fin 512) :
    k0_pay4 (F := Ideal) m x w (ix2 r d) = centred (fun e => k0_pay2 (F := Ideal) m x w (ix2 r ⟨512 + e.val, by omega⟩)) d := by
  pointwise [k0_pay4]
  rfl

/-- Their mean square. -/
theorem pay5_apply (m : Vec Ideal S1x6x2048 .f32) (x : Vec Ideal S256x2048 .f32) (w : Vec Ideal S2048x1024 .bf16) (r : Fin 256) :
    k0_pay5 (F := Ideal) m x w (ix2 r (0 : Fin 1)) = mean (Ideal.ofBits .f32 0x44000000#32)
      (fun e => k0_pay4 (F := Ideal) m x w (ix2 r e) * k0_pay4 (F := Ideal) m x w (ix2 r e)) := by
  pointwise [k0_pay5]
  rfl

/-- The normalized values. -/
theorem pay7_apply (g b : Vec Ideal S1x512 .f32) (v : FVec Ideal S256x512 .f32) (s e : FVec Ideal S256x1 .f32) (r : Fin 256) (d : Fin 512) :
    k0_pay7 (F := Ideal) g b v s e (ix2 r d) = v (ix2 r d) * Ideal.rsqrt (s (ix2 r (0 : Fin 1)) + e (ix2 r (0 : Fin 1))) * g (ix2 (0 : Fin 1) d)
      + b (ix2 (0 : Fin 1) d) := by
  pointwise [k0_pay7]

theorem norm_apply (m : Vec Ideal S1x6x2048 .f32) (x : Vec Ideal S256x2048 .f32) (w : Vec Ideal S2048x1024 .bf16) (g b : Vec Ideal S1x512 .f32)
    (r : Fin 256) (d : Fin 512) :
    k0_pay7 (F := Ideal) g b (k0_pay4 (F := Ideal) m x w) (k0_pay5 (F := Ideal) m x w) (k0_pay6 (F := Ideal)) (ix2 r d)
      = layerNorm (fun e => gelu (times (at_ (k0_pay1 (F := Ideal) m x) r) (at_ w) ⟨512 + e.val, by omega⟩)) (at_ g 0) (at_ b 0) d := by
  rw [pay7_apply, pay5_apply]
  simp only [pay4_apply, pay2_apply]
  rfl

/-- A projection: a row times the columns. -/
theorem pay12_apply (h : FVec Ideal S256x2048 .bf16) (w : Vec Ideal S2048x512 .bf16) (r : Fin 256) (d : Fin 512) :
    k0_pay12 (F := Ideal) h w (ix2 r d) = times (at_ h r) (at_ w) d := by
  pointwise [k0_pay12]
  rfl
theorem pay13_apply (h : FVec Ideal S256x2048 .bf16) (w : Vec Ideal S2048x1024 .bf16) (r : Fin 256) (d : Fin 1024) :
    k0_pay13 (F := Ideal) h w (ix2 r d) = times (at_ h r) (at_ w) d := by
  pointwise [k0_pay13]
  rfl
theorem pay14_apply (h : FVec Ideal S256x2048 .bf16) (w : Vec Ideal S2048x256 .bf16) (r : Fin 256) (d : Fin 256) :
    k0_pay14 (F := Ideal) h w (ix2 r d) = times (at_ h r) (at_ w) d := by
  pointwise [k0_pay14]
  rfl

/-- The queries before the embedding. -/
theorem pay15_apply (h : FVec Ideal S256x2048 .bf16) (w : Vec Ideal S2048x768 .bf16) (g : Vec Ideal S1x768 .f32) (w2 : Vec Ideal S768x2048 .bf16)
    (r : Fin 256) (c : Fin 2048) :
    k0_pay15 (F := Ideal) h w g w2 (ix2 r c)
      = times (rmsNorm (Ideal.ofBits .f32 0x44400000#32) (times (at_ h r) (at_ w)) (at_ g 0)) (at_ w2) c := by
  pointwise [k0_pay15]
  rfl

/-- The latent row of keys and values, normalized. -/
theorem latent_apply (h : FVec Ideal S256x2048 .bf16) (w : Vec Ideal S2048x256 .bf16) (g : Vec Ideal S1x256 .f32) (r : Fin 256) (c : Fin 256) :
    k0_pay39 (F := Ideal) (k0_pay36 (F := Ideal) h w) g (k0_pay37 (F := Ideal) h w) (k0_pay38 (F := Ideal)) (ix2 r c)
      = rmsNorm (Ideal.ofBits .f32 0x43800000#32) (times (at_ h r) (at_ w)) (at_ g 0) c := by
  pointwise [k0_pay39, k0_pay36, k0_pay37, k0_pay38]
  rfl

/-- The embedded part of the keys. -/
theorem pay40_apply (h : FVec Ideal S256x2048 .bf16) (a b : Vec Ideal S256x128 .f32) (w : Vec Ideal S2048x128 .bf16) (r : Fin 256) (c : Fin 128) :
    k0_pay40 (F := Ideal) h a b w (ix2 r c) = rotate (times (at_ h r) (at_ w)) (at_ a r) (at_ b r) c := by
  pointwise [k0_pay40]
  rfl

theorem pay41_apply (v : FVec Ideal S256x256 .f32) (g : Vec Ideal S1x256 .f32) (s e : FVec Ideal S256x1 .f32) (w : Vec Ideal S256x1024 .bf16)
    (r : Fin 256) (c : Fin 1024) :
    k0_pay41 (F := Ideal) v g s e w (ix2 r c) = times (at_ (k0_pay39 (F := Ideal) v g s e) r) (at_ w) c := by
  pointwise [k0_pay41]
  rfl

theorem pay50_apply (v : FVec Ideal S256x256 .bf16) (w : Vec Ideal S1024x256 .bf16) (d : Fin 1024) (r : Fin 256) :
    k0_pay50 (F := Ideal) v w (ix2 d r) = ∑ l : Fin 256, w (ix2 d l) * v (ix2 r l) := by
  pointwise [k0_pay50]

/-- The gated unit of the tile's first chunk. -/
theorem pay8_apply (u : FVec Ideal S256x512 .f32) (g b : Vec Ideal S1x512 .f32) (v : FVec Ideal S256x512 .f32) (s e : FVec Ideal S256x1 .f32)
    (w0 w1 w2 w3 : Vec Ideal S1x128x128 .bf16) (bs : Vec Ideal S128x512 .f32) (W : Fin 4 → Fin 128 → Row 128)
    (h0 : ∀ t s, w0 (ix3 (0 : Fin 1) t s) = W 0 t s) (h1 : ∀ t s, w1 (ix3 (0 : Fin 1) t s) = W 1 t s)
    (h2 : ∀ t s, w2 (ix3 (0 : Fin 1) t s) = W 2 t s) (h3 : ∀ t s, w3 (ix3 (0 : Fin 1) t s) = W 3 t s) (t : Fin 128) (d : Fin 512) :
    k0_pay8 (F := Ideal) u g b v s e w0 w1 w2 w3 bs (ix2 t d)
      = gated (at_ u ⟨t.val, by omega⟩) (fun r => at_ (k0_pay7 (F := Ideal) g b v s e) ⟨r.val, by omega⟩) W (at_ bs) t d := by
  have hd := d.isLt
  pointwise [k0_pay8]
  simp only [h0, h1, h2, h3]
  unfold gated
  refine congrArg (u (ix2 ⟨t.val, by omega⟩ d) * ·) (congrArg (· + bs (ix2 t d)) ?_)
  have hw : ∀ n (hn : n < 4) (_ : d.val / 128 = n), W ⟨d.val / 128, by omega⟩ = W ⟨n, hn⟩ := fun n hn h => congrArg W (Fin.ext h)
  split
  · rw [hw 0 (by omega) (by omega)]
    rfl
  split
  · rw [hw 1 (by omega) (by omega)]
    exact Finset.sum_congr rfl fun r _ => congrArg (fun n => _ * k0_pay7 (F := Ideal) g b v s e (ix2 _ n)) (Fin.ext (by show 128 + (d.val - 128) = d.val; omega))
  split
  · rw [hw 2 (by omega) (by omega)]
    exact Finset.sum_congr rfl fun r _ => congrArg (fun n => _ * k0_pay7 (F := Ideal) g b v s e (ix2 _ n)) (Fin.ext (by show 256 + (d.val - 128 - 128) = d.val; omega))
  · rw [hw 3 (by omega) (by omega)]
    exact Finset.sum_congr rfl fun r _ => congrArg (fun n => _ * k0_pay7 (F := Ideal) g b v s e (ix2 _ n)) (Fin.ext (by show 384 + (d.val - 128 - 128 - 128) = d.val; omega))

theorem pay9_apply (w : Vec Ideal S1x128x128 .bf16) (t s : Fin 128) : k0_pay9 (F := Ideal) w (ix2 t s) = w (ix3 (0 : Fin 1) t s) := by
  pointwise [k0_pay9]

theorem pay10_apply (g b : Vec Ideal S1x512 .f32) (v : FVec Ideal S256x512 .f32) (s e : FVec Ideal S256x1 .f32) (t d : Fin 128) :
    k0_pay10 (F := Ideal) g b v s e (ix2 t d) = k0_pay7 (F := Ideal) g b v s e (ix2 ⟨128 + t.val, by omega⟩ ⟨d.val, by omega⟩) := by
  pointwise [k0_pay10]

/-- The gated unit of the tile's second chunk. -/
theorem pay11_apply (u : FVec Ideal S256x512 .f32) (v : FVec Ideal S256x512 .bf16) (w0 v0 : FVec Ideal S128x128 .bf16)
    (w1 w2 w3 : Vec Ideal S1x128x128 .bf16) (bs : Vec Ideal S128x512 .f32) (W : Fin 4 → Fin 128 → Row 128)
    (h0 : ∀ t s, w0 (ix2 t s) = W 0 t s) (hv : ∀ t d : Fin 128, v0 (ix2 t d) = v (ix2 ⟨128 + t.val, by omega⟩ ⟨d.val, by omega⟩))
    (h1 : ∀ t s, w1 (ix3 (0 : Fin 1) t s) = W 1 t s)
    (h2 : ∀ t s, w2 (ix3 (0 : Fin 1) t s) = W 2 t s) (h3 : ∀ t s, w3 (ix3 (0 : Fin 1) t s) = W 3 t s) (t : Fin 128) (d : Fin 512) :
    k0_pay11 (F := Ideal) u v w0 v0 (constant S128x128 .f32 0x00000000#32) w1 w2 w3 bs (ix2 t d)
      = gated (at_ u ⟨128 + t.val, by omega⟩) (fun r => at_ v ⟨128 + r.val, by omega⟩) W (at_ bs) t d := by
  have hd := d.isLt
  pointwise [k0_pay11]
  simp only [h0, h1, h2, h3, hv]
  unfold gated
  refine congrArg (u (ix2 ⟨128 + t.val, by omega⟩ d) * ·) (congrArg (· + bs (ix2 t d)) ?_)
  have hw : ∀ n (hn : n < 4) (_ : d.val / 128 = n), W ⟨d.val / 128, by omega⟩ = W ⟨n, hn⟩ := fun n hn h => congrArg W (Fin.ext h)
  split
  · rw [hw 0 (by omega) (by omega)]
    rfl
  split
  · rw [hw 1 (by omega) (by omega)]
    exact Finset.sum_congr rfl fun r _ => congrArg (fun n => _ * v (ix2 _ n)) (Fin.ext (by show 128 + (d.val - 128) = d.val; omega))
  split
  · rw [hw 2 (by omega) (by omega)]
    exact Finset.sum_congr rfl fun r _ => congrArg (fun n => _ * v (ix2 _ n)) (Fin.ext (by show 256 + (d.val - 128 - 128) = d.val; omega))
  · rw [hw 3 (by omega) (by omega)]
    exact Finset.sum_congr rfl fun r _ => congrArg (fun n => _ * v (ix2 _ n)) (Fin.ext (by show 384 + (d.val - 128 - 128 - 128) = d.val; omega))

/-- The queries of a tile, from the projected queries and the embedding's tables. -/
def queries (y : FVec Ideal S256x2048 .f32) (a b : Vec Ideal S256x128 .f32) : Vec Ideal S256x2048 .bf16 :=
  fun i => query (at_ y (i 0)) (at_ a (i 0)) (at_ b (i 0)) (i 1)

theorem emb_eq (o : ℕ) (ho : o + 128 ≤ 2048) (inb : ∀ a, (![0, o] : Fin 2 → ℕ) a + S256x128.size a ≤ S256x2048.size a) (r : Fin 256) (e : Fin 128) :
    (Rect.unit (s := S256x2048) ![0, o] S256x128.size inb).emb (ix2 r e) = ix2 r (⟨o + e.val, by omega⟩ : Fin 2048) := by
  refine Shape.idx_ext₂ ?_ ?_
  · show 0 + 1 * r.val = r.val
    omega
  · show o + 1 * e.val = o + e.val
    omega

/-- A head's plain queries: the 128 columns from `o` on, scaled. -/
theorem plain_piece (y : FVec Ideal S256x2048 .f32) (a b : Vec Ideal S256x128 .f32) (o : ℕ) (ho : o + 128 ≤ 2048) (hm : o % 256 = 0)
    (h : S256x2048.Slices ![0, o] S256x128)
    (inb : ∀ a, (![0, o] : Fin 2 → ℕ) a + S256x128.size a ≤ S256x2048.size a) (x : S256x128.Idx) :
    (truncf .bf16 (mulf (extractStridedSlice S256x128 ![0, o] y h) (broadcast S256x128 (Scalar.ofBits (F := Ideal) .f32 0x3DD53B95#32))) bitsLt_bf16_f32
      : FVec Ideal S256x128 .bf16) x = queries y a b ((Rect.unit (s := S256x2048) ![0, o] S256x128.size inb).emb x) := by
  obtain ⟨r, e, rfl⟩ : ∃ (r : Fin 256) (e : Fin 128), x = ix2 r e := ⟨x 0, x 1, Shape.idx_ext₂ rfl rfl⟩
  have he := e.isLt
  rw [emb_eq o ho inb r e]
  have hp : (truncf .bf16 (mulf (extractStridedSlice S256x128 ![0, o] y h) (broadcast S256x128 (Scalar.ofBits (F := Ideal) .f32 0x3DD53B95#32))) bitsLt_bf16_f32
      : FVec Ideal S256x128 .bf16) (ix2 r e) = y (ix2 r ⟨o + e.val, by omega⟩) * Ideal.ofBits .f32 0x3DD53B95#32 := by
    pointwise
  rw [hp]
  show _ = query (at_ y r) (at_ a r) (at_ b r) ⟨o + e.val, by omega⟩
  unfold query
  rw [dif_pos (show (o + e.val) % 256 < 128 by omega)]

/-- A head's embedded queries: the 128 columns from `o` on, embedded and scaled. -/
theorem turned_piece (y : FVec Ideal S256x2048 .f32) (a b : Vec Ideal S256x128 .f32) (o : ℕ) (ho : o + 128 ≤ 2048) (hm : o % 256 = 128)
    (h : S256x2048.Slices ![0, o] S256x128)
    (inb : ∀ a, (![0, o] : Fin 2 → ℕ) a + S256x128.size a ≤ S256x2048.size a) (x : S256x128.Idx) :
    (truncf .bf16 (mulf (addf (mulf (extractStridedSlice S256x128 ![0, o] y h) a)
        (mulf (dynamicRotate 1 64#32 none (extractStridedSlice S256x128 ![0, o] y h) rotates_S256x128_d1) b))
        (broadcast S256x128 (Scalar.ofBits (F := Ideal) .f32 0x3DD53B95#32))) bitsLt_bf16_f32
      : FVec Ideal S256x128 .bf16) x = queries y a b ((Rect.unit (s := S256x2048) ![0, o] S256x128.size inb).emb x) := by
  obtain ⟨r, e, rfl⟩ : ∃ (r : Fin 256) (e : Fin 128), x = ix2 r e := ⟨x 0, x 1, Shape.idx_ext₂ rfl rfl⟩
  have he := e.isLt
  rw [emb_eq o ho inb r e]
  have hs : ∀ e : Fin 128, extractStridedSlice S256x128 ![0, o] y h (ix2 r e) = y (ix2 r ⟨o + e.val, by omega⟩) := by
    intro e
    pointwise
  have hp : (truncf .bf16 (mulf (addf (mulf (extractStridedSlice S256x128 ![0, o] y h) a)
        (mulf (dynamicRotate 1 64#32 none (extractStridedSlice S256x128 ![0, o] y h) rotates_S256x128_d1) b))
        (broadcast S256x128 (Scalar.ofBits (F := Ideal) .f32 0x3DD53B95#32))) bitsLt_bf16_f32
      : FVec Ideal S256x128 .bf16) (ix2 r e) = rotate (fun e => y (ix2 r ⟨o + e.val, by omega⟩)) (at_ a r) (at_ b r) e * Ideal.ofBits .f32 0x3DD53B95#32 := by
    generalize extractStridedSlice S256x128 ![0, o] y h = z at hs
    pointwise
    rw [hs, hs]
    rfl
  rw [hp]
  show _ = query (at_ y r) (at_ a r) (at_ b r) ⟨o + e.val, by omega⟩
  unfold query
  rw [dif_neg (show ¬(o + e.val) % 256 < 128 by omega)]
  refine congrArg (· * _) ?_
  have e1 : (o + e.val) / 256 * 256 + 128 = o := by omega
  have e2 : (⟨(o + e.val) % 256 - 128, by omega⟩ : Fin 128) = e := Fin.ext (by show (o + e.val) % 256 - 128 = e.val; omega)
  simp only [e1, e2]

/-- The keys of a tile's row `r` at column `c`, from the projected keys and the embedded part all heads share. -/
def keyAt (y : FVec Ideal S256x1024 .f32) (z : FVec Ideal S256x128 .bf16) (r : Fin 256) (c : Fin 2048) : EReal :=
  if h : c.val % 256 < 128 then y (ix2 r ⟨c.val / 256 * 128 + c.val % 256, by omega⟩) else z (ix2 r ⟨c.val % 256 - 128, by omega⟩)

/-- The keys of a tile. -/
def keys (y : FVec Ideal S256x1024 .f32) (z : FVec Ideal S256x128 .bf16) : Vec Ideal S256x2048 .bf16 := fun i => keyAt y z (i 0) (i 1)

theorem own_piece (y : FVec Ideal S256x1024 .f32) (z : FVec Ideal S256x128 .bf16) (o : ℕ) (ho : o + 128 ≤ 2048) (hm : o % 256 = 0) (o' : ℕ) (ho' : o' * 2 = o)
    (h : S256x1024.Slices ![0, o'] S256x128)
    (inb : ∀ a, (![0, o] : Fin 2 → ℕ) a + S256x128.size a ≤ S256x2048.size a) (x : S256x128.Idx) :
    (truncf .bf16 (extractStridedSlice S256x128 ![0, o'] y h) bitsLt_bf16_f32 : FVec Ideal S256x128 .bf16) x
      = keys y z ((Rect.unit (s := S256x2048) ![0, o] S256x128.size inb).emb x) := by
  obtain ⟨r, e, rfl⟩ : ∃ (r : Fin 256) (e : Fin 128), x = ix2 r e := ⟨x 0, x 1, Shape.idx_ext₂ rfl rfl⟩
  have he := e.isLt
  rw [emb_eq o ho inb r e]
  have hp : (truncf .bf16 (extractStridedSlice S256x128 ![0, o'] y h) bitsLt_bf16_f32 : FVec Ideal S256x128 .bf16) (ix2 r e)
      = y (ix2 r ⟨o' + e.val, by omega⟩) := by
    pointwise
  rw [hp]
  show _ = keyAt y z r ⟨o + e.val, by omega⟩
  unfold keyAt
  rw [dif_pos (show (o + e.val) % 256 < 128 by omega)]
  exact congrArg (fun n => y (ix2 r n)) (Fin.ext (by show o' + e.val = (o + e.val) / 256 * 128 + (o + e.val) % 256; omega))

theorem shared_piece (y : FVec Ideal S256x1024 .f32) (z : FVec Ideal S256x128 .bf16) (o : ℕ) (ho : o + 128 ≤ 2048) (hm : o % 256 = 128)
    (inb : ∀ a, (![0, o] : Fin 2 → ℕ) a + S256x128.size a ≤ S256x2048.size a) (x : S256x128.Idx) :
    z x = keys y z ((Rect.unit (s := S256x2048) ![0, o] S256x128.size inb).emb x) := by
  obtain ⟨r, e, rfl⟩ : ∃ (r : Fin 256) (e : Fin 128), x = ix2 r e := ⟨x 0, x 1, Shape.idx_ext₂ rfl rfl⟩
  have he := e.isLt
  rw [emb_eq o ho inb r e]
  show _ = keyAt y z r ⟨o + e.val, by omega⟩
  unfold keyAt
  rw [dif_neg (show ¬(o + e.val) % 256 < 128 by omega)]
  exact congrArg (fun n => z (ix2 r n)) (Fin.ext (by show e.val = (o + e.val) % 256 - 128; omega))

end Cert.Kernel3Ideal.Proj

end
-- ==== Proof.ProjOut.lean ====
/-
  THE SEVEN BLOCKS A TILE OF THE INPUT PROJECTIONS' KERNEL STORES, over the extended reals: `Cert.Projections`'s functions of the
  tile's rows.
-/
module

public import proofs.«01_k».proof.Proof.ProjTile
public import proofs.«01_k».proof.Proof.Gen.Kernel3Ideal.Frame
public import Idealize.ShloMosaic.Lib.Pipeline.CanonAppend
public import Idealize.ShloMosaic.Lib.Pipeline.ValueKit
public import Idealize.ShloMosaic.Lib.Tactic

@[expose] public section

noncomputable section

open Idealize.ShloMosaic Idealize.ShloMosaic.TcCoe Idealize.SL.Sem

namespace Cert.Kernel3Ideal.Proj
open Cert.Kernel3Ideal Cert.Kernel3Ideal.Gen Cert.Projections

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of the tile, modulated. -/
def hidden (x0 : Vec Ideal S256x2048 .f32) (x1 : Vec Ideal S1x6x2048 .f32) (r : Fin 256) : Row 2048 :=
  modulate (at_ x0 r) (fun k => x1 (ix3 (0 : Fin 1) (1 : Fin 6) k)) (fun k => x1 (ix3 (0 : Fin 1) (0 : Fin 6) k))

/-- Row `r` of the tile, projected. -/
def projected (x0 : Vec Ideal S256x2048 .f32) (x1 : Vec Ideal S1x6x2048 .f32) (x4 : Vec Ideal S2048x3968 .bf16) (r : Fin 256) : Row 3968 :=
  times (hidden x0 x1 r) (at_ x4)

theorem hidden_row (x0 : Vec Ideal S256x2048 .f32) (x1 : Vec Ideal S1x6x2048 .f32) (r : Fin 256) :
    at_ (k0_pay1 (F := Ideal) x1 x0) r = hidden x0 x1 r :=
  funext fun k => pay1_apply x1 x0 r k

/-- A row times some of the columns is a part of the projected row. -/
theorem cols (h : Row 2048) (x : Vec Ideal S2048x3968 .bf16) (o n : ℕ) (hn : o + n ≤ 3968)
    (inb : ∀ a, (![0, o] : Fin 2 → ℕ) a + (![2048, n] : Fin 2 → ℕ) a ≤ S2048x3968.size a) :
    times h (at_ (n := 2048) (p := n) (View.ld (S := S2048x3968) x (Rect.unit ![0, o] ![2048, n] inb)))
      = fun d => times h (at_ x) ⟨o + d.val, by omega⟩ := by
  funext d
  refine Finset.sum_congr rfl fun k _ => congrArg (h k * ·) (congrArg x (Shape.idx_ext₂ ?_ ?_))
  · show 0 + 1 * k.val = k.val
    omega
  · show o + 1 * d.val = o + d.val
    omega

/-- Matrix `e` of the chunk-mixing weights. -/
theorem mix_weight (x : Vec Ideal S4x128x128 .bf16) (e : Fin 4)
    (inb : ∀ a, (![e.val, 0, 0] : Fin 3 → ℕ) a + (![1, 128, 128] : Fin 3 → ℕ) a ≤ S4x128x128.size a) (t s : Fin 128) :
    View.ld (S := S4x128x128) x (Rect.unit ![e.val, 0, 0] ![1, 128, 128] inb) (ix3 (0 : Fin 1) t s) = x (ix3 e t s) := by
  refine congrArg x (funext fun a => Fin.ext ?_)
  match a with
  | ⟨0, _⟩ => show e.val + 1 * 0 = e.val; omega
  | ⟨1, _⟩ => show 0 + 1 * t.val = t.val; omega
  | ⟨2, _⟩ => show 0 + 1 * s.val = s.val; omega

variable (x0 : Vec Ideal S256x2048 .f32) (x1 : Vec Ideal S1x6x2048 .f32) (x2 x3 : Vec Ideal S256x128 .f32) (x4 : Vec Ideal S2048x3968 .bf16)
  (x5 x6 : Vec Ideal S1x512 .f32) (x7 : Vec Ideal S4x128x128 .bf16) (x8 : Vec Ideal S128x512 .f32) (x9 : Vec Ideal S1x768 .f32)
  (x10 : Vec Ideal S768x2048 .bf16) (x11 : Vec Ideal S1x256 .f32) (x12 : Vec Ideal S256x1024 .bf16) (x13 : Vec Ideal S1024x256 .bf16)

theorem out15 (r : Fin 256) (d : Fin 512) : out0_15 (F := Ideal) x0 x1 x2 x3 x4 x5 x6 x7 x8 x9 x10 x11 x12 x13 (ix2 r d)
    = projected x0 x1 x4 r ⟨1792 + d.val, by omega⟩ := by
  unfold_out out0_15
  rw [View.canon_unit_zero hz, View.ld_unit_zero (S := S1x6x2048) hz3, View.ld_unit_zero (S := S256x2048) hz, pay12_apply, hidden_row]
  exact congrFun (cols _ x4 1792 512 (by omega) _) d

theorem out16 (r : Fin 256) (d : Fin 1024) : out0_16 (F := Ideal) x0 x1 x2 x3 x4 x5 x6 x7 x8 x9 x10 x11 x12 x13 (ix2 r d)
    = projected x0 x1 x4 r ⟨2304 + d.val, by omega⟩ := by
  unfold_out out0_16
  rw [View.canon_unit_zero hz, View.ld_unit_zero (S := S1x6x2048) hz3, View.ld_unit_zero (S := S256x2048) hz, pay13_apply, hidden_row]
  exact congrFun (cols _ x4 2304 1024 (by omega) _) d

theorem out17 (r : Fin 256) (d : Fin 256) : out0_17 (F := Ideal) x0 x1 x2 x3 x4 x5 x6 x7 x8 x9 x10 x11 x12 x13 (ix2 r d)
    = projected x0 x1 x4 r ⟨3328 + d.val, by omega⟩ := by
  unfold_out out0_17
  rw [View.canon_unit_zero hz, View.ld_unit_zero (S := S1x6x2048) hz3, View.ld_unit_zero (S := S256x2048) hz, pay14_apply, hidden_row]
  exact congrFun (cols _ x4 3328 256 (by omega) _) d

/-- The latent row of a tile's row. -/
theorem latent_row (r : Fin 256) :
    at_ (k0_pay39 (F := Ideal) (k0_pay36 (F := Ideal) (k0_pay1 (F := Ideal) x1 x0) (View.ld x4 r0_37)) x11
      (k0_pay37 (F := Ideal) (k0_pay1 (F := Ideal) x1 x0) (View.ld x4 r0_37)) (k0_pay38 (F := Ideal))) r = latent (projected x0 x1 x4 r) (at_ x11 0) := by
  funext c
  refine (latent_apply _ _ _ r c).trans ?_
  rw [hidden_row]
  exact congrFun (congrArg (fun v => rmsNorm _ v (at_ x11 0)) (cols _ x4 3584 256 (by omega) _)) c

theorem out20 (d : Fin 1024) (r : Fin 256) : out0_20 (F := Ideal) x0 x1 x2 x3 x4 x5 x6 x7 x8 x9 x10 x11 x12 x13 (ix2 d r)
    = ∑ l : Fin 256, x13 (ix2 d l) * latent (projected x0 x1 x4 r) (at_ x11 0) l := by
  unfold_out out0_20
  rw [View.canon_unit_zero hz, View.ld_unit_zero (S := S1x6x2048) hz3, View.ld_unit_zero (S := S256x2048) hz, View.ld_unit_zero (S := S1x256) hz,
    View.ld_unit_zero (S := S1024x256) hz, pay50_apply]
  rw [← latent_row]

/-- The queries before the embedding, of a tile's row. -/
theorem query_row (r : Fin 256) :
    at_ (k0_pay15 (F := Ideal) (k0_pay1 (F := Ideal) x1 x0) (View.ld x4 r0_18) x9 x10) r
      = queryFlat (projected x0 x1 x4 r) (at_ x9 0) (at_ x10) := by
  funext c
  refine (pay15_apply _ _ _ _ r c).trans ?_
  rw [hidden_row]
  exact congrFun (congrArg (fun v => times (rmsNorm _ v (at_ x9 0)) (at_ x10)) (cols _ x4 1024 768 (by omega) _)) c

theorem out18 (r : Fin 256) (c : Fin 2048) : out0_18 (F := Ideal) x0 x1 x2 x3 x4 x5 x6 x7 x8 x9 x10 x11 x12 x13 (ix2 r c)
    = query (queryFlat (projected x0 x1 x4 r) (at_ x9 0) (at_ x10)) (at_ x2 r) (at_ x3 r) c := by
  unfold_out out0_18
  rw [View.ld_unit_zero (S := S1x6x2048) hz3, View.ld_unit_zero (S := S256x2048) hz, View.ld_unit_zero (S := S256x128) hz _ x2,
    View.ld_unit_zero (S := S256x128) hz _ x3, View.ld_unit_zero (S := S1x768) hz, View.ld_unit_zero (S := S768x2048) hz]
  rw [← query_row]
  generalize k0_pay1 (F := Ideal) x1 x0 = v
  generalize (View.ld x4 r0_18) = w
  refine (congrArg (fun L => View.canon L (ix2 r c)) (List.append_nil _).symm).trans ?_
  refine View.canon_append_of_pieces (queries (k0_pay15 (F := Ideal) v w x9 x10) x2 x3) [] _ ?_ _ (cover0_18 ..)
  refine List.forall_mem_cons.2 ⟨fun x => turned_piece _ x2 x3 1920 (by omega) (by omega) slices_S256x2048_o0_1920_S256x128 inb_S256x2048_S256x128_0_1920 x, ?_⟩
  refine List.forall_mem_cons.2 ⟨fun x => plain_piece _ x2 x3 1792 (by omega) (by omega) slices_S256x2048_o0_1792_S256x128 inb_S256x2048_S256x128_0_1792 x, ?_⟩
  refine List.forall_mem_cons.2 ⟨fun x => turned_piece _ x2 x3 1664 (by omega) (by omega) slices_S256x2048_o0_1664_S256x128 inb_S256x2048_S256x128_0_1664 x, ?_⟩
  refine List.forall_mem_cons.2 ⟨fun x => plain_piece _ x2 x3 1536 (by omega) (by omega) slices_S256x2048_o0_1536_S256x128 inb_S256x2048_S256x128_0_1536 x, ?_⟩
  refine List.forall_mem_cons.2 ⟨fun x => turned_piece _ x2 x3 1408 (by omega) (by omega) slices_S256x2048_o0_1408_S256x128 inb_S256x2048_S256x128_0_1408 x, ?_⟩
  refine List.forall_mem_cons.2 ⟨fun x => plain_piece _ x2 x3 1280 (by omega) (by omega) slices_S256x2048_o0_1280_S256x128 inb_S256x2048_S256x128_0_1280 x, ?_⟩
  refine List.forall_mem_cons.2 ⟨fun x => turned_piece _ x2 x3 1152 (by omega) (by omega) slices_S256x2048_o0_1152_S256x128 inb_S256x2048_S256x128_0_1152 x, ?_⟩
  refine List.forall_mem_cons.2 ⟨fun x => plain_piece _ x2 x3 1024 (by omega) (by omega) slices_S256x2048_o0_1024_S256x128 inb_S256x2048_S256x128_0_1024 x, ?_⟩
  refine List.forall_mem_cons.2 ⟨fun x => turned_piece (k0_pay15 (F := Ideal) v w x9 x10) x2 x3 896 (by omega) (by omega) slices_S256x2048_o0_896_S256x128 inb_S256x2048_S256x128_0_896 x, ?_⟩
  refine List.forall_mem_cons.2 ⟨fun x => plain_piece _ x2 x3 768 (by omega) (by omega) slices_S256x2048_o0_768_S256x128 inb_S256x2048_S256x128_0_768 x, ?_⟩
  refine List.forall_mem_cons.2 ⟨fun x => turned_piece _ x2 x3 640 (by omega) (by omega) slices_S256x2048_o0_640_S256x128 inb_S256x2048_S256x128_0_640 x, ?_⟩
  refine List.forall_mem_cons.2 ⟨fun x => plain_piece _ x2 x3 512 (by omega) (by omega) slices_S256x2048_o0_512_S256x128 inb_S256x2048_S256x128_0_512 x, ?_⟩
  refine List.forall_mem_cons.2 ⟨fun x => turned_piece _ x2 x3 384 (by omega) (by omega) slices_S256x2048_o0_384_S256x128 inb_S256x2048_S256x128_0_384 x, ?_⟩
  refine List.forall_mem_cons.2 ⟨fun x => plain_piece _ x2 x3 256 (by omega) (by omega) slices_S256x2048_o0_256_S256x128 inb_S256x2048_S256x128_0_256 x, ?_⟩
  refine List.forall_mem_cons.2 ⟨fun x => turned_piece _ x2 x3 128 (by omega) (by omega) slices_S256x2048_o0_128_S256x128 inb_S256x2048_S256x128_0_128 x, ?_⟩
  refine List.forall_mem_cons.2 ⟨fun x => plain_piece _ x2 x3 0 (by omega) (by omega) slices_S256x2048_o0_0_S256x128 inb_S256x2048_S256x128_0_0 x, ?_⟩
  exact List.forall_mem_nil _

theorem out19 (r : Fin 256) (c : Fin 2048) : out0_19 (F := Ideal) x0 x1 x2 x3 x4 x5 x6 x7 x8 x9 x10 x11 x12 x13 (ix2 r c)
    = key (times (latent (projected x0 x1 x4 r) (at_ x11 0)) (at_ x12)) (projected x0 x1 x4 r) (at_ x2 r) (at_ x3 r) c := by
  unfold_out out0_19
  rw [View.ld_unit_zero (S := S1x6x2048) hz3, View.ld_unit_zero (S := S256x2048) hz, View.ld_unit_zero (S := S256x128) hz _ x2,
    View.ld_unit_zero (S := S256x128) hz _ x3, View.ld_unit_zero (S := S1x256) hz, View.ld_unit_zero (S := S256x1024) hz]
  have e : key (times (latent (projected x0 x1 x4 r) (at_ x11 0)) (at_ x12)) (projected x0 x1 x4 r) (at_ x2 r) (at_ x3 r) c
      = keyAt (k0_pay41 (F := Ideal) (k0_pay36 (F := Ideal) (k0_pay1 (F := Ideal) x1 x0) (View.ld x4 r0_37)) x11
        (k0_pay37 (F := Ideal) (k0_pay1 (F := Ideal) x1 x0) (View.ld x4 r0_37)) (k0_pay38 (F := Ideal)) x12)
        (k0_pay40 (F := Ideal) (k0_pay1 (F := Ideal) x1 x0) x2 x3 (View.ld x4 r0_39)) r c := by
    unfold key keyAt
    split
    · rw [pay41_apply, latent_row]
    · rw [pay40_apply, hidden_row]
      exact congrArg (fun v => rotate v (at_ x2 r) (at_ x3 r) _) (cols _ x4 3840 128 (by omega) _).symm
  rw [e]
  generalize k0_pay1 (F := Ideal) x1 x0 = v
  generalize (View.ld x4 r0_37) = w
  generalize (View.ld x4 r0_39) = w'
  refine (congrArg (fun L => View.canon L (ix2 r c)) (List.append_nil _).symm).trans ?_
  refine View.canon_append_of_pieces (keys (k0_pay41 (F := Ideal) (k0_pay36 (F := Ideal) v w) x11 (k0_pay37 (F := Ideal) v w) (k0_pay38 (F := Ideal)) x12)
    (k0_pay40 (F := Ideal) v x2 x3 w')) [] _ ?_ _ (cover0_19 ..)
  refine List.forall_mem_cons.2 ⟨fun x => shared_piece _ _ 1920 (by omega) (by omega) inb_S256x2048_S256x128_0_1920 x, ?_⟩
  refine List.forall_mem_cons.2 ⟨fun x => own_piece _ _ 1792 (by omega) (by omega) 896 (by omega) slices_S256x1024_o0_896_S256x128 inb_S256x2048_S256x128_0_1792 x, ?_⟩
  refine List.forall_mem_cons.2 ⟨fun x => shared_piece _ _ 1664 (by omega) (by omega) inb_S256x2048_S256x128_0_1664 x, ?_⟩
  refine List.forall_mem_cons.2 ⟨fun x => own_piece _ _ 1536 (by omega) (by omega) 768 (by omega) slices_S256x1024_o0_768_S256x128 inb_S256x2048_S256x128_0_1536 x, ?_⟩
  refine List.forall_mem_cons.2 ⟨fun x => shared_piece _ _ 1408 (by omega) (by omega) inb_S256x2048_S256x128_0_1408 x, ?_⟩
  refine List.forall_mem_cons.2 ⟨fun x => own_piece _ _ 1280 (by omega) (by omega) 640 (by omega) slices_S256x1024_o0_640_S256x128 inb_S256x2048_S256x128_0_1280 x, ?_⟩
  refine List.forall_mem_cons.2 ⟨fun x => shared_piece _ _ 1152 (by omega) (by omega) inb_S256x2048_S256x128_0_1152 x, ?_⟩
  refine List.forall_mem_cons.2 ⟨fun x => own_piece _ _ 1024 (by omega) (by omega) 512 (by omega) slices_S256x1024_o0_512_S256x128 inb_S256x2048_S256x128_0_1024 x, ?_⟩
  refine List.forall_mem_cons.2 ⟨fun x => shared_piece _ _ 896 (by omega) (by omega) inb_S256x2048_S256x128_0_896 x, ?_⟩
  refine List.forall_mem_cons.2 ⟨fun x => own_piece _ _ 768 (by omega) (by omega) 384 (by omega) slices_S256x1024_o0_384_S256x128 inb_S256x2048_S256x128_0_768 x, ?_⟩
  refine List.forall_mem_cons.2 ⟨fun x => shared_piece _ _ 640 (by omega) (by omega) inb_S256x2048_S256x128_0_640 x, ?_⟩
  refine List.forall_mem_cons.2 ⟨fun x => own_piece _ _ 512 (by omega) (by omega) 256 (by omega) slices_S256x1024_o0_256_S256x128 inb_S256x2048_S256x128_0_512 x, ?_⟩
  refine List.forall_mem_cons.2 ⟨fun x => shared_piece _ _ 384 (by omega) (by omega) inb_S256x2048_S256x128_0_384 x, ?_⟩
  refine List.forall_mem_cons.2 ⟨fun x => own_piece _ _ 256 (by omega) (by omega) 128 (by omega) slices_S256x1024_o0_128_S256x128 inb_S256x2048_S256x128_0_256 x, ?_⟩
  refine List.forall_mem_cons.2 ⟨fun x => shared_piece _ _ 128 (by omega) (by omega) inb_S256x2048_S256x128_0_128 x, ?_⟩
  refine List.forall_mem_cons.2 ⟨fun x => own_piece _ _ 0 (by omega) (by omega) 0 (by omega) slices_S256x1024_o0_0_S256x128 inb_S256x2048_S256x128_0_0 x, ?_⟩
  exact List.forall_mem_nil _

/-- The gated unit at row `r` of a tile. -/
def mixed (r : Fin 256) : Row 512 :=
  gated (gate (projected x0 x1 x4 r)) (fun s => valueNorm (projected x0 x1 x4 ⟨r.val / 128 * 128 + s.val, by omega⟩) (at_ x5 0) (at_ x6 0))
    (fun h t s => x7 (ix3 h t s)) (at_ x8) ⟨r.val % 128, Nat.mod_lt _ (by omega)⟩

/-- The tile's block of gated units. -/
def mixedBlock : Vec Ideal S256x512 .bf16 := fun y => mixed x0 x1 x4 x5 x6 x7 x8 (y 0) (y 1)

/-- The gate of a tile's row. -/
theorem gate_row (r : Fin 256) : at_ (k0_pay3 (F := Ideal) x1 x0 (View.ld x4 r0_2)) r = gate (projected x0 x1 x4 r) := by
  funext d
  refine (pay3_apply _ _ _ r d).trans ((pay2_apply _ _ _ r _).trans ?_)
  rw [hidden_row]
  refine congrArg gelu ((congrFun (cols _ x4 0 1024 (by omega) _) ⟨d.val, by omega⟩).trans ?_)
  exact congrArg (projected x0 x1 x4 r) (Fin.ext (Nat.zero_add _))

/-- The normalized values of a tile's row. -/
theorem value_row (r : Fin 256) : at_ (k0_pay7 (F := Ideal) x5 x6 (k0_pay4 (F := Ideal) x1 x0 (View.ld x4 r0_2)) (k0_pay5 (F := Ideal) x1 x0 (View.ld x4 r0_2))
    (k0_pay6 (F := Ideal))) r = valueNorm (projected x0 x1 x4 r) (at_ x5 0) (at_ x6 0) := by
  funext d
  refine (norm_apply _ _ _ _ _ r d).trans ?_
  rw [hidden_row]
  refine congrFun (congrArg (fun v => layerNorm v (at_ x5 0) (at_ x6 0)) (funext fun e => congrArg gelu ?_)) d
  refine (congrFun (cols _ x4 0 1024 (by omega) _) ⟨512 + e.val, by omega⟩).trans ?_
  exact congrArg (projected x0 x1 x4 r) (Fin.ext (Nat.zero_add _))

theorem out14 (r : Fin 256) (d : Fin 512) : out0_14 (F := Ideal) x0 x1 x2 x3 x4 x5 x6 x7 x8 x9 x10 x11 x12 x13 (ix2 r d)
    = mixed x0 x1 x4 x5 x6 x7 x8 r d := by
  unfold_out out0_14
  rw [View.ld_unit_zero (S := S1x6x2048) hz3, View.ld_unit_zero (S := S256x2048) hz, View.ld_unit_zero (S := S1x512) hz _ x5,
    View.ld_unit_zero (S := S1x512) hz _ x6, View.ld_unit_zero (S := S128x512) hz]
  have w0 : ∀ t s, View.ld x7 r0_4 (ix3 (0 : Fin 1) t s) = x7 (ix3 (0 : Fin 4) t s) := fun t s => mix_weight x7 0 _ t s
  have w1 : ∀ t s, View.ld x7 r0_5 (ix3 (0 : Fin 1) t s) = x7 (ix3 (1 : Fin 4) t s) := fun t s => mix_weight x7 1 _ t s
  have w2 : ∀ t s, View.ld x7 r0_6 (ix3 (0 : Fin 1) t s) = x7 (ix3 (2 : Fin 4) t s) := fun t s => mix_weight x7 2 _ t s
  have w3 : ∀ t s, View.ld x7 r0_7 (ix3 (0 : Fin 1) t s) = x7 (ix3 (3 : Fin 4) t s) := fun t s => mix_weight x7 3 _ t s
  refine (congrArg (fun L => View.canon L (ix2 r d)) (List.append_nil _).symm).trans ?_
  refine View.canon_append_of_pieces (mixedBlock x0 x1 x4 x5 x6 x7 x8) [] _ ?_ _ (cover0_14 ..)
  refine List.forall_mem_cons.2 ⟨fun x => ?_, List.forall_mem_cons.2 ⟨fun x => ?_, List.forall_mem_nil _⟩⟩
  · obtain ⟨t, e, rfl⟩ : ∃ (t : Fin 128) (e : Fin 512), x = ix2 t e := ⟨x 0, x 1, Shape.idx_ext₂ rfl rfl⟩
    refine (pay11_apply _ _ _ _ _ _ _ x8 (fun h t s => x7 (ix3 h t s)) (fun t s => (pay9_apply _ t s).trans (w0 t s))
      (fun t d => pay10_apply _ _ _ _ _ t d) w1 w2 w3 t e).trans ?_
    have e0 : r0_10.emb (ix2 t e) = ix2 (⟨128 + t.val, by omega⟩ : Fin 256) e := Shape.idx_ext₂ (by show 128 + 1 * t.val = 128 + t.val; omega)
      (by show 0 + 1 * e.val = e.val; omega)
    rw [e0]
    show _ = mixed x0 x1 x4 x5 x6 x7 x8 ⟨128 + t.val, by omega⟩ e
    unfold mixed
    rw [gate_row]
    simp only [value_row]
    have e1 : (⟨(128 + t.val) % 128, Nat.mod_lt _ (by omega)⟩ : Fin 128) = t := Fin.ext (by show (128 + t.val) % 128 = t.val; omega)
    have e2 : (128 + t.val) / 128 * 128 = 128 := by omega
    simp only [e1, e2]
  · obtain ⟨t, e, rfl⟩ : ∃ (t : Fin 128) (e : Fin 512), x = ix2 t e := ⟨x 0, x 1, Shape.idx_ext₂ rfl rfl⟩
    refine (pay8_apply _ _ _ _ _ _ _ _ _ _ x8 (fun h t s => x7 (ix3 h t s)) w0 w1 w2 w3 t e).trans ?_
    have e0 : r0_9.emb (ix2 t e) = ix2 (⟨t.val, by omega⟩ : Fin 256) e := Shape.idx_ext₂ (by show 0 + 1 * t.val = t.val; omega)
      (by show 0 + 1 * e.val = e.val; omega)
    rw [e0]
    show _ = mixed x0 x1 x4 x5 x6 x7 x8 ⟨t.val, by omega⟩ e
    unfold mixed
    rw [gate_row]
    simp only [value_row]
    have e1 : (⟨t.val % 128, Nat.mod_lt _ (by omega)⟩ : Fin 128) = t := Fin.ext (by show t.val % 128 = t.val; omega)
    have e2 : t.val / 128 * 128 = 0 := by omega
    simp only [e1, e2, Nat.zero_add]

end Cert.Kernel3Ideal.Proj

end
-- ==== Proof.ProjArray.lean ====
/-
  THE SEVEN RESULT ARRAYS OF THE INPUT PROJECTIONS' KERNEL, over the extended reals: `Cert.Projections`'s functions of its arguments.
-/
module

public import proofs.«01_k».proof.Proof.ProjOut
public import proofs.«01_k».proof.Proof.Gen.Kernel3Ideal.Value
public import Idealize.ShloMosaic.Lib.Pipeline.Covers

@[expose] public section

set_option maxRecDepth 16384

noncomputable section

open Idealize.ShloMosaic Idealize.ShloMosaic.TcCoe Idealize.SL.Sem

namespace Cert.Kernel3Ideal.Proj
open Cert.Kernel3Ideal Cert.Kernel3Ideal.Gen Cert.Projections

/-! ## The blocks in the arrays: tile `t` is rows `256 t` on -/

variable (m : (ℓ : Loc nD τ sig) → Buf (Elt Ideal) ℓ) (c : Dev nD)

theorem i0 : ∀ t : Fin cfg0.N, win0_0.index t = ![t.val, 0] := (by decide +kernel : ∀ t : Fin grid0.N, _)
theorem i1 : ∀ t : Fin cfg0.N, win0_1.index t = ![t.val / 32, 0, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![0, 0] := (by decide +kernel : ∀ t : Fin grid0.N, _)
theorem i11 : ∀ t : Fin cfg0.N, win0_11.index t = ![0, 0] := (by decide +kernel : ∀ t : Fin grid0.N, _)
theorem i12 : ∀ t : Fin cfg0.N, win0_12.index t = ![0, 0] := (by decide +kernel : ∀ t : Fin grid0.N, _)
theorem i13 : ∀ t : Fin cfg0.N, win0_13.index t = ![0, 0] := (by decide +kernel : ∀ t : Fin grid0.N, _)
theorem i14 : ∀ t : Fin cfg0.N, win0_14.index t = ![t.val, 0] := (by decide +kernel : ∀ t : Fin grid0.N, _)
theorem i15 : ∀ t : Fin cfg0.N, win0_15.index t = ![t.val, 0] := (by decide +kernel : ∀ t : Fin grid0.N, _)
theorem i16 : ∀ t : Fin cfg0.N, win0_16.index t = ![t.val, 0] := (by decide +kernel : ∀ t : Fin grid0.N, _)
theorem i17 : ∀ t : Fin cfg0.N, win0_17.index t = ![t.val, 0] := (by decide +kernel : ∀ t : Fin grid0.N, _)
theorem i18 : ∀ t : Fin cfg0.N, win0_18.index t = ![t.val, 0] := (by decide +kernel : ∀ t : Fin grid0.N, _)

/-- Where the keys and values of tile `t` go, counted in tiles: of each batch entry the context tile, then its 32 others. -/
def pos (t : ℕ) : ℕ := if t < 64 then t / 32 * 33 + 1 + t % 32 else (t - 64) * 33

theorem i19 : ∀ t : Fin cfg0.N, win0_19.index t = ![pos t.val, 0] := (by decide +kernel : ∀ t : Fin grid0.N, _)
theorem i20 : ∀ t : Fin cfg0.N, win0_20.index t = ![0, pos t.val] := (by decide +kernel : ∀ t : Fin grid0.N, _)

theorem pos_lt (t : ℕ) (h : t < 66) : pos t < 66 := by unfold pos; split <;> omega

theorem source_pos (t r : ℕ) (ht : t < 66) (hr : r < 256) (N R : Fin 16896) (hN : N.val = pos t * 256 + r) (hR : R.val = t * 256 + r) : source N = R := by
  refine Fin.ext ?_
  show (if N.val % 8448 < 256 then 16384 + N.val / 8448 * 256 + N.val % 8448 else N.val / 8448 * 8192 + (N.val % 8448 - 256)) = R.val
  unfold pos at hN
  split at hN
  · have e1 : N.val = t / 32 * 8448 + (256 + t % 32 * 256 + r) := by omega
    have e2 : N.val / 8448 = t / 32 := by omega
    have e3 : N.val % 8448 = 256 + t % 32 * 256 + r := by omega
    rw [e2, e3, if_neg (by omega)]
    omega
  · have e1 : N.val = (t - 64) * 8448 + r := by omega
    have e2 : N.val / 8448 = t - 64 := by omega
    have e3 : N.val % 8448 = r := by omega
    rw [e2, e3, if_pos hr]
    omega

theorem x_apply (t : Fin cfg0.N) (r : Fin 256) (k : Fin 2048) (R : Fin 16896) (hR : R.val = t.val * 256 + r.val) :
    iblk m c 0 t (ix2 r k) = m ((c : Thread nD τ).loc main_arg0) (ix2 R k) := by
  rw [show R = ⟨t.val * 256 + r.val, hR ▸ R.isLt⟩ from Fin.ext hR]
  blk_ext [iblk, V, i0 t]

theorem m_apply (t : Fin cfg0.N) (a : Fin 6) (k : Fin 2048) (G : Fin 3) (hG : G.val = t.val / 32) :
    iblk m c 1 t (ix3 (0 : Fin 1) a k) = m ((c : Thread nD τ).loc main_arg1) (ix3 G a k) := by
  rw [show G = ⟨t.val / 32, hG ▸ G.isLt⟩ from Fin.ext hG]
  blk_ext [iblk, V, i1 t]

theorem a_apply (t : Fin cfg0.N) (r : Fin 256) (k : Fin 128) (R : Fin 16896) (hR : R.val = t.val * 256 + r.val) :
    iblk m c 2 t (ix2 r k) = m ((c : Thread nD τ).loc main_arg2) (ix2 R k) := by
  rw [show R = ⟨t.val * 256 + r.val, hR ▸ R.isLt⟩ from Fin.ext hR]
  blk_ext [iblk, V, i2 t]

theorem b_apply (t : Fin cfg0.N) (r : Fin 256) (k : Fin 128) (R : Fin 16896) (hR : R.val = t.val * 256 + r.val) :
    iblk m c 3 t (ix2 r k) = m ((c : Thread nD τ).loc main_arg3) (ix2 R k) := by
  rw [show R = ⟨t.val * 256 + r.val, hR ▸ R.isLt⟩ from Fin.ext hR]
  blk_ext [iblk, V, i3 t]

theorem w4 (t : Fin cfg0.N) (r : Fin 2048) (k : Fin 3968) : iblk m c 4 t (ix2 r k) = m ((c : Thread nD τ).loc main_arg4) (ix2 r k) := by
  blk_ext [iblk, V, i4 t]
theorem w5 (t : Fin cfg0.N) (k : Fin 512) : iblk m c 5 t (ix2 (0 : Fin 1) k) = m ((c : Thread nD τ).loc main_arg5) (ix2 (0 : Fin 1) k) := by
  blk_ext [iblk, V, i5 t]
theorem w6 (t : Fin cfg0.N) (k : Fin 512) : iblk m c 6 t (ix2 (0 : Fin 1) k) = m ((c : Thread nD τ).loc main_arg6) (ix2 (0 : Fin 1) k) := by
  blk_ext [iblk, V, i6 t]
theorem w7 (t : Fin cfg0.N) (h : Fin 4) (r k : Fin 128) : iblk m c 7 t (ix3 h r k) = m ((c : Thread nD τ).loc main_arg7) (ix3 h r k) := by
  blk_ext [iblk, V, i7 t]
theorem w8 (t : Fin cfg0.N) (r : Fin 128) (k : Fin 512) : iblk m c 8 t (ix2 r k) = m ((c : Thread nD τ).loc main_arg8) (ix2 r k) := by
  blk_ext [iblk, V, i8 t]
theorem w9 (t : Fin cfg0.N) (k : Fin 768) : iblk m c 9 t (ix2 (0 : Fin 1) k) = m ((c : Thread nD τ).loc main_arg9) (ix2 (0 : Fin 1) k) := by
  blk_ext [iblk, V, i9 t]
theorem w10 (t : Fin cfg0.N) (r : Fin 768) (k : Fin 2048) : iblk m c 10 t (ix2 r k) = m ((c : Thread nD τ).loc main_arg10) (ix2 r k) := by
  blk_ext [iblk, V, i10 t]
theorem w11 (t : Fin cfg0.N) (k : Fin 256) : iblk m c 11 t (ix2 (0 : Fin 1) k) = m ((c : Thread nD τ).loc main_arg11) (ix2 (0 : Fin 1) k) := by
  blk_ext [iblk, V, i11 t]
theorem w12 (t : Fin cfg0.N) (r : Fin 256) (k : Fin 1024) : iblk m c 12 t (ix2 r k) = m ((c : Thread nD τ).loc main_arg12) (ix2 r k) := by
  blk_ext [iblk, V, i12 t]
theorem w13 (t : Fin cfg0.N) (r : Fin 1024) (k : Fin 256) : iblk m c 13 t (ix2 r k) = m ((c : Thread nD τ).loc main_arg13) (ix2 r k) := by
  blk_ext [iblk, V, i13 t]

/-- A tile's projected row is the array's. -/
theorem projected_block (t : Fin cfg0.N) (r : Fin 256) (R : Fin 16896) (hR : R.val = t.val * 256 + r.val) :
    projected (iblk m c 0 t) (iblk m c 1 t) (iblk m c 4 t) r
      = projectedRow (m ((c : Thread nD τ).loc main_arg0)) (m ((c : Thread nD τ).loc main_arg1)) (m ((c : Thread nD τ).loc main_arg4)) R := by
  have hr := r.isLt
  have e0 : at_ (iblk m c 0 t) r = rowOf (m ((c : Thread nD τ).loc main_arg0)) R := funext fun k => x_apply m c t r k R hR
  have e1 : ∀ a : Fin 6, (fun k => iblk m c 1 t (ix3 (0 : Fin 1) a k)) = fun k => (m ((c : Thread nD τ).loc main_arg1)) (ix3 (⟨R.val / 8192, by omega⟩ : Fin 3) a k) :=
    fun a => funext fun k => m_apply m c t a k _ (by show R.val / 8192 = t.val / 32; omega)
  have e4 : at_ (iblk m c 4 t) = rowOf (m ((c : Thread nD τ).loc main_arg4)) := funext fun k => funext fun j => w4 m c t k j
  unfold projected hidden projectedRow
  rw [e0, e1, e1, e4]

/-- The array of the gated units. -/
theorem array14 : (dats m 0 c).arrAt 14 cfg0.N = gatedArray (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  have ht : t.val < 66 := t.isLt
  blk_simp
  rw [after0_14]
  obtain ⟨r, hr⟩ : ∃ r : Fin 256, r = y 0 := ⟨_, rfl⟩
  obtain ⟨d, hd⟩ : ∃ d : Fin 512, d = y 1 := ⟨_, rfl⟩
  have hy : y = ix2 r d := by rw [hr, hd]; exact Shape.idx_ext₂ rfl rfl
  have hr' := r.isLt
  have hd' := d.isLt
  rw [hy, out14]
  have h : mixed (iblk m c 0 t) (iblk m c 1 t) (iblk m c 4 t) (iblk m c 5 t) (iblk m c 6 t) (iblk m c 7 t) (iblk m c 8 t) r d = gatedArray (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (ix2 (⟨t.val * 256 + r.val, by omega⟩ : Fin 16896) d) := by
    have e5 : at_ (iblk m c 5 t) 0 = rowOf (m ((c : Thread nD τ).loc main_arg5)) 0 := funext fun k => w5 m c t k
    have e6 : at_ (iblk m c 6 t) 0 = rowOf (m ((c : Thread nD τ).loc main_arg6)) 0 := funext fun k => w6 m c t k
    have e7 : (fun h a b => iblk m c 7 t (ix3 h a b)) = fun (h : Fin 4) (a b : Fin 128) => (m ((c : Thread nD τ).loc main_arg7)) (ix3 h a b) :=
      funext fun h => funext fun a => funext fun b => w7 m c t h a b
    have e8 : at_ (iblk m c 8 t) = rowOf (m ((c : Thread nD τ).loc main_arg8)) := funext fun a => funext fun k => w8 m c t a k
    have er : (⟨r.val % 128, Nat.mod_lt _ (by omega)⟩ : Fin 128) = ⟨(t.val * 256 + r.val) % 128, Nat.mod_lt _ (by omega)⟩ := Fin.ext (by show r.val % 128 = (t.val * 256 + r.val) % 128; omega)
    have ev : (fun s : Fin 128 => valueNorm (projected (iblk m c 0 t) (iblk m c 1 t) (iblk m c 4 t) ⟨r.val / 128 * 128 + s.val, by omega⟩) (at_ (iblk m c 5 t) 0) (at_ (iblk m c 6 t) 0))
        = fun s : Fin 128 => valueNorm (projectedRow (m ((c : Thread nD τ).loc main_arg0)) (m ((c : Thread nD τ).loc main_arg1)) (m ((c : Thread nD τ).loc main_arg4)) ⟨(t.val * 256 + r.val) / 128 * 128 + s.val, by omega⟩) (rowOf (m ((c : Thread nD τ).loc main_arg5)) 0) (rowOf (m ((c : Thread nD τ).loc main_arg6)) 0) :=
      funext fun s => by
        rw [projected_block m c t ⟨r.val / 128 * 128 + s.val, by omega⟩ ⟨(t.val * 256 + r.val) / 128 * 128 + s.val, by omega⟩ (by show (t.val * 256 + r.val) / 128 * 128 + s.val = t.val * 256 + (r.val / 128 * 128 + s.val); omega), e5, e6]
    unfold mixed
    rw [ev, e7, e8, er, projected_block m c t r ⟨t.val * 256 + r.val, by omega⟩ rfl]
    rfl
  refine h.trans (congrArg _ ?_)
  blk_ext [i14 t]

/-- The array of the projected rows' columns 1792 to 2303. -/
theorem array15 : (dats m 0 c).arrAt 15 cfg0.N = partArray (m ((c : Thread nD τ).loc main_arg0)) (m ((c : Thread nD τ).loc main_arg1)) (m ((c : Thread nD τ).loc main_arg4)) 1792 512 (by omega) := by
  refine (dats m 0 c).arrAt_eq_of_covers 15 _ (by decide +kernel) fun t hf y => ?_
  have ht : t.val < 66 := t.isLt
  blk_simp
  rw [after0_15]
  obtain ⟨r, hr⟩ : ∃ r : Fin 256, r = y 0 := ⟨_, rfl⟩
  obtain ⟨d, hd⟩ : ∃ d : Fin 512, d = y 1 := ⟨_, rfl⟩
  have hy : y = ix2 r d := by rw [hr, hd]; exact Shape.idx_ext₂ rfl rfl
  have hr' := r.isLt
  have hd' := d.isLt
  rw [hy, out15]
  have h : (projected (iblk m c 0 t) (iblk m c 1 t) (iblk m c 4 t) r) ⟨1792 + d.val, by omega⟩ = partArray (m ((c : Thread nD τ).loc main_arg0)) (m ((c : Thread nD τ).loc main_arg1)) (m ((c : Thread nD τ).loc main_arg4)) 1792 512 (by omega) (ix2 (⟨t.val * 256 + r.val, by omega⟩ : Fin 16896) d) := by
    rw [projected_block m c t r ⟨t.val * 256 + r.val, by omega⟩ rfl]
    rfl
  refine h.trans (congrArg _ ?_)
  blk_ext [i15 t]

/-- The array of the projected rows' columns 2304 to 3327. -/
theorem array16 : (dats m 0 c).arrAt 16 cfg0.N = partArray (m ((c : Thread nD τ).loc main_arg0)) (m ((c : Thread nD τ).loc main_arg1)) (m ((c : Thread nD τ).loc main_arg4)) 2304 1024 (by omega) := by
  refine (dats m 0 c).arrAt_eq_of_covers 16 _ (by decide +kernel) fun t hf y => ?_
  have ht : t.val < 66 := t.isLt
  blk_simp
  rw [after0_16]
  obtain ⟨r, hr⟩ : ∃ r : Fin 256, r = y 0 := ⟨_, rfl⟩
  obtain ⟨d, hd⟩ : ∃ d : Fin 1024, d = y 1 := ⟨_, rfl⟩
  have hy : y = ix2 r d := by rw [hr, hd]; exact Shape.idx_ext₂ rfl rfl
  have hr' := r.isLt
  have hd' := d.isLt
  rw [hy, out16]
  have h : (projected (iblk m c 0 t) (iblk m c 1 t) (iblk m c 4 t) r) ⟨2304 + d.val, by omega⟩ = partArray (m ((c : Thread nD τ).loc main_arg0)) (m ((c : Thread nD τ).loc main_arg1)) (m ((c : Thread nD τ).loc main_arg4)) 2304 1024 (by omega) (ix2 (⟨t.val * 256 + r.val, by omega⟩ : Fin 16896) d) := by
    rw [projected_block m c t r ⟨t.val * 256 + r.val, by omega⟩ rfl]
    rfl
  refine h.trans (congrArg _ ?_)
  blk_ext [i16 t]

/-- The array of the projected rows' columns 3328 to 3583. -/
theorem array17 : (dats m 0 c).arrAt 17 cfg0.N = partArray (m ((c : Thread nD τ).loc main_arg0)) (m ((c : Thread nD τ).loc main_arg1)) (m ((c : Thread nD τ).loc main_arg4)) 3328 256 (by omega) := by
  refine (dats m 0 c).arrAt_eq_of_covers 17 _ (by decide +kernel) fun t hf y => ?_
  have ht : t.val < 66 := t.isLt
  blk_simp
  rw [after0_17]
  obtain ⟨r, hr⟩ : ∃ r : Fin 256, r = y 0 := ⟨_, rfl⟩
  obtain ⟨d, hd⟩ : ∃ d : Fin 256, d = y 1 := ⟨_, rfl⟩
  have hy : y = ix2 r d := by rw [hr, hd]; exact Shape.idx_ext₂ rfl rfl
  have hr' := r.isLt
  have hd' := d.isLt
  rw [hy, out17]
  have h : (projected (iblk m c 0 t) (iblk m c 1 t) (iblk m c 4 t) r) ⟨3328 + d.val, by omega⟩ = partArray (m ((c : Thread nD τ).loc main_arg0)) (m ((c : Thread nD τ).loc main_arg1)) (m ((c : Thread nD τ).loc main_arg4)) 3328 256 (by omega) (ix2 (⟨t.val * 256 + r.val, by omega⟩ : Fin 16896) d) := by
    rw [projected_block m c t r ⟨t.val * 256 + r.val, by omega⟩ rfl]
    rfl
  refine h.trans (congrArg _ ?_)
  blk_ext [i17 t]

/-- The array of the queries. -/
theorem array18 : (dats m 0 c).arrAt 18 cfg0.N = queryArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) := by
  refine (dats m 0 c).arrAt_eq_of_covers 18 _ (by decide +kernel) fun t hf y => ?_
  have ht : t.val < 66 := t.isLt
  blk_simp
  rw [after0_18]
  obtain ⟨r, hr⟩ : ∃ r : Fin 256, r = y 0 := ⟨_, rfl⟩
  obtain ⟨d, hd⟩ : ∃ d : Fin 2048, d = y 1 := ⟨_, rfl⟩
  have hy : y = ix2 r d := by rw [hr, hd]; exact Shape.idx_ext₂ rfl rfl
  have hr' := r.isLt
  have hd' := d.isLt
  rw [hy, out18]
  have h : query (queryFlat (projected (iblk m c 0 t) (iblk m c 1 t) (iblk m c 4 t) r) (at_ (iblk m c 9 t) 0) (at_ (iblk m c 10 t))) (at_ (iblk m c 2 t) r) (at_ (iblk m c 3 t) r) d = queryArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (ix2 (⟨t.val * 256 + r.val, by omega⟩ : Fin 16896) d) := by
    have e2 : at_ (iblk m c 2 t) r = rowOf (m ((c : Thread nD τ).loc main_arg2)) ⟨t.val * 256 + r.val, by omega⟩ := funext fun k => a_apply m c t r k _ rfl
    have e3 : at_ (iblk m c 3 t) r = rowOf (m ((c : Thread nD τ).loc main_arg3)) ⟨t.val * 256 + r.val, by omega⟩ := funext fun k => b_apply m c t r k _ rfl
    have e9 : at_ (iblk m c 9 t) 0 = rowOf (m ((c : Thread nD τ).loc main_arg9)) 0 := funext fun k => w9 m c t k
    have e10 : at_ (iblk m c 10 t) = rowOf (m ((c : Thread nD τ).loc main_arg10)) := funext fun a => funext fun k => w10 m c t a k
    rw [e2, e3, e9, e10, projected_block m c t r ⟨t.val * 256 + r.val, by omega⟩ rfl]
    rfl
  refine h.trans (congrArg _ ?_)
  blk_ext [i18 t]

/-- The array of the keys. -/
theorem array19 : (dats m 0 c).arrAt 19 cfg0.N = keyArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  refine (dats m 0 c).arrAt_eq_of_covers 19 _ (by decide +kernel) fun t hf y => ?_
  have ht : t.val < 66 := t.isLt
  blk_simp
  rw [after0_19]
  obtain ⟨r, hr⟩ : ∃ r : Fin 256, r = y 0 := ⟨_, rfl⟩
  obtain ⟨d, hd⟩ : ∃ d : Fin 2048, d = y 1 := ⟨_, rfl⟩
  have hy : y = ix2 r d := by rw [hr, hd]; exact Shape.idx_ext₂ rfl rfl
  have hr' := r.isLt
  have hd' := d.isLt
  rw [hy, out19]
  have h : key (times (latent (projected (iblk m c 0 t) (iblk m c 1 t) (iblk m c 4 t) r) (at_ (iblk m c 11 t) 0)) (at_ (iblk m c 12 t))) (projected (iblk m c 0 t) (iblk m c 1 t) (iblk m c 4 t) r) (at_ (iblk m c 2 t) r) (at_ (iblk m c 3 t) r) d = keyArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (ix2 (⟨pos t.val * 256 + r.val, by have := pos_lt t.val ht; omega⟩ : Fin 16896) d) := by
    have e2 : at_ (iblk m c 2 t) r = rowOf (m ((c : Thread nD τ).loc main_arg2)) ⟨t.val * 256 + r.val, by omega⟩ := funext fun k => a_apply m c t r k _ rfl
    have e3 : at_ (iblk m c 3 t) r = rowOf (m ((c : Thread nD τ).loc main_arg3)) ⟨t.val * 256 + r.val, by omega⟩ := funext fun k => b_apply m c t r k _ rfl
    have e11 : at_ (iblk m c 11 t) 0 = rowOf (m ((c : Thread nD τ).loc main_arg11)) 0 := funext fun k => w11 m c t k
    have e12 : at_ (iblk m c 12 t) = rowOf (m ((c : Thread nD τ).loc main_arg12)) := funext fun a => funext fun k => w12 m c t a k
    have hs : source ⟨pos t.val * 256 + r.val, by have := pos_lt t.val ht; omega⟩ = ⟨t.val * 256 + r.val, by omega⟩ := source_pos t.val r.val ht hr' _ _ rfl rfl
    rw [e2, e3, e11, e12, projected_block m c t r ⟨t.val * 256 + r.val, by omega⟩ rfl, ← hs]
    rfl
  refine h.trans (congrArg _ ?_)
  blk_ext [i19 t]

/-- The array of the values. -/
theorem array20 : (dats m 0 c).arrAt 20 cfg0.N = valueArray (m ((c : Thread nD τ).loc main_arg0)) (m ((c : Thread nD τ).loc main_arg1)) (m ((c : Thread nD τ).loc main_arg4)) (m ((c : Thread nD τ).loc main_arg11)) (m ((c : Thread nD τ).loc main_arg13)) := by
  refine (dats m 0 c).arrAt_eq_of_covers 20 _ (by decide +kernel) fun t hf y => ?_
  have ht : t.val < 66 := t.isLt
  blk_simp
  rw [after0_20]
  obtain ⟨r, hr⟩ : ∃ r : Fin 1024, r = y 0 := ⟨_, rfl⟩
  obtain ⟨d, hd⟩ : ∃ d : Fin 256, d = y 1 := ⟨_, rfl⟩
  have hy : y = ix2 r d := by rw [hr, hd]; exact Shape.idx_ext₂ rfl rfl
  have hr' := r.isLt
  have hd' := d.isLt
  rw [hy, out20]
  have h : ∑ l : Fin 256, @HMul.hMul EReal EReal EReal _ (iblk m c 13 t (ix2 r l)) (latent (projected (iblk m c 0 t) (iblk m c 1 t) (iblk m c 4 t) d) (at_ (iblk m c 11 t) 0) l) = valueArray (m ((c : Thread nD τ).loc main_arg0)) (m ((c : Thread nD τ).loc main_arg1)) (m ((c : Thread nD τ).loc main_arg4)) (m ((c : Thread nD τ).loc main_arg11)) (m ((c : Thread nD τ).loc main_arg13)) (ix2 r (⟨pos t.val * 256 + d.val, by have := pos_lt t.val ht; omega⟩ : Fin 16896)) := by
    have e11 : at_ (iblk m c 11 t) 0 = rowOf (m ((c : Thread nD τ).loc main_arg11)) 0 := funext fun k => w11 m c t k
    have hs : source ⟨pos t.val * 256 + d.val, by have := pos_lt t.val ht; omega⟩ = ⟨t.val * 256 + d.val, by omega⟩ := source_pos t.val d.val ht hd' _ _ rfl rfl
    rw [e11, projected_block m c t d ⟨t.val * 256 + d.val, by omega⟩ rfl, ← hs]
    exact Finset.sum_congr rfl fun l _ => by rw [w13]; rfl
  refine h.trans (congrArg _ ?_)
  blk_ext [i20 t]

end Cert.Kernel3Ideal.Proj

end
-- ==== Proof.ExpertsSpec.lean ====
/-
  THE FUNCTION THE ROUTED EXPERTS' CALL AND ITS REFERENCE COMPUTE. The rows come as words of two halves; a block of 512 rows
  goes through the SwiGLU of the block's expert, and the blocks past the number in use are zero. The result's row `2 r` holds
  the first 1024 columns of row `r`, its row `2 r + 1` the other 1024.
-/
module

public import Idealize.ShloMosaic.PureOps.Ideal
public import Idealize.ShloMosaic.Lib.Pointwise.Index

@[expose] public section

noncomputable section

open Idealize.ShloMosaic

namespace Cert.Experts

/-- The shapes of the words, of the weights into and out of the hidden layer, and of the result. -/
abbrev SX : Shape := ⟨2, ![167936, 1024]⟩
abbrev SI : Shape := ⟨4, ![2, 64, 2048, 512]⟩
abbrev SD : Shape := ⟨4, ![2, 64, 512, 2048]⟩
abbrev SO : Shape := ⟨2, ![335872, 1024]⟩

/-- A row of the words. -/
abbrev row (n : ℕ) : Fin 167936 := ⟨n % 167936, Nat.mod_lt _ (by omega)⟩

/-- Column `k` of a row: the low half of word `k`, and from 1024 on the high half of word `k - 1024`. -/
def half (x : SX.Idx → BitVec 32) (n : ℕ) (k : Fin 2048) : EReal :=
  if h : k.val < 1024 then Ideal.ofBits .f32 (x (ix2 (row n) ⟨k.val, h⟩) <<< 16)
  else Ideal.ofBits .f32 (x (ix2 (row n) ⟨k.val - 1024, by omega⟩) &&& 4294901760#32)

/-- Row `n` times column `f` of expert `e`'s weights. -/
def dot (x : SX.Idx → BitVec 32) (w : SI.Idx → EReal) (e : Fin 64) (n : ℕ) (f : Fin 512) : EReal :=
  ∑ k : Fin 2048, half x n k * w (ix4 (⟨0, by omega⟩ : Fin 2) e k f)

/-- `g / (1 + exp (-g))`. -/
def silu (g : EReal) : EReal := g * Ideal.div 1 (1 + Ideal.exp (-g))

/-- Row `n`, column `d`, through expert `e`. -/
def swiglu (x : SX.Idx → BitVec 32) (wg wu : SI.Idx → EReal) (wd : SD.Idx → EReal) (e : Fin 64) (n : ℕ) (d : Fin 2048) : EReal :=
  ∑ f : Fin 512, (silu (dot x wg e n f) * dot x wu e n f) * wd (ix4 (⟨0, by omega⟩ : Fin 2) e f d)

/-- The result, under the blocks' experts and the number of blocks in use. -/
def routed (expert : ℕ → Fin 64) (count : ℕ) (x : SX.Idx → BitVec 32) (wg wu : SI.Idx → EReal) (wd : SD.Idx → EReal) : SO.Idx → EReal := fun i =>
  if (i 0).val / 1024 < count then
    swiglu x wg wu wd (expert ((i 0).val / 1024)) ((i 0).val / 2)
      ⟨(i 0).val % 2 * 1024 + (i 1).val, by have h : (i 1).val < 1024 := (i 1).isLt; omega⟩
  else 0

theorem routed_apply (expert : ℕ → Fin 64) (count : ℕ) (x : SX.Idx → BitVec 32) (wg wu : SI.Idx → EReal) (wd : SD.Idx → EReal)
    (R : Fin 335872) (C : Fin 1024) :
    routed expert count x wg wu wd (ix2 R C) = if R.val / 1024 < count then
      swiglu x wg wu wd (expert (R.val / 1024)) (R.val / 2) ⟨R.val % 2 * 1024 + C.val, by omega⟩ else 0 := rfl

/-- The same place, given twice. -/
theorem swiglu_congr (x : SX.Idx → BitVec 32) (wg wu : SI.Idx → EReal) (wd : SD.Idx → EReal) {e e' : Fin 64} {n n' : ℕ} {d d' : Fin 2048}
    (he : e = e') (hn : n = n') (hd : d.val = d'.val) : swiglu x wg wu wd e n d = swiglu x wg wu wd e' n' d' := by
  rw [he, hn, Fin.ext hd]

end Cert.Experts

end
-- ==== Proof.ExpertsTile.lean ====
/-
  ONE BLOCK OF THE ROUTED EXPERTS' KERNEL, over the extended reals, entry by entry.
-/
module

public import proofs.«01_k».proof.Proof.ExpertsSpec
public import proofs.«01_k».proof.Proof.Gen.Kernel2Ideal.Skeleton
public import Idealize.ShloMosaic.Lib.Pointwise

@[expose] public section

noncomputable section

open Idealize.ShloMosaic

namespace Cert.Kernel2Ideal.Experts
open Cert.Kernel2Ideal Cert.Kernel2Ideal.Gen

/-- A block's rows, from their words. -/
def unpacked (x : Vec Ideal S512x1024 .i32) : FVec Ideal S512x2048 .bf16 :=
  concatenate S512x2048 1 [⟨S512x1024, truncf .bf16 (bitcastToFloat (F := Ideal) .f32 (shli x (broadcast S512x1024 16#32))) bitsLt_bf16_f32⟩,
    ⟨S512x1024, truncf .bf16 (bitcastToFloat (F := Ideal) .f32 (andi x (broadcast S512x1024 4294901760#32))) bitsLt_bf16_f32⟩]
    concatenates_S512x1024_S512x1024_S512x2048_d1

theorem unpacked_apply (x : Vec Ideal S512x1024 .i32) (r : Fin 512) (k : Fin 2048) :
    unpacked x (ix2 r k) = if h : k.val < 1024 then Ideal.ofBits .f32 (x (ix2 r ⟨k.val, h⟩) <<< 16)
      else Ideal.ofBits .f32 (x (ix2 r ⟨k.val - 1024, by omega⟩) &&& 4294901760#32) := by
  pointwise [unpacked]
  rfl

/-- The hidden layer. -/
def hiddenLayer (xs : FVec Ideal S512x2048 .bf16) (wg wu : FVec Ideal S2048x512 .bf16) : FVec Ideal S512x512 .bf16 :=
  truncf .bf16 (mulf (mulf (matmul dot_S512x2048_S2048x512_S512x512_1_0_0_1_n_n none xs wg (constant S512x512 .f32 0x00000000#32))
      (logistic (matmul dot_S512x2048_S2048x512_S512x512_1_0_0_1_n_n none xs wg (constant S512x512 .f32 0x00000000#32))))
    (matmul dot_S512x2048_S2048x512_S512x512_1_0_0_1_n_n none xs wu (constant S512x512 .f32 0x00000000#32))) bitsLt_bf16_f32

theorem hiddenLayer_apply (xs : FVec Ideal S512x2048 .bf16) (wg wu : FVec Ideal S2048x512 .bf16) (r f : Fin 512) :
    hiddenLayer xs wg wu (ix2 r f) = Cert.Experts.silu (∑ k : Fin 2048, xs (ix2 r k) * wg (ix2 k f)) * ∑ k : Fin 2048, xs (ix2 r k) * wu (ix2 k f) := by
  pointwise [hiddenLayer]
  rfl

/-- The block's rows after the experts, as the kernel stores them. -/
theorem pay4_apply (x : Vec Ideal S512x1024 .i32) (wg wu : FVec Ideal S2048x512 .bf16) (wd : FVec Ideal S512x2048 .bf16) (R C : Fin 1024) :
    k0_pay4 (F := Ideal) x wg wu wd (ix2 R C) = ∑ f : Fin 512, hiddenLayer (unpacked x) wg wu (ix2 ⟨R.val / 2, by omega⟩ f)
      * wd (ix2 f ⟨R.val % 2 * 1024 + C.val, by omega⟩) := by
  have h : k0_pay4 (F := Ideal) x wg wu wd = interleaveRows S1024x1024
    (truncf .bf16 (extractStridedSlice S512x1024 ![0, 0] (extf .f32 (truncf .bf16 (matmul dot_S512x512_S512x2048_S512x2048_1_0_0_1_n_n none (hiddenLayer (unpacked x) wg wu) wd (constant S512x2048 .f32 0x00000000#32)) bitsLt_bf16_f32) bitsLt_bf16_f32) slices_S512x2048_o0_0_S512x1024))
    (truncf .bf16 (extractStridedSlice S512x1024 ![0, 1024] (extf .f32 (truncf .bf16 (matmul dot_S512x512_S512x2048_S512x2048_1_0_0_1_n_n none (hiddenLayer (unpacked x) wg wu) wd (constant S512x2048 .f32 0x00000000#32)) bitsLt_bf16_f32) bitsLt_bf16_f32) slices_S512x2048_o0_1024_S512x1024)) bitcasts_S1024x1024_w16_S512x1024_w32 := rfl
  rw [h]
  pointwise
  split
  · exact Finset.sum_congr rfl fun f _ => congrArg (fun n => _ * wd (ix2 f n)) (Fin.ext (by show C.val = R.val % 2 * 1024 + C.val; omega))
  · exact Finset.sum_congr rfl fun f _ => congrArg (fun n => _ * wd (ix2 f n)) (Fin.ext (by show 1024 + C.val = R.val % 2 * 1024 + C.val; omega))

/-- The blocks past the number in use. -/
theorem pay5_apply (i : S1024x1024.Idx) : k0_pay5 (F := Ideal) i = 0 := by
  show Ideal.ofBits .bf16 0#16 = 0
  simp [Ideal.ofBits, Ideal.ieee]

/-- Rounding leaves the weights. -/
theorem pay1_apply (v : Vec Ideal S1x1x2048x512 .f32) (k : Fin 2048) (f : Fin 512) : k0_pay1 (F := Ideal) v (ix2 k f) = v (ix4 0 0 k f) := by
  pointwise [k0_pay1]
theorem pay2_apply (v : Vec Ideal S1x1x2048x512 .f32) (k : Fin 2048) (f : Fin 512) : k0_pay2 (F := Ideal) v (ix2 k f) = v (ix4 0 0 k f) := by
  pointwise [k0_pay2]
theorem pay3_apply (v : Vec Ideal S1x1x512x2048 .f32) (f : Fin 512) (d : Fin 2048) : k0_pay3 (F := Ideal) v (ix2 f d) = v (ix4 0 0 f d) := by
  pointwise [k0_pay3]

end Cert.Kernel2Ideal.Experts

end
-- ==== Proof.ExpertsValue.lean ====
/-
  THE RESULT ARRAY OF THE ROUTED EXPERTS' KERNEL, over the extended reals: `Cert.Experts.routed` of its arguments.
-/
module

public import proofs.«01_k».proof.Proof.ExpertsTile
public import proofs.«01_k».proof.Proof.ExpertsLaunch

@[expose] public section

set_option maxRecDepth 16384
set_option Elab.async false

noncomputable section

open Idealize.ShloMosaic Idealize.ShloMosaic.TcCoe Idealize.ShloMosaic.Tactic Idealize.SL.Sem

namespace Cert.Kernel2Ideal.Experts
open Cert.Kernel2Ideal Cert.Kernel2Ideal.Gen Cert.Experts

variable (T : Tables) (m : (ℓ : Loc nD τ sig) → Buf (Elt Ideal) ℓ) (ρ : Dev nD → PrngReg)

/-- The function of the arguments of a memory. -/
abbrev routedOf (c : Dev nD) : SO.Idx → EReal :=
  routed T.expertOf T.count (m ((c : Thread nD τ).loc main_arg2)) (m ((c : Thread nD τ).loc main_arg3)) (m ((c : Thread nD τ).loc main_arg4))
    (m ((c : Thread nD τ).loc main_arg5))

/-- What visit `n` stores at row `R` and column `C` of its block is the function at the block's place. -/
theorem resultBlock_apply (c : Dev nD) (n : ℕ) (hn : n < 328) (R C : Fin 1024) :
    resultBlock T m c n (ix2 R C) = routedOf T m c (ix2 ⟨n * 1024 + R.val, by omega⟩ C) := by
  have hR := R.isLt
  have h1 : (n * 1024 + R.val) / 1024 = n := by omega
  have hC := C.isLt
  refine Eq.trans ?_ (routed_apply _ _ _ _ _ _ (⟨n * 1024 + R.val, by omega⟩ : Fin 335872) C).symm
  unfold resultBlock visitBlock
  by_cases h : n < T.count
  · have hmin : min n (T.count - 1) = n := by omega
    rw [if_pos h, if_pos (by show (n * 1024 + R.val) / 1024 < _; omega), pay4_apply, hmin]
    refine Eq.trans ?_ (swiglu_congr _ _ _ _ (e := T.expertOf n) (n := n * 512 + R.val / 2) (d := ⟨R.val % 2 * 1024 + C.val, by omega⟩)
      (congrArg T.expertOf h1.symm) (by show _ = (n * 1024 + R.val) / 2; omega)
      (by show R.val % 2 * 1024 + C.val = (n * 1024 + R.val) % 2 * 1024 + C.val; omega))
    unfold swiglu dot gateOf upOf downOf
    refine Finset.sum_congr rfl fun f _ => ?_
    simp only [hiddenLayer_apply, unpacked_apply, pay1_apply, pay2_apply, pay3_apply]
    rfl
  · rw [if_neg h, if_neg (by show ¬ (n * 1024 + R.val) / 1024 < _; omega), pay5_apply]

end Cert.Kernel2Ideal.Experts

end
-- ==== Proof.ExpertsArray.lean ====
/-
  THE RESULT ARRAY OF THE ROUTED EXPERTS' KERNEL: the blocks its visits store, laid end to end, are `Cert.Experts.routed` of the arguments.
-/
module

public import proofs.«01_k».proof.Proof.ExpertsValue
public import Idealize.ShloMosaic.Lib.Pipeline.Covers

@[expose] public section

set_option maxRecDepth 16384
set_option Elab.async false

noncomputable section

open Idealize.ShloMosaic Idealize.ShloMosaic.TcCoe Idealize.ShloMosaic.Tactic Idealize.SL.Sem

namespace Cert.Kernel2Ideal.Experts
open Cert.Kernel2Ideal Cert.Kernel2Ideal.Gen Cert.Experts

variable (T : Tables) (m : (ℓ : Loc nD τ sig) → Buf (Elt Ideal) ℓ) (ρ : Dev nD → PrngReg)

/-- The block a point stores to. -/
theorem transform_eq (i : grid0.Coords) : cc0_transform_4 i = ![(number i).val, 0] := by
  have hn := (number i).isLt
  have h : (BitVec.ofNat 32 (i 0).val).toNat = (number i).val := by
    rw [BitVec.toNat_ofNat]
    exact Nat.mod_eq_of_lt (show (number i).val < 2 ^ 32 by omega)
  unfold cc0_transform_4
  dsimp only
  rw [h]
  rfl

/-- Where visit `t` stores its block. -/
theorem result_index (t : Fin T.cfg.N) : (T.cfg.win (4 : Fin 5)).index t = ![t.val, 0] := by
  show cc0_transform_4 (T.cfg.grid.coords t) = _
  rw [transform_eq, number_coords]

/-- The stored blocks cover the array. -/
theorem result_covers : (T.cfg.win (4 : Fin 5)).Covers := by
  refine Pipeline.Window.covers_of_index_surj _ rfl (fun a => ?_) fun β => ?_
  · fin_cases a
    · exact (by decide : 0 < 1024)
    · exact (by decide : 0 < 1024)
  · have h0 : (β (0 : Fin 2)).val < 328 := lt_of_lt_of_eq (β (0 : Fin 2)).isLt (show (335872 + 1024 - 1) / 1024 = 328 by decide)
    have h1 : (β (1 : Fin 2)).val < 1 := lt_of_lt_of_eq (β (1 : Fin 2)).isLt (show (1024 + 1024 - 1) / 1024 = 1 by decide)
    refine ⟨⟨(β (0 : Fin 2)).val, h0⟩, fun a => ?_⟩
    rw [result_index]
    fin_cases a
    · rfl
    · show 0 = (β (1 : Fin 2)).val
      omega

/-- THE RESULT ARRAY is the function of the argument arrays. -/
theorem array_eq (c : Dev nD) : (dats T m ρ 0 c).arrAt (4 : Fin 5) T.cfg.N = routedOf T m c := by
  refine (dats T m ρ 0 c).arrAt_eq_of_covers (4 : Fin 5) _ (result_covers T) fun t hf y => ?_
  have ht : t.val < 328 := t.isLt
  obtain ⟨r, hr⟩ : ∃ r : Fin 1024, r = y (0 : Fin 2) := ⟨_, rfl⟩
  obtain ⟨d, hd⟩ : ∃ d : Fin 1024, d = y (1 : Fin 2) := ⟨_, rfl⟩
  have hy : y = ix2 r d := by rw [hr, hd]; exact Shape.idx_ext₂ rfl rfl
  rw [after_result, hy]
  refine (resultBlock_apply T m c t.val ht r d).trans (congrArg (routedOf T m c) (funext fun a => Fin.ext ?_))
  refine Eq.symm (((T.cfg.win (4 : Fin 5)).rect_emb_val t (ix2 r d) a).trans ?_)
  rw [result_index]
  fin_cases a
  · rfl
  · show 0 * 1024 + d.val = d.val
    omega

/-- Every execution ends with the result array the function of the arguments, and the arguments unchanged. -/
theorem run_result (h : Holds T m) :
    θ_run (defs (F := Ideal)) (onTc (τ := τ) (main (F := Ideal))) ⟨m, fun _ => 0, ρ⟩ (fun r => ∀ c : Dev nD,
      r.2.mem ((c.tc : Thread nD τ).loc main_v0) = routedOf T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨((hr.1 c).1 (4 : Fin 5)).trans (array_eq T m ρ c),
    ((hr.1 c).2 0).trans (h.1 c).symm, ((hr.1 c).2 1).trans (h.2 c).symm,
    ((hr.1 c).1 (0 : Fin 5)).trans ((dats T m ρ 0 c).arrAt_in (0 : Fin 5) rfl _),
    ((hr.1 c).1 (1 : Fin 5)).trans ((dats T m ρ 0 c).arrAt_in (1 : Fin 5) rfl _),
    ((hr.1 c).1 (2 : Fin 5)).trans ((dats T m ρ 0 c).arrAt_in (2 : Fin 5) rfl _),
    ((hr.1 c).1 (3 : Fin 5)).trans ((dats T m ρ 0 c).arrAt_in (3 : Fin 5) rfl _)⟩) (run_all T m ρ h)

end Cert.Kernel2Ideal.Experts
-- ==== Proof.ExpertsRef.lean ====
/-
  THE RESULT OF THE ROUTED EXPERTS' REFERENCE, over the extended reals: `Cert.Experts.routed` of its arguments when every block
  names an expert below 64 and at most 328 blocks are in use.
-/
module

public import proofs.«01_k».proof.Proof.ExpertsSpec
public import proofs.«01_k».proof.Proof.Gen.Reference2Ideal.Run
public import Idealize.ShloMosaic.Lib.Pointwise

@[expose] public section

noncomputable section

open Idealize.ShloMosaic Idealize.ShloMosaic.TcCoe Idealize.SL.Sem

namespace Cert.Reference2Ideal.Routed
open Cert.Reference2Ideal Cert.Reference2Ideal.Gen Cert.Experts

/-- The dimension numbers of a gather of whole matrices out of a stack. -/
abbrev stackDims (E A B n : ℕ)
    (wf : GatherDims.WF ⟨3, ![E, A, B]⟩ ⟨2, ![n, 1]⟩ ⟨3, ![n, A, B]⟩ [1, 2] [0] [] [0] [] 1 ![1, A, B]) :
    GatherDims ⟨3, ![E, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Such a gather: where the index array holds the number `e` at place `b`, the result's matrix at `b` is the stack's matrix `e`. -/
theorem gather_stack {α : Type} {E A B n : ℕ} (wf) (x : (⟨3, ![E, A, B]⟩ : Shape).Idx → α) (idx : IVec ⟨2, ![n, 1]⟩ 32)
    (b : Fin n) (y : Fin A) (z : Fin B) (e : Fin E) (he : (idx (ix2 b (0 : Fin 1))).toInt = (e.val : ℤ)) :
    Host.gather (stackDims E A B n wf) x idx (ix3 b y z) = x (ix3 e y z) := by
  unfold Host.gather
  refine congrArg x (funext fun a => Fin.ext ?_)
  have he' := e.isLt
  have hb : ∀ a, (stackDims E A B n wf).batchCoord (ix3 b y z) a = 0 := fun a => GatherDims.batchCoord_eq_zero _ _ _ List.not_mem_nil
  match a with
  | ⟨0, _⟩ =>
    show (stackDims E A B n wf).start (ix3 b y z) idx 0 + (stackDims E A B n wf).batchCoord (ix3 b y z) 0
      + (stackDims E A B n wf).offCoord (ix3 b y z) 0 = e.val
    have ho : (stackDims E A B n wf).offCoord (ix3 b y z) 0 = 0 := by
      exact GatherDims.offCoord_eq_zero _ _ _ fun h => ((GatherDims.mem_sKept _ _).1 h).1 (List.mem_singleton.mpr rfl)
    have hs : (stackDims E A B n wf).start (ix3 b y z) idx 0 = e.val := by
      unfold GatherDims.start
      rw [dif_pos (show (0 : Fin 3) ∈ (stackDims E A B n wf).startIndexMap from List.mem_singleton.mpr rfl)]
      have hi : ∀ h, (stackDims E A B n wf).siIdx (ix3 b y z) ⟨List.idxOf (0 : Fin 3) (stackDims E A B n wf).startIndexMap, h⟩ = ix2 b (0 : Fin 1) := by
        intro h
        funext k
        refine Fin.ext ?_
        match k with
        | ⟨0, _⟩ => rfl
        | ⟨1, _⟩ => rfl
      rw [hi, he]
      show min ((e.val : ℤ)).toNat (E - 1) = e.val
      omega
    rw [hb, ho, hs]; rfl
  | ⟨1, _⟩ =>
    have hk : (1 : Fin 3) ∉ ([0] : List (Fin 3)) := by decide
    show (stackDims E A B n wf).start (ix3 b y z) idx 1 + (stackDims E A B n wf).batchCoord (ix3 b y z) 1
      + (stackDims E A B n wf).offCoord (ix3 b y z) 1 = y.val
    have ho : (stackDims E A B n wf).offCoord (ix3 b y z) 1 = y.val := by
      unfold GatherDims.offCoord; rw [dif_pos ((GatherDims.mem_sKept _ _).2 ⟨hk, List.not_mem_nil⟩)]; rfl
    have hs : (stackDims E A B n wf).start (ix3 b y z) idx 1 = 0 := by
      unfold GatherDims.start; rw [dif_neg hk]
    rw [hb, ho, hs]; omega
  | ⟨2, _⟩ =>
    have hk : (2 : Fin 3) ∉ ([0] : List (Fin 3)) := by decide
    show (stackDims E A B n wf).start (ix3 b y z) idx 2 + (stackDims E A B n wf).batchCoord (ix3 b y z) 2
      + (stackDims E A B n wf).offCoord (ix3 b y z) 2 = z.val
    have ho : (stackDims E A B n wf).offCoord (ix3 b y z) 2 = z.val := by
      unfold GatherDims.offCoord; rw [dif_pos ((GatherDims.mem_sKept _ _).2 ⟨hk, List.not_mem_nil⟩)]; rfl
    have hs : (stackDims E A B n wf).start (ix3 b y z) idx 2 = 0 := by
      unfold GatherDims.start; rw [dif_neg hk]
    rw [hb, ho, hs]; omega

variable {F : FTy → Type} [FloatOps F]

/-- The rows, unpacked, by block, row and column. -/
def rows (x : IVec S167936x1024 32) : FVec F S328x512x2048 .f32 :=
  concatenate S328x512x2048 2 [⟨S328x512x1024, (bitcastToFloat (F := F) .f32 (Host.shli (shapeCast _ x shapeCasts_S167936x1024_S328x512x1024) (broadcastInDim S328x512x1024 ![] bcast_S_S328x512x1024 (constantI S_ 32 16#32))))⟩,
    ⟨S328x512x1024, (bitcastToFloat (F := F) .f32 (andi (shapeCast _ x shapeCasts_S167936x1024_S328x512x1024) (broadcastInDim S328x512x1024 ![] bcast_S_S328x512x1024 (constantI S_ 32 4294901760#32))))⟩]
    concatenates_S328x512x1024_S328x512x1024_S328x512x2048_d2

theorem rows_apply (x : IVec S167936x1024 32) (b : Fin 328) (r : Fin 512) (k : Fin 2048) :
    rows (F := Ideal) x (ix3 b r k) = half x (b.val * 512 + r.val) k := by
  have hr : ∀ n (hn : n < 167936), (⟨n, hn⟩ : Fin 167936) = row n := fun n hn => Fin.ext (Nat.mod_eq_of_lt hn).symm
  pointwise [rows]
  unfold half
  split
  · rw [hr]; rfl
  · rw [hr]; rfl

/-- The blocks' experts, as the index array of the gathers. -/
def picks (be : IVec S328 32) : IVec S328x1 32 :=
  broadcastInDim S328x1 ![0] bcast_S328_S328x1_0 (select (cmpi .slt be (broadcastInDim S328 ![] bcast_S_S328 (constantI S_ 32 0#32)))
    (addi be (broadcastInDim S328 ![] bcast_S_S328 (constantI S_ 32 64#32))) be)

theorem picks_apply (be : IVec S328 32) (b : Fin 328) (h : (be (ix1 b)).toNat < 64) :
    (picks be (ix2 b (0 : Fin 1))).toInt = ((be (ix1 b)).toNat : ℤ) := by
  have hn : IntOp.cmpi .slt (be (ix1 b)) 0#32 = 0#1 := by
    show BitVec.ofBool ((be (ix1 b)).slt 0#32) = 0#1
    have : (be (ix1 b)).slt 0#32 = false := by
      rw [Bool.eq_false_iff]
      intro hlt
      rw [BitVec.slt_iff_toInt_lt, BitVec.toInt_eq_toNat_cond, if_pos (by omega)] at hlt
      have h0 : (0#32 : BitVec 32).toInt = 0 := by decide
      omega
    rw [this]; rfl
  pointwise [picks]
  rw [hn, BitVec.toInt_eq_toNat_cond]
  show (if 2 * (be (ix1 b)).toNat < 2 ^ 32 then ((be (ix1 b)).toNat : ℤ) else _) = _
  rw [if_pos (by omega)]

/-- The gate or up weights by block. -/
def inner (be : IVec S328 32) (w : FVec F S2x64x2048x512 .f32) : FVec F S328x2048x512 .f32 :=
  Host.gather gather_S64x2048x512_S328x1_S328x2048x512_12_0_n_n_0_1_12048512
    (shapeCast _ (extractStridedSlice S1x64x2048x512 ![0, 0, 0, 0] w slices_S2x64x2048x512_S1x64x2048x512_0_0_0_0) shapeCasts_S1x64x2048x512_S64x2048x512) (picks be)

theorem inner_apply (be : IVec S328 32) (w : FVec F S2x64x2048x512 .f32) (b : Fin 328) (k : Fin 2048) (f : Fin 512)
    (h : (be (ix1 b)).toNat < 64) : inner be w (ix3 b k f) = w (ix4 (⟨0, by omega⟩ : Fin 2) ⟨(be (ix1 b)).toNat, h⟩ k f) := by
  refine (gather_stack (E := 64) (A := 2048) (B := 512) (n := 328) _ _ (picks be) b k f ⟨_, h⟩ (picks_apply be b h)).trans ?_
  pointwise

/-- The down weights by block. -/
def outer (be : IVec S328 32) (w : FVec F S2x64x512x2048 .f32) : FVec F S328x512x2048 .f32 :=
  Host.gather gather_S64x512x2048_S328x1_S328x512x2048_12_0_n_n_0_1_15122048
    (shapeCast _ (extractStridedSlice S1x64x512x2048 ![0, 0, 0, 0] w slices_S2x64x512x2048_S1x64x512x2048_0_0_0_0) shapeCasts_S1x64x512x2048_S64x512x2048) (picks be)

theorem outer_apply (be : IVec S328 32) (w : FVec F S2x64x512x2048 .f32) (b : Fin 328) (f : Fin 512) (d : Fin 2048)
    (h : (be (ix1 b)).toNat < 64) : outer be w (ix3 b f d) = w (ix4 (⟨0, by omega⟩ : Fin 2) ⟨(be (ix1 b)).toNat, h⟩ f d) := by
  refine (gather_stack (E := 64) (A := 512) (B := 2048) (n := 328) _ _ (picks be) b f d ⟨_, h⟩ (picks_apply be b h)).trans ?_
  pointwise

/-- The rows times the weights, by block. -/
def product (x : FVec F S328x512x2048 .f32) (w : FVec F S328x2048x512 .f32) : FVec F S328x512x512 .f32 :=
  Host.dotGeneral dot_S328x512x2048_S328x2048x512_S328x512x512_2_1_1_2_0_0 none x w

theorem product_apply (x : FVec Ideal S328x512x2048 .f32) (w : FVec Ideal S328x2048x512 .f32) (b : Fin 328) (r f : Fin 512) :
    product x w (ix3 b r f) = ∑ k : Fin 2048, x (ix3 b r k) * w (ix3 b k f) := by
  pointwise [product]

/-- The activation. -/
def act (g : FVec F S328x512x512 .f32) : FVec F S328x512x512 .f32 :=
  mulf g (Host.divf (broadcastInDim S328x512x512 ![] bcast_S_S328x512x512 (constant S_ .f32 0x3F800000#32))
    (addf (broadcastInDim S328x512x512 ![] bcast_S_S328x512x512 (constant S_ .f32 0x3F800000#32)) (Host.exp (Host.negf g))))

theorem act_apply (g : FVec Ideal S328x512x512 .f32) (i : S328x512x512.Idx) : act g i = silu (g i) := by
  have h1 : Ideal.ofBits FTy.f32 0x3F800000#32 = (1 : EReal) := by
    simp [Ideal.ofBits, Ideal.ieee]
    rw [← EReal.coe_mul]
    norm_num
  show g i * Ideal.div (Ideal.ofBits FTy.f32 0x3F800000#32) (Ideal.ofBits FTy.f32 0x3F800000#32 + Ideal.exp (-(g i))) = _
  rw [h1]; rfl

/-- Which blocks are in use. -/
def inUse (nu : IVec S1 32) : IVec S328 1 :=
  cmpi .slt (iotaInDim S328 32 0) (broadcastInDim S328 ![] bcast_S_S328 (shapeCast _ nu shapeCasts_S1_S_))

theorem inUse_apply (nu : IVec S1 32) (b : Fin 328) (h : (nu (ix1 0)).toNat ≤ 328) :
    inUse nu (ix1 b) = if b.val < (nu (ix1 0)).toNat then 1#1 else 0#1 := by
  have hb := b.isLt
  have e : ((BitVec.ofNat 32 b.val).slt (nu (ix1 0))) = decide (b.val < (nu (ix1 0)).toNat) := by
    rw [Bool.eq_iff_iff, BitVec.slt_iff_toInt_lt, BitVec.toInt_eq_toNat_cond, BitVec.toInt_eq_toNat_cond, BitVec.toNat_ofNat,
      Nat.mod_eq_of_lt (by omega), if_pos (by omega), if_pos (by omega), decide_eq_true_iff]
    omega
  pointwise [inUse]
  show BitVec.ofBool ((BitVec.ofNat 32 b.val).slt (nu (ix1 0))) = _
  rw [e]
  by_cases hlt : b.val < (nu (ix1 0)).toNat
  · rw [decide_eq_true hlt, if_pos hlt]; rfl
  · rw [decide_eq_false hlt, if_neg hlt]; rfl

/-- The result, as the reference forms it. -/
def result (be : IVec S328 32) (nu : IVec S1 32) (x : IVec S167936x1024 32) (wg wu : FVec F S2x64x2048x512 .f32)
    (wd : FVec F S2x64x512x2048 .f32) : FVec F S335872x1024 .bf16 :=
  truncf .bf16 (shapeCast _ (select (broadcastInDim S328x512x2048 ![0, 1, 2] bcast_S328x1x1_S328x512x2048_0_1_2
      (broadcastInDim S328x1x1 ![0] bcast_S328_S328x1x1_0 (inUse nu)))
    (Host.dotGeneral dot_S328x512x512_S328x512x2048_S328x512x2048_2_1_1_2_0_0 none
      (mulf (act (product (rows x) (inner be wg))) (product (rows x) (inner be wu))) (outer be wd))
    (broadcastInDim S328x512x2048 ![] bcast_S_S328x512x2048 (constant S_ .f32 0x00000000#32))) shapeCasts_S328x512x2048_S335872x1024) bitsLt_bf16_f32

theorem result_run (m : (ℓ : Loc nD τ sig) → Buf (Elt F) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem result_apply (be : IVec S328 32) (nu : IVec S1 32) (x : IVec S167936x1024 32) (wg wu : FVec Ideal S2x64x2048x512 .f32)
    (wd : FVec Ideal S2x64x512x2048 .f32) (R : Fin 335872) (C : Fin 1024) :
    result be nu x wg wu wd (ix2 R C) = Scalar.select (inUse nu (ix1 ⟨R / 1024, by omega⟩))
      (∑ f : Fin 512, (act (product (rows x) (inner be wg)) (ix3 ⟨R / 1024, by omega⟩ ⟨R / 2 % 512, by omega⟩ f)
        * product (rows x) (inner be wu) (ix3 ⟨R / 1024, by omega⟩ ⟨R / 2 % 512, by omega⟩ f))
        * outer be wd (ix3 ⟨R / 1024, by omega⟩ f ⟨R % 2 * 1024 + C, by omega⟩)) 0 := by
  pointwise [result]

/-- The reference's result, under the blocks' experts and the number of blocks in use. -/
theorem result_eq (be : IVec S328 32) (nu : IVec S1 32) (x : IVec S167936x1024 32) (wg wu : FVec Ideal S2x64x2048x512 .f32)
    (wd : FVec Ideal S2x64x512x2048 .f32) (hbe : ∀ i, (be i).toNat < 64) (hnu : (nu (ix1 0)).toNat ≤ 328) (expert : ℕ → Fin 64)
    (he : ∀ b : Fin 328, (expert b.val).val = (be (ix1 b)).toNat) :
    result be nu x wg wu wd = routed expert (nu (ix1 0)).toNat x wg wu wd := by
  have point : ∀ (R : Fin 335872) (C : Fin 1024), result be nu x wg wu wd (ix2 R C) = routed expert (nu (ix1 0)).toNat x wg wu wd (ix2 R C) := fun R C => by
    have hR := R.isLt
    have hb : R.val / 1024 < 328 := by omega
    have ee : (⟨(be (ix1 (⟨R.val / 1024, hb⟩ : Fin 328))).toNat, hbe _⟩ : Fin 64) = expert (R.val / 1024) :=
      Fin.ext (he ⟨R.val / 1024, hb⟩).symm
    rw [result_apply, inUse_apply nu _ hnu, routed_apply]
    unfold swiglu dot
    simp only [act_apply, product_apply, rows_apply, inner_apply be _ _ _ _ (hbe _), outer_apply be _ _ _ _ (hbe _), ee]
    rw [show R.val / 1024 * 512 + R.val / 2 % 512 = R.val / 2 by omega]
    by_cases hlt : R.val / 1024 < (nu (ix1 0)).toNat
    · rw [if_pos hlt, if_pos hlt]; rfl
    · rw [if_neg hlt, if_neg hlt]; rfl
  funext y
  rw [show y = ix2 (y 0) (y 1) from Shape.idx_ext₂ rfl rfl]
  exact point _ _

end Cert.Reference2Ideal.Routed

end
-- ==== Proof.ProjRef.lean ====
/-
  THE SEVEN RESULTS OF THE INPUT PROJECTIONS' REFERENCE, over the extended reals: `Cert.Projections`'s functions of its arguments.
-/
module

public import proofs.«01_k».proof.Proof.ProjSpec
public import proofs.«01_k».proof.Proof.Gen.Reference3Ideal.Run
public import Idealize.ShloMosaic.Lib.Pointwise

@[expose] public section

noncomputable section

open Idealize.ShloMosaic Idealize.ShloMosaic.TcCoe Idealize.SL.Sem

namespace Cert.Reference3Ideal.Proj
open Cert.Reference3Ideal Cert.Reference3Ideal.Gen Cert.Projections

variable {F : FTy → Type} [FloatOps F]

/-! ## The stages of the program -/

/-- The modulated latent rows, by batch entry. -/
def latentRows (x : FVec F S16896x2048 .f32) (m : FVec F S3x6x2048 .f32) : FVec F S2x8192x2048 .f32 :=
  addf (mulf (shapeCast _ (extractStridedSlice S16384x2048 ![0, 0] x slices_S16896x2048_S16384x2048_0_0) shapeCasts_S16384x2048_S2x8192x2048) (broadcastInDim S2x8192x2048 ![0, 1, 2] bcast_S2x1x2048_S2x8192x2048_0_1_2 (addf (broadcastInDim S2x1x2048 ![] bcast_S_S2x1x2048 (constant S_ .f32 0x3F800000#32)) (broadcastInDim S2x1x2048 ![0, 2] bcast_S2x2048_S2x1x2048_0_2 (shapeCast _ (extractStridedSlice S2x1x2048 ![0, 1, 0] m slices_S3x6x2048_S2x1x2048_0_1_0) shapeCasts_S2x1x2048_S2x2048))))) (broadcastInDim S2x8192x2048 ![0, 1, 2] bcast_S2x1x2048_S2x8192x2048_0_1_2 (broadcastInDim S2x1x2048 ![0, 2] bcast_S2x2048_S2x1x2048_0_2 (shapeCast _ (extractStridedSlice S2x1x2048 ![0, 0, 0] m slices_S3x6x2048_S2x1x2048_0_0_0) shapeCasts_S2x1x2048_S2x2048)))

/-- The modulated context rows. -/
def contextRows (x : FVec F S16896x2048 .f32) (m : FVec F S3x6x2048 .f32) : FVec F S512x2048 .f32 :=
  addf (mulf (extractStridedSlice S512x2048 ![16384, 0] x slices_S16896x2048_S512x2048_16384_0) (broadcastInDim S512x2048 ![0, 1] bcast_S1x2048_S512x2048_0_1 (broadcastInDim S1x2048 ![1] bcast_S2048_S1x2048_1 (addf (broadcastInDim S2048 ![] bcast_S_S2048 (constant S_ .f32 0x3F800000#32)) (shapeCast _ (extractStridedSlice S1x1x2048 ![2, 1, 0] m slices_S3x6x2048_S1x1x2048_2_1_0) shapeCasts_S1x1x2048_S2048))))) (broadcastInDim S512x2048 ![0, 1] bcast_S1x2048_S512x2048_0_1 (broadcastInDim S1x2048 ![1] bcast_S2048_S1x2048_1 (shapeCast _ (extractStridedSlice S1x1x2048 ![2, 0, 0] m slices_S3x6x2048_S1x1x2048_2_0_0) shapeCasts_S1x1x2048_S2048)))

/-- The modulated rows. -/
def allRows (a : FVec F S2x8192x2048 .f32) (b : FVec F S512x2048 .f32) : FVec F S16896x2048 .f32 :=
  concatenate S16896x2048 0 [⟨S16384x2048, (shapeCast _ a shapeCasts_S2x8192x2048_S16384x2048)⟩, ⟨S512x2048, b⟩] concatenates_S16384x2048_S512x2048_S16896x2048_d0

/-- The projected rows. -/
def proj (x : FVec F S16896x2048 .f32) (m : FVec F S3x6x2048 .f32) (w : FVec F S2048x3968 .bf16) : FVec F S16896x3968 .f32 :=
  Host.dotGeneral dot_S16896x2048_S2048x3968_S16896x3968_1_0_0_1_n_n none (allRows (latentRows x m) (contextRows x m)) (extf .f32 w bitsLt_bf16_f32)

/-- The units: the first 1024 columns through the Gaussian error function. -/
def units (p : FVec F S16896x3968 .f32) : FVec F S16896x1024 .f32 :=
  mulf (mulf (broadcastInDim S16896x1024 ![] bcast_S_S16896x1024 (constant S_ .f32 0x3F000000#32)) (extractStridedSlice S16896x1024 ![0, 0] p slices_S16896x3968_S16896x1024_0_0)) (addf (broadcastInDim S16896x1024 ![] bcast_S_S16896x1024 (constant S_ .f32 0x3F800000#32)) (Host.erf (mulf (extractStridedSlice S16896x1024 ![0, 0] p slices_S16896x3968_S16896x1024_0_0) (broadcastInDim S16896x1024 ![] bcast_S_S16896x1024 (constant S_ .f32 0x3F3504F3#32)))))

/-- The second half of the units. -/
def second (u : FVec F S16896x1024 .f32) : FVec F S16896x512 .f32 :=
  extractStridedSlice S16896x512 ![0, 512] u slices_S16896x1024_S16896x512_0_512

/-- The rows' means. -/
def means (v : FVec F S16896x512 .f32) : FVec F S16896x1 .f32 :=
  Host.divf (broadcastInDim S16896x1 ![0] bcast_S16896_S16896x1_0 (Host.reduceAdd v (constant S_ .f32 0x00000000#32) reducesTo_S16896x512_S16896_d1 h_S_)) (broadcastInDim S16896x1 ![] bcast_S_S16896x1 (constant S_ .f32 0x44000000#32))

/-- The rows less their means. -/
def lessMean (v : FVec F S16896x512 .f32) : FVec F S16896x512 .f32 :=
  subf v (broadcastInDim S16896x512 ![0, 1] bcast_S16896x1_S16896x512_0_1 (means v))

/-- Layer normalization of the rows less their means `c`. -/
def normalized (c : FVec F S16896x512 .f32) (g b : FVec F S1x512 .f32) : FVec F S16896x512 .f32 :=
  addf (mulf (mulf c (broadcastInDim S16896x512 ![0, 1] bcast_S16896x1_S16896x512_0_1 (Host.rsqrt (addf (means (mulf c c)) (broadcastInDim S16896x1 ![] bcast_S_S16896x1 (constant S_ .f32 0x3727C5AC#32)))))) (broadcastInDim S16896x512 ![0, 1] bcast_S1x512_S16896x512_0_1 g)) (broadcastInDim S16896x512 ![0, 1] bcast_S1x512_S16896x512_0_1 b)

/-- The mixing of the places of every chunk. -/
def mixing (n : FVec F S16896x512 .f32) (w : FVec F S4x128x128 .bf16) : FVec F S4x132x128x128 .f32 :=
  Host.dotGeneral dot_S132x128x4x128_S4x128x128_S4x132x128x128_1_2_03_1_2_0 none (shapeCast _ n shapeCasts_S16896x512_S132x128x4x128) (extf .f32 w bitsLt_bf16_f32)

/-- The mixed places, with their bias. -/
def biased (x : FVec F S4x132x128x128 .f32) (b : FVec F S128x512 .f32) : FVec F S132x128x512 .f32 :=
  addf (shapeCast _ (transpose S132x128x4x128 [1, 3, 0, 2] x transposes_S4x132x128x128_S132x128x4x128_1_3_0_2) shapeCasts_S132x128x4x128_S132x128x512) (broadcastInDim S132x128x512 ![0, 1, 2] bcast_S1x128x512_S132x128x512_0_1_2 (broadcastInDim S1x128x512 ![1, 2] bcast_S128x512_S1x128x512_1_2 b))

/-- The gated units. -/
def gm (u : FVec F S16896x1024 .f32) (s : FVec F S132x128x512 .f32) : FVec F S16896x512 .bf16 :=
  truncf .bf16 (mulf (extractStridedSlice S16896x512 ![0, 0] u slices_S16896x1024_S16896x512_0_0) (shapeCast _ s shapeCasts_S132x128x512_S16896x512)) bitsLt_bf16_f32

/-- The query columns. -/
def queryCols (p : FVec F S16896x3968 .f32) : FVec F S16896x768 .f32 := extractStridedSlice S16896x768 ![0, 1024] p slices_S16896x3968_S16896x768_0_1024

/-- Root-mean-square normalization of the query columns. -/
def queryNorm (v : FVec F S16896x768 .f32) (g : FVec F S1x768 .f32) : FVec F S16896x768 .f32 :=
  mulf (mulf v (broadcastInDim S16896x768 ![0, 1] bcast_S16896x1_S16896x768_0_1 (Host.rsqrt (addf (Host.divf (broadcastInDim S16896x1 ![0] bcast_S16896_S16896x1_0 (Host.reduceAdd (mulf v v) (constant S_ .f32 0x00000000#32) reducesTo_S16896x768_S16896_d1 h_S_)) (broadcastInDim S16896x1 ![] bcast_S_S16896x1 (constant S_ .f32 0x44400000#32))) (broadcastInDim S16896x1 ![] bcast_S_S16896x1 (constant S_ .f32 0x358637BD#32)))))) (broadcastInDim S16896x768 ![0, 1] bcast_S1x768_S16896x768_0_1 g)

/-- The queries before the embedding, by head. -/
def heads (v : FVec F S16896x768 .f32) (w : FVec F S768x2048 .bf16) : FVec F S16896x8x256 .f32 :=
  shapeCast _ (Host.dotGeneral dot_S16896x768_S768x2048_S16896x2048_1_0_0_1_n_n none v (extf .f32 w bitsLt_bf16_f32)) shapeCasts_S16896x2048_S16896x8x256

/-- The heads' entries to embed. -/
def turning (q : FVec F S16896x8x256 .f32) : FVec F S16896x8x128 .f32 := extractStridedSlice S16896x8x128 ![0, 0, 128] q slices_S16896x8x256_S16896x8x128_0_0_128

/-- The embedding, of every head. -/
def embedHeads (r : FVec F S16896x8x128 .f32) (a b : FVec F S16896x128 .f32) : FVec F S16896x8x128 .f32 :=
  addf (mulf r (broadcastInDim S16896x8x128 ![0, 1, 2] bcast_S16896x1x128_S16896x8x128_0_1_2 (broadcastInDim S16896x1x128 ![0, 2] bcast_S16896x128_S16896x1x128_0_2 a))) (mulf (concatenate S16896x8x128 2 [⟨S16896x8x64, (extractStridedSlice S16896x8x64 ![0, 0, 64] r slices_S16896x8x128_S16896x8x64_0_0_64)⟩, ⟨S16896x8x64, (extractStridedSlice S16896x8x64 ![0, 0, 0] r slices_S16896x8x128_S16896x8x64_0_0_0)⟩] concatenates_S16896x8x64_S16896x8x64_S16896x8x128_d2) (broadcastInDim S16896x8x128 ![0, 1, 2] bcast_S16896x1x128_S16896x8x128_0_1_2 (broadcastInDim S16896x1x128 ![0, 2] bcast_S16896x128_S16896x1x128_0_2 b)))

/-- The queries. -/
def queries (q : FVec F S16896x8x256 .f32) (e : FVec F S16896x8x128 .f32) : FVec F S16896x2048 .bf16 :=
  truncf .bf16 (shapeCast _ (mulf (concatenate S16896x8x256 2 [⟨S16896x8x128, (extractStridedSlice S16896x8x128 ![0, 0, 0] q slices_S16896x8x256_S16896x8x128_0_0_0)⟩, ⟨S16896x8x128, e⟩] concatenates_S16896x8x128_S16896x8x128_S16896x8x256_d2) (broadcastInDim S16896x8x256 ![] bcast_S_S16896x8x256 (constant S_ .f32 0x3DD53B95#32))) shapeCasts_S16896x8x256_S16896x2048) bitsLt_bf16_f32

/-- The latent columns of keys and values. -/
def latentCols (p : FVec F S16896x3968 .f32) : FVec F S16896x256 .f32 := extractStridedSlice S16896x256 ![0, 3584] p slices_S16896x3968_S16896x256_0_3584

/-- Root-mean-square normalization of the latent columns. -/
def latentNorm (v : FVec F S16896x256 .f32) (g : FVec F S1x256 .f32) : FVec F S16896x256 .f32 :=
  mulf (mulf v (broadcastInDim S16896x256 ![0, 1] bcast_S16896x1_S16896x256_0_1 (Host.rsqrt (addf (Host.divf (broadcastInDim S16896x1 ![0] bcast_S16896_S16896x1_0 (Host.reduceAdd (mulf v v) (constant S_ .f32 0x00000000#32) reducesTo_S16896x256_S16896_d1 h_S_)) (broadcastInDim S16896x1 ![] bcast_S_S16896x1 (constant S_ .f32 0x43800000#32))) (broadcastInDim S16896x1 ![] bcast_S_S16896x1 (constant S_ .f32 0x358637BD#32)))))) (broadcastInDim S16896x256 ![0, 1] bcast_S1x256_S16896x256_0_1 g)

/-- The key columns to embed. -/
def shared (p : FVec F S16896x3968 .f32) : FVec F S16896x128 .f32 := extractStridedSlice S16896x128 ![0, 3840] p slices_S16896x3968_S16896x128_0_3840

/-- The embedding, of the rows. -/
def embedRows (r a b : FVec F S16896x128 .f32) : FVec F S16896x128 .f32 :=
  addf (mulf r a) (mulf (concatenate S16896x128 1 [⟨S16896x64, (extractStridedSlice S16896x64 ![0, 64] r slices_S16896x128_S16896x64_0_64)⟩, ⟨S16896x64, (extractStridedSlice S16896x64 ![0, 0] r slices_S16896x128_S16896x64_0_0)⟩] concatenates_S16896x64_S16896x64_S16896x128_d1) b)

/-- The keys in the order of the rows. -/
def rowKeys (l : FVec F S16896x256 .f32) (w : FVec F S256x1024 .bf16) (e : FVec F S16896x128 .f32) : FVec F S16896x2048 .f32 :=
  shapeCast _ (concatenate S16896x8x256 2 [⟨S16896x8x128, (shapeCast _ (Host.dotGeneral dot_S16896x256_S256x1024_S16896x1024_1_0_0_1_n_n none l (extf .f32 w bitsLt_bf16_f32)) shapeCasts_S16896x1024_S16896x8x128)⟩, ⟨S16896x8x128, (broadcastInDim S16896x8x128 ![0, 1, 2] bcast_S16896x1x128_S16896x8x128_0_1_2 (broadcastInDim S16896x1x128 ![0, 2] bcast_S16896x128_S16896x1x128_0_2 e))⟩] concatenates_S16896x8x128_S16896x8x128_S16896x8x256_d2) shapeCasts_S16896x8x256_S16896x2048

/-- The keys, every batch entry's context rows first. -/
def placedKeys (k : FVec F S16896x2048 .f32) : FVec F S16896x2048 .bf16 :=
  truncf .bf16 (shapeCast _ (concatenate S2x8448x2048 1 [⟨S2x256x2048, (shapeCast _ (extractStridedSlice S512x2048 ![16384, 0] k slices_S16896x2048_S512x2048_16384_0) shapeCasts_S512x2048_S2x256x2048)⟩, ⟨S2x8192x2048, (shapeCast _ (extractStridedSlice S16384x2048 ![0, 0] k slices_S16896x2048_S16384x2048_0_0) shapeCasts_S16384x2048_S2x8192x2048)⟩] concatenates_S2x256x2048_S2x8192x2048_S2x8448x2048_d1) shapeCasts_S2x8448x2048_S16896x2048) bitsLt_bf16_f32

/-- The values in the order of the rows. -/
def rowValues (l : FVec F S16896x256 .f32) (w : FVec F S1024x256 .bf16) : FVec F S16896x1024 .f32 :=
  Host.dotGeneral dot_S16896x256_S256x1024_S16896x1024_1_0_0_1_n_n none l (transpose S256x1024 [1, 0] (extf .f32 w bitsLt_bf16_f32) transposes_S1024x256_S256x1024_1_0)

/-- The values, every batch entry's context columns first. -/
def placedValues (v : FVec F S16896x1024 .f32) : FVec F S1024x16896 .bf16 :=
  truncf .bf16 (transpose S1024x16896 [1, 0] (shapeCast _ (concatenate S2x8448x1024 1 [⟨S2x256x1024, (shapeCast _ (extractStridedSlice S512x1024 ![16384, 0] v slices_S16896x1024_S512x1024_16384_0) shapeCasts_S512x1024_S2x256x1024)⟩, ⟨S2x8192x1024, (shapeCast _ (extractStridedSlice S16384x1024 ![0, 0] v slices_S16896x1024_S16384x1024_0_0) shapeCasts_S16384x1024_S2x8192x1024)⟩] concatenates_S2x256x1024_S2x8192x1024_S2x8448x1024_d1) shapeCasts_S2x8448x1024_S16896x1024) transposes_S16896x1024_S1024x16896_1_0) bitsLt_bf16_f32

/-! ## The stages at an index -/

theorem latentRows_apply (x : FVec Ideal S16896x2048 .f32) (m : FVec Ideal S3x6x2048 .f32) (b : Fin 2) (r : Fin 8192) (k : Fin 2048) :
    latentRows x m (ix3 b r k) = x (ix2 ⟨b.val * 8192 + r.val, by omega⟩ k) * (1 + m (ix3 ⟨b.val, by omega⟩ (1 : Fin 6) k)) + m (ix3 ⟨b.val, by omega⟩ (0 : Fin 6) k) := by
  pointwise [latentRows]

theorem contextRows_apply (x : FVec Ideal S16896x2048 .f32) (m : FVec Ideal S3x6x2048 .f32) (r : Fin 512) (k : Fin 2048) :
    contextRows x m (ix2 r k) = x (ix2 ⟨16384 + r.val, by omega⟩ k) * (1 + m (ix3 (2 : Fin 3) (1 : Fin 6) k)) + m (ix3 (2 : Fin 3) (0 : Fin 6) k) := by
  pointwise [contextRows]

theorem allRows_apply (a : FVec Ideal S2x8192x2048 .f32) (b : FVec Ideal S512x2048 .f32) (R : Fin 16896) (k : Fin 2048) :
    allRows a b (ix2 R k) = if h : R.val < 16384 then a (ix3 ⟨R.val / 8192, by omega⟩ ⟨R.val % 8192, by omega⟩ k) else b (ix2 ⟨R.val - 16384, by omega⟩ k) := by
  pointwise [allRows]

theorem units_apply (p : FVec Ideal S16896x3968 .f32) (R : Fin 16896) (d : Fin 1024) : units p (ix2 R d) = gelu (p (ix2 R ⟨d.val, by omega⟩)) := by
  pointwise [units, gelu]

theorem means_apply (v : FVec Ideal S16896x512 .f32) (R : Fin 16896) : means v (ix2 R (0 : Fin 1)) = mean (Ideal.ofBits .f32 0x44000000#32) (rowOf v R) := by
  pointwise [means, mean]

theorem lessMean_apply (v : FVec Ideal S16896x512 .f32) (R : Fin 16896) (d : Fin 512) : lessMean v (ix2 R d) = centred (rowOf v R) d := by
  unfold centred
  rw [← means_apply]
  pointwise [lessMean]

theorem normalized_apply (c : FVec Ideal S16896x512 .f32) (g b : FVec Ideal S1x512 .f32) (R : Fin 16896) (d : Fin 512) :
    normalized c g b (ix2 R d) = c (ix2 R d) * Ideal.rsqrt (means (mulf c c) (ix2 R (0 : Fin 1)) + Ideal.ofBits .f32 0x3727C5AC#32) * g (ix2 (0 : Fin 1) d) + b (ix2 (0 : Fin 1) d) := by
  pointwise [normalized]

theorem mixing_apply (n : FVec Ideal S16896x512 .f32) (w : FVec Ideal S4x128x128 .bf16) (h : Fin 4) (c : Fin 132) (d t : Fin 128) :
    mixing n w (ix4 h c d t) = ∑ s : Fin 128, n (ix2 ⟨c.val * 128 + s.val, by omega⟩ ⟨h.val * 128 + d.val, by omega⟩) * w (ix3 h t s) := by
  pointwise [mixing]

theorem biased_apply (x : FVec Ideal S4x132x128x128 .f32) (b : FVec Ideal S128x512 .f32) (c : Fin 132) (t : Fin 128) (d : Fin 512) :
    biased x b (ix3 c t d) = x (ix4 ⟨d.val / 128, by omega⟩ c ⟨d.val % 128, by omega⟩ t) + b (ix2 t d) := by
  pointwise [biased]

theorem gm_apply (u : FVec Ideal S16896x1024 .f32) (s : FVec Ideal S132x128x512 .f32) (R : Fin 16896) (d : Fin 512) :
    gm u s (ix2 R d) = u (ix2 R ⟨d.val, by omega⟩) * s (ix3 ⟨R.val / 128, by omega⟩ ⟨R.val % 128, by omega⟩ d) := by
  pointwise [gm]

theorem queryNorm_apply (v : FVec Ideal S16896x768 .f32) (g : FVec Ideal S1x768 .f32) (R : Fin 16896) (d : Fin 768) :
    queryNorm v g (ix2 R d) = rmsNorm (Ideal.ofBits .f32 0x44400000#32) (rowOf v R) (rowOf g 0) d := by
  pointwise [queryNorm, rmsNorm, mean]

theorem heads_apply (v : FVec Ideal S16896x768 .f32) (w : FVec Ideal S768x2048 .bf16) (R : Fin 16896) (h : Fin 8) (e : Fin 256) :
    heads v w (ix3 R h e) = times (rowOf v R) (rowOf w) ⟨h.val * 256 + e.val, by omega⟩ := by
  pointwise [heads, times]

theorem embedHeads_apply (r : FVec Ideal S16896x8x128 .f32) (a b : FVec Ideal S16896x128 .f32) (R : Fin 16896) (h : Fin 8) (e : Fin 128) :
    embedHeads r a b (ix3 R h e) = rotate (fun e => r (ix3 R h e)) (rowOf a R) (rowOf b R) e := by
  pointwise [embedHeads, rotate]
  have ht : (if h_1 : e.val < 64 then r (ix3 R h ⟨64 + e.val, by omega⟩) else r (ix3 R h ⟨e.val - 64, by omega⟩)) = r (ix3 R h ⟨(e.val + 64) % 128, Nat.mod_lt _ (by omega)⟩) := by
    split
    · exact congrArg (fun z => r (ix3 R h z)) (Fin.ext (by show 64 + e.val = (e.val + 64) % 128; omega))
    · exact congrArg (fun z => r (ix3 R h z)) (Fin.ext (by show e.val - 64 = (e.val + 64) % 128; omega))
  rw [ht]

theorem queries_apply (q : FVec Ideal S16896x8x256 .f32) (e : FVec Ideal S16896x8x128 .f32) (R : Fin 16896) (c : Fin 2048) :
    queries q e (ix2 R c) = (if h : c.val % 256 < 128 then q (ix3 R ⟨c.val / 256, by omega⟩ ⟨c.val % 256, by omega⟩)
      else e (ix3 R ⟨c.val / 256, by omega⟩ ⟨c.val % 256 - 128, by omega⟩)) * Ideal.ofBits .f32 0x3DD53B95#32 := by
  pointwise [queries]

theorem latentNorm_apply (v : FVec Ideal S16896x256 .f32) (g : FVec Ideal S1x256 .f32) (R : Fin 16896) (d : Fin 256) :
    latentNorm v g (ix2 R d) = rmsNorm (Ideal.ofBits .f32 0x43800000#32) (rowOf v R) (rowOf g 0) d := by
  pointwise [latentNorm, rmsNorm, mean]

theorem embedRows_apply (r a b : FVec Ideal S16896x128 .f32) (R : Fin 16896) (e : Fin 128) :
    embedRows r a b (ix2 R e) = rotate (rowOf r R) (rowOf a R) (rowOf b R) e := by
  pointwise [embedRows, rotate]
  have ht : (if h : e.val < 64 then r (ix2 R ⟨64 + e.val, by omega⟩) else r (ix2 R ⟨e.val - 64, by omega⟩)) = r (ix2 R ⟨(e.val + 64) % 128, Nat.mod_lt _ (by omega)⟩) := by
    split
    · exact congrArg (fun z => r (ix2 R z)) (Fin.ext (by show 64 + e.val = (e.val + 64) % 128; omega))
    · exact congrArg (fun z => r (ix2 R z)) (Fin.ext (by show e.val - 64 = (e.val + 64) % 128; omega))
  rw [ht]

theorem rowKeys_apply (l : FVec Ideal S16896x256 .f32) (w : FVec Ideal S256x1024 .bf16) (e : FVec Ideal S16896x128 .f32) (R : Fin 16896) (c : Fin 2048) :
    rowKeys l w e (ix2 R c) = if h : c.val % 256 < 128 then times (rowOf l R) (rowOf w) ⟨c.val / 256 * 128 + c.val % 256, by omega⟩
      else e (ix2 R ⟨c.val % 256 - 128, by omega⟩) := by
  pointwise [rowKeys, times]

theorem placedKeys_apply (k : FVec Ideal S16896x2048 .f32) (N : Fin 16896) (c : Fin 2048) : placedKeys k (ix2 N c) = k (ix2 (source N) c) := by
  pointwise [placedKeys]
  split
  · next h => exact congrArg (fun z => k (ix2 z c)) (Fin.ext ((Nat.add_assoc _ _ _).symm.trans (if_pos h).symm))
  · next h => exact congrArg (fun z => k (ix2 z c)) (Fin.ext (if_neg h).symm)

theorem rowValues_apply (l : FVec Ideal S16896x256 .f32) (w : FVec Ideal S1024x256 .bf16) (R : Fin 16896) (d : Fin 1024) :
    rowValues l w (ix2 R d) = ∑ k : Fin 256, l (ix2 R k) * w (ix2 d k) := by
  pointwise [rowValues]

theorem placedValues_apply (v : FVec Ideal S16896x1024 .f32) (d : Fin 1024) (N : Fin 16896) : placedValues v (ix2 d N) = v (ix2 (source N) d) := by
  pointwise [placedValues]
  split
  · next h => exact congrArg (fun z => v (ix2 z d)) (Fin.ext ((Nat.add_assoc _ _ _).symm.trans (if_pos h).symm))
  · next h => exact congrArg (fun z => v (ix2 z d)) (Fin.ext (if_neg h).symm)

/-! ## The results -/

section
variable (x : FVec Ideal S16896x2048 .f32) (m : FVec Ideal S3x6x2048 .f32) (ca cb : FVec Ideal S16896x128 .f32) (w : FVec Ideal S2048x3968 .bf16)
  (gv bv : FVec Ideal S1x512 .f32) (ws : FVec Ideal S4x128x128 .bf16) (bs : FVec Ideal S128x512 .f32) (gq : FVec Ideal S1x768 .f32)
  (wq : FVec Ideal S768x2048 .bf16) (gk : FVec Ideal S1x256 .f32) (wk : FVec Ideal S256x1024 .bf16) (wv : FVec Ideal S1024x256 .bf16)

theorem proj_apply (R : Fin 16896) (j : Fin 3968) : proj x m w (ix2 R j) = projectedRow x m w R j := by
  have e : proj x m w (ix2 R j) = ∑ k : Fin 2048, allRows (latentRows x m) (contextRows x m) (ix2 R k) * w (ix2 k j) := by
    pointwise [proj]
  refine e.trans (Finset.sum_congr rfl fun k _ => congrArg (· * w (ix2 k j)) ?_)
  rw [allRows_apply]
  unfold modulate
  have hR := R.isLt
  split
  · rw [latentRows_apply]
    have e1 : (⟨R.val / 8192 * 8192 + R.val % 8192, by omega⟩ : Fin 16896) = R := Fin.ext (by show R.val / 8192 * 8192 + R.val % 8192 = R.val; omega)
    rw [e1]
  · rw [contextRows_apply]
    have e1 : (⟨16384 + (R.val - 16384), by omega⟩ : Fin 16896) = R := Fin.ext (by show 16384 + (R.val - 16384) = R.val; omega)
    have e2 : (2 : Fin 3) = ⟨R.val / 8192, by omega⟩ := Fin.ext (by show 2 = R.val / 8192; omega)
    rw [e1, e2]

theorem proj_row (R : Fin 16896) : rowOf (proj x m w) R = projectedRow x m w R := funext fun j => proj_apply x m w R j

/-- The columns from 1792 on. -/
theorem result1 : extractStridedSlice S16896x512 ![0, 1792] (proj x m w) slices_S16896x3968_S16896x512_0_1792 = partArray x m w 1792 512 (by omega) := by
  funext y
  obtain ⟨R, d, rfl⟩ : ∃ (R : Fin 16896) (d : Fin 512), y = ix2 R d := ⟨y 0, y 1, Shape.idx_ext₂ rfl rfl⟩
  refine Eq.trans ?_ (proj_apply x m w R ⟨1792 + d.val, by omega⟩)
  pointwise []

/-- The columns from 2304 on. -/
theorem result2 : extractStridedSlice S16896x1024 ![0, 2304] (proj x m w) slices_S16896x3968_S16896x1024_0_2304 = partArray x m w 2304 1024 (by omega) := by
  funext y
  obtain ⟨R, d, rfl⟩ : ∃ (R : Fin 16896) (d : Fin 1024), y = ix2 R d := ⟨y 0, y 1, Shape.idx_ext₂ rfl rfl⟩
  refine Eq.trans ?_ (proj_apply x m w R ⟨2304 + d.val, by omega⟩)
  pointwise []

/-- The columns from 3328 on. -/
theorem result3 : extractStridedSlice S16896x256 ![0, 3328] (proj x m w) slices_S16896x3968_S16896x256_0_3328 = partArray x m w 3328 256 (by omega) := by
  funext y
  obtain ⟨R, d, rfl⟩ : ∃ (R : Fin 16896) (d : Fin 256), y = ix2 R d := ⟨y 0, y 1, Shape.idx_ext₂ rfl rfl⟩
  refine Eq.trans ?_ (proj_apply x m w R ⟨3328 + d.val, by omega⟩)
  pointwise []

/-- A row of the second half of the units. -/
theorem second_row (R : Fin 16896) : rowOf (second (units (proj x m w))) R = fun d : Fin 512 => gelu (projectedRow x m w R ⟨512 + d.val, by omega⟩) := by
  funext d
  have e : second (units (proj x m w)) (ix2 R d) = units (proj x m w) (ix2 R ⟨512 + d.val, by omega⟩) := by
    pointwise [second]
  refine e.trans ?_
  rw [units_apply, proj_apply]

theorem normalized_row (R : Fin 16896) (d : Fin 512) :
    normalized (lessMean (second (units (proj x m w)))) gv bv (ix2 R d) = valueNorm (projectedRow x m w R) (rowOf gv 0) (rowOf bv 0) d := by
  have e : rowOf (mulf (lessMean (second (units (proj x m w)))) (lessMean (second (units (proj x m w))))) R
      = fun d => centred (fun d : Fin 512 => gelu (projectedRow x m w R ⟨512 + d.val, by omega⟩)) d * centred (fun d : Fin 512 => gelu (projectedRow x m w R ⟨512 + d.val, by omega⟩)) d := by
    funext d
    have e : mulf (lessMean (second (units (proj x m w)))) (lessMean (second (units (proj x m w)))) (ix2 R d)
        = lessMean (second (units (proj x m w))) (ix2 R d) * lessMean (second (units (proj x m w))) (ix2 R d) := rfl
    refine e.trans ?_
    rw [lessMean_apply, second_row]
  rw [normalized_apply, means_apply, e, lessMean_apply, second_row]
  rfl

/-- The gated units. -/
theorem result0 : gm (units (proj x m w)) (biased (mixing (normalized (lessMean (second (units (proj x m w)))) gv bv) ws) bs)
    = gatedArray x m w gv bv ws bs := by
  funext y
  obtain ⟨R, d, rfl⟩ : ∃ (R : Fin 16896) (d : Fin 512), y = ix2 R d := ⟨y 0, y 1, Shape.idx_ext₂ rfl rfl⟩
  rw [gm_apply, units_apply, proj_apply, biased_apply, mixing_apply]
  have ed : ∀ h, (⟨d.val / 128 * 128 + d.val % 128, h⟩ : Fin 512) = d := fun h => Fin.ext (by show d.val / 128 * 128 + d.val % 128 = d.val; omega)
  have es : ∀ s : Fin 128, normalized (lessMean (second (units (proj x m w)))) gv bv (ix2 ⟨R.val / 128 * 128 + s.val, by omega⟩ ⟨d.val / 128 * 128 + d.val % 128, by omega⟩)
        * ws (ix3 ⟨d.val / 128, by omega⟩ ⟨R.val % 128, Nat.mod_lt _ (by omega)⟩ s)
      = ws (ix3 ⟨d.val / 128, by omega⟩ ⟨R.val % 128, Nat.mod_lt _ (by omega)⟩ s)
        * valueNorm (projectedRow x m w ⟨R.val / 128 * 128 + s.val, by omega⟩) (rowOf gv 0) (rowOf bv 0) d := fun s => by
    rw [ed, normalized_row]
    exact mul_comm _ _
  rw [Finset.sum_congr rfl fun s _ => es s]
  rfl

/-- The queries. -/
theorem result4 : queries (heads (queryNorm (queryCols (proj x m w)) gq) wq) (embedHeads (turning (heads (queryNorm (queryCols (proj x m w)) gq) wq)) ca cb)
    = queryArray x m ca cb w gq wq := by
  funext y
  obtain ⟨R, c, rfl⟩ : ∃ (R : Fin 16896) (c : Fin 2048), y = ix2 R c := ⟨y 0, y 1, Shape.idx_ext₂ rfl rfl⟩
  have en : rowOf (queryCols (proj x m w)) R = fun j : Fin 768 => projectedRow x m w R ⟨1024 + j.val, by omega⟩ := by
    funext j
    refine Eq.trans ?_ (proj_apply x m w R ⟨1024 + j.val, by omega⟩)
    show queryCols (proj x m w) (ix2 R j) = _
    pointwise [queryCols]
  have eh : ∀ (h : Fin 8) (e : Fin 256), heads (queryNorm (queryCols (proj x m w)) gq) wq (ix3 R h e)
      = queryFlat (projectedRow x m w R) (rowOf gq 0) (rowOf wq) ⟨h.val * 256 + e.val, by omega⟩ := fun h e => by
    rw [heads_apply]
    unfold queryFlat
    rw [← en]
    refine congrArg (fun v => times v (rowOf wq) ⟨h.val * 256 + e.val, by omega⟩) (funext fun d => ?_)
    exact queryNorm_apply _ _ R d
  have et : ∀ (h : Fin 8) (e : Fin 128), turning (heads (queryNorm (queryCols (proj x m w)) gq) wq) (ix3 R h e)
      = queryFlat (projectedRow x m w R) (rowOf gq 0) (rowOf wq) ⟨h.val * 256 + 128 + e.val, by omega⟩ := fun h e => by
    have e1 : turning (heads (queryNorm (queryCols (proj x m w)) gq) wq) (ix3 R h e) = heads (queryNorm (queryCols (proj x m w)) gq) wq (ix3 R h ⟨128 + e.val, by omega⟩) := by
      pointwise [turning]
    rw [e1, eh]
    exact congrArg _ (Fin.ext (Nat.add_assoc _ _ _).symm)
  rw [queries_apply]
  refine congrArg (· * _) ?_
  split
  · next hc =>
    rw [eh]
    refine Eq.trans ?_ (dif_pos hc).symm
    exact congrArg _ (Fin.ext (by show c.val / 256 * 256 + c.val % 256 = c.val; omega))
  · next hc =>
    rw [embedHeads_apply]
    refine Eq.trans ?_ (dif_neg hc).symm
    refine congrArg (fun v => rotate v (rowOf ca R) (rowOf cb R) ⟨c.val % 256 - 128, by omega⟩) (funext fun e => ?_)
    exact et _ _

theorem latent_row (R : Fin 16896) : rowOf (latentNorm (latentCols (proj x m w)) gk) R = latent (projectedRow x m w R) (rowOf gk 0) := by
  funext d
  refine (latentNorm_apply _ _ R d).trans ?_
  have en : rowOf (latentCols (proj x m w)) R = fun j : Fin 256 => projectedRow x m w R ⟨3584 + j.val, by omega⟩ := by
    funext j
    refine Eq.trans ?_ (proj_apply x m w R ⟨3584 + j.val, by omega⟩)
    show latentCols (proj x m w) (ix2 R j) = _
    pointwise [latentCols]
  rw [en]
  rfl

/-- The keys. -/
theorem result5 : placedKeys (rowKeys (latentNorm (latentCols (proj x m w)) gk) wk (embedRows (shared (proj x m w)) ca cb)) = keyArray x m ca cb w gk wk := by
  funext y
  obtain ⟨N, c, rfl⟩ : ∃ (N : Fin 16896) (c : Fin 2048), y = ix2 N c := ⟨y 0, y 1, Shape.idx_ext₂ rfl rfl⟩
  have en : ∀ R : Fin 16896, rowOf (shared (proj x m w)) R = fun e : Fin 128 => projectedRow x m w R ⟨3840 + e.val, by omega⟩ := fun R => by
    funext j
    refine Eq.trans ?_ (proj_apply x m w R ⟨3840 + j.val, by omega⟩)
    show shared (proj x m w) (ix2 R j) = _
    pointwise [shared]
  rw [placedKeys_apply, rowKeys_apply, latent_row]
  by_cases hc : c.val % 256 < 128
  · refine (dif_pos hc).trans (Eq.trans ?_ (dif_pos hc).symm)
    rfl
  · refine (dif_neg hc).trans (Eq.trans ?_ (dif_neg hc).symm)
    rw [embedRows_apply, en]
    rfl

/-- The values. -/
theorem result6 : placedValues (rowValues (latentNorm (latentCols (proj x m w)) gk) wv) = valueArray x m w gk wv := by
  funext y
  obtain ⟨d, N, rfl⟩ : ∃ (d : Fin 1024) (N : Fin 16896), y = ix2 d N := ⟨y 0, y 1, Shape.idx_ext₂ rfl rfl⟩
  rw [placedValues_apply, rowValues_apply]
  refine Finset.sum_congr rfl fun l _ => ?_
  have e := congrFun (latent_row x m w gk (source N)) l
  refine (congrArg (· * wv (ix2 d l)) e).trans ?_
  exact mul_comm _ _

end

end Cert.Reference3Ideal.Proj

end
-- ==== Proof.OutSpec.lean ====
/-
  THE OUTPUT PROJECTION as functions of one row, and its three result arrays, over the extended reals.
-/
module

public import proofs.«01_k».proof.Proof.ProjSpec

@[expose] public section

noncomputable section

open Idealize.ShloMosaic

namespace Cert.OutProjection
open Cert.Projections

/-- A row of 2048 entries less its mean. -/
def centred (v : Row 2048) : Row 2048 := fun d => v d - mean (Ideal.ofBits .f32 0x45000000#32) v

/-- Layer normalization of a row of 2048 entries, with gain `g` and bias `b`. -/
def normalize (v g b : Row 2048) : Row 2048 := fun d =>
  centred v d * Ideal.rsqrt (mean (Ideal.ofBits .f32 0x45000000#32) (fun e => centred v e * centred v e) + Ideal.ofBits .f32 0x3727C5AC#32) * g d + b d

/-- The residual row scaled up by the depth's constant, plus the branch's row times its gate `s`. -/
def residual (x s y : Row 2048) : Row 2048 := fun d => Ideal.ofBits .f32 0x3FB504F3#32 * x d + s d * y d

/-- The three head groups' rows side by side. -/
def beside (g s : Row 512) (a : Row 1024) : Row 2048 := fun k =>
  if h : k.val < 512 then g ⟨k.val, h⟩ else if h' : k.val < 1024 then s ⟨k.val - 512, by omega⟩ else a ⟨k.val - 1024, by omega⟩

/-- The normalized residual row: of the residual `x`, its gate `s`, the head groups' row `u`, the output weights `w`, gain `g` and bias `b`. -/
def newRow (x s u : Row 2048) (w : Fin 2048 → Row 2048) (g b : Row 2048) : Row 2048 := normalize (residual x s (times u w)) g b

/-! ## The three result arrays, from the argument arrays -/

section
variable (gm ssm : Mat 16896 512) (att : Mat 16384 1024) (ctx : Mat 512 1024) (x : Mat 16896 2048) (m : (⟨3, ![3, 6, 2048]⟩ : Shape).Idx → EReal)
  (w : Mat 2048 2048) (g b : Mat 1 2048) (wr : Mat 64 2048)

/-- The attention's row `R`: of the latent rows first, then of the context's. -/
def attended (R : Fin 16896) : Row 1024 := fun k =>
  if h : R.val < 16384 then att (ix2 ⟨R.val, h⟩ k) else ctx (ix2 ⟨R.val - 16384, by omega⟩ k)

/-- Vector `e` of the modulation of row `R`'s group (8192 rows of each batch entry, then the rest). -/
def modOf (e : Fin 6) (R : Fin 16896) : Row 2048 := fun k => m (ix3 ⟨R.val / 8192, by omega⟩ e k)

/-- The normalized residual row `R`. -/
def outRow (R : Fin 16896) : Row 2048 :=
  newRow (rowOf x R) (modOf m 2 R) (beside (rowOf gm R) (rowOf ssm R) (attended att ctx R)) (rowOf w) (rowOf g 0) (rowOf b 0)

/-- Row `R` modulated for the experts. -/
def tokenRow (R : Fin 16896) : Row 2048 := modulate (outRow gm ssm att ctx x m w g b R) (modOf m 4 R) (modOf m 3 R)

/-- The normalized residual rows. -/
def rowArray : Mat 16896 2048 := fun y => outRow gm ssm att ctx x m w g b (y 0) (y 1)

/-- The modulated rows, each laid out as two of 1024 entries. -/
def tokenArray : Mat 33792 1024 := fun y =>
  let r : Fin 33792 := y 0
  let d : Fin 1024 := y 1
  tokenRow gm ssm att ctx x m w g b ⟨r.val / 2, by omega⟩ ⟨r.val % 2 * 1024 + d.val, by omega⟩

/-- The router's scores: an expert's weights against a modulated row. -/
def scoreArray : Mat 64 16896 := fun y => ∑ k : Fin 2048, wr (ix2 (y 0) k) * tokenRow gm ssm att ctx x m w g b (y 1) k

end

end Cert.OutProjection

end
-- ==== Proof.OutTile.lean ====
/-
  HALF A TILE OF THE OUTPUT PROJECTION'S KERNEL (256 rows), over the extended reals, entry by entry.
-/
module

public import proofs.«01_k».proof.Proof.OutSpec
public import proofs.«01_k».proof.Proof.Gen.Kernel4Ideal.Skeleton
public import Idealize.ShloMosaic.Lib.Pointwise

@[expose] public section

noncomputable section

open Idealize.ShloMosaic

namespace Cert.Kernel4Ideal.Out
open Cert.Kernel4Ideal Cert.Kernel4Ideal.Gen Cert.Projections Cert.OutProjection

/-- The head groups' rows of half a tile, side by side. -/
def sideBySide (g s : Vec Ideal S256x512 .bf16) (a : Vec Ideal S256x1024 .bf16) : FVec Ideal S256x2048 .bf16 :=
  concatenate S256x2048 1 [⟨S256x512, g⟩, ⟨S256x512, s⟩, ⟨S256x1024, a⟩] concatenates_S256x512_S256x512_S256x1024_S256x2048_d1

theorem sideBySide_apply (g s : Vec Ideal S256x512 .bf16) (a : Vec Ideal S256x1024 .bf16) (r : Fin 256) (k : Fin 2048) :
    sideBySide g s a (ix2 r k) = beside (rowOf g r) (rowOf s r) (rowOf a r) k := by
  unfold beside
  pointwise [sideBySide]
  by_cases h : k.val < 512
  · rw [dif_pos h, dif_pos h]
  by_cases h' : k.val < 1024
  · rw [dif_neg h, dif_neg h, dif_pos (show k.val - 512 < 512 by omega), dif_pos h']
  · rw [dif_neg h, dif_neg h, dif_neg (show ¬ k.val - 512 < 512 by omega), dif_neg h']
    exact congrArg (fun n => a (ix2 r n)) (Fin.ext (by show k.val - 512 - 512 = k.val - 1024; omega))

/-- The attention's rows are the context's from tile 32 on. -/
theorem select_apply {α : Type} (n : Fin 33) (a b : α) :
    Scalar.select (Scalar.cmpi .sge (BitVec.ofNat 32 n.val) 32#32) a b = if 32 ≤ n.val then a else b := by
  have h : ∀ n : Fin 33, Scalar.cmpi .sge (BitVec.ofNat 32 n.val) 32#32 = if 32 ≤ n.val then 1#1 else 0#1 := by decide +kernel
  rw [h]
  by_cases hn : 32 ≤ n.val
  · rw [if_pos hn, if_pos hn]
    rfl
  · rw [if_neg hn, if_neg hn]
    rfl

/-- The normalized residual rows. -/
theorem pay12_apply (m : FVec Ideal S6x2048 .f32) (u : FVec Ideal S256x2048 .bf16) (w : Vec Ideal S2048x2048 .bf16) (x : Vec Ideal S256x2048 .f32)
    (g b : Vec Ideal S1x2048 .f32) (r : Fin 256) (d : Fin 2048) :
    k0_pay12 (F := Ideal) m u w x g b (ix2 r d) = newRow (rowOf x r) (rowOf m 2) (rowOf u r) (rowOf w) (rowOf g 0) (rowOf b 0) d := by
  pointwise [k0_pay12]
  rfl

/-- The modulated rows. -/
theorem pay13_apply (m : FVec Ideal S6x2048 .f32) (u : FVec Ideal S256x2048 .bf16) (w : Vec Ideal S2048x2048 .bf16) (x : Vec Ideal S256x2048 .f32)
    (g b : Vec Ideal S1x2048 .f32) (r : Fin 256) (d : Fin 2048) :
    k0_pay13 (F := Ideal) m u w x g b (ix2 r d)
      = modulate (newRow (rowOf x r) (rowOf m 2) (rowOf u r) (rowOf w) (rowOf g 0) (rowOf b 0)) (rowOf m 4) (rowOf m 3) d := by
  have h : k0_pay13 (F := Ideal) m u w x g b (ix2 r d)
      = k0_pay12 (F := Ideal) m u w x g b (ix2 r d) * (1 + m (ix2 (4 : Fin 6) d)) + m (ix2 (3 : Fin 6) d) := by
    unfold k0_pay13
    generalize k0_pay12 (F := Ideal) m u w x g b = v
    pointwise
  rw [h, pay12_apply]
  rfl

/-- Their layout as rows of 1024 entries. -/
theorem pay1_apply (v : FVec Ideal S256x2048 .f32) (R : Fin 512) (C : Fin 1024) :
    k0_pay1 (F := Ideal) v (ix2 R C) = v (ix2 (⟨R.val / 2, by omega⟩ : Fin 256) (⟨R.val % 2 * 1024 + C.val, by omega⟩ : Fin 2048)) := by
  pointwise [k0_pay1]
  split
  · exact congrArg (fun n => v (ix2 _ n)) (Fin.ext (by show C.val = R.val % 2 * 1024 + C.val; omega))
  · exact congrArg (fun n => v (ix2 _ n)) (Fin.ext (by show 1024 + C.val = R.val % 2 * 1024 + C.val; omega))

theorem pay14_eq (m : FVec Ideal S6x2048 .f32) (u : FVec Ideal S256x2048 .bf16) (w : Vec Ideal S2048x2048 .bf16) (x : Vec Ideal S256x2048 .f32)
    (g b : Vec Ideal S1x2048 .f32) : k0_pay14 (F := Ideal) m u w x g b = k0_pay13 (F := Ideal) m u w x g b := by
  funext y
  obtain ⟨r, d, rfl⟩ : ∃ (r : Fin 256) (d : Fin 2048), y = ix2 r d := ⟨y 0, y 1, Shape.idx_ext₂ rfl rfl⟩
  unfold k0_pay14
  generalize k0_pay13 (F := Ideal) m u w x g b = v
  pointwise

/-- The router's scores. -/
theorem pay2_apply (v : FVec Ideal S256x2048 .f32) (wr : Vec Ideal S64x2048 .f32) (e : Fin 64) (r : Fin 256) :
    k0_pay2 (F := Ideal) v wr (ix2 e r) = ∑ k : Fin 2048, wr (ix2 e k) * v (ix2 r k) := by
  pointwise [k0_pay2]

/-- The modulation's vectors, the unit axis dropped. -/
theorem pay3_apply (m : Vec Ideal S1x6x2048 .f32) (e : Fin 6) (k : Fin 2048) : k0_pay3 (F := Ideal) m (ix2 e k) = m (ix3 (0 : Fin 1) e k) := by
  pointwise [k0_pay3]

/-! ## The first half of a tile is computed as the second is -/

section
variable (i : grid0.Coords) (m : Vec Ideal S1x6x2048 .f32) (a c : Vec Ideal S256x1024 .bf16) (gm ss : Vec Ideal S256x512 .bf16)
  (w : Vec Ideal S2048x2048 .bf16) (x : Vec Ideal S256x2048 .f32) (g b : Vec Ideal S1x2048 .f32) (wr : Vec Ideal S64x2048 .f32)

/-- The head groups' rows, the attention's chosen by the tile. -/
def groups : FVec Ideal S256x2048 .bf16 := sideBySide gm ss (if 32 ≤ (i 0).val then c else a)

theorem pay11_eq : k0_pay11 (F := Ideal) (BitVec.ofNat 32 (i 0).val) a c gm ss = groups i a c gm ss := by
  unfold groups
  rw [← select_apply (i 0) c a]
  rfl

theorem pay7_eq : k0_pay7 (F := Ideal) g b (k0_pay4 (F := Ideal) i m a c gm ss w x) (k0_pay5 (F := Ideal) i m a c gm ss w x) (k0_pay6 (F := Ideal))
    = k0_pay12 (F := Ideal) (k0_pay3 (F := Ideal) m) (groups i a c gm ss) w x g b := by
  rw [← pay11_eq]
  rfl

theorem pay8_eq : k0_pay8 (F := Ideal) (k0_pay3 (F := Ideal) m) g b (k0_pay4 (F := Ideal) i m a c gm ss w x)
      (k0_pay5 (F := Ideal) i m a c gm ss w x) (k0_pay6 (F := Ideal))
    = k0_pay13 (F := Ideal) (k0_pay3 (F := Ideal) m) (groups i a c gm ss) w x g b := by
  rw [← pay11_eq]
  rfl

theorem pay9_eq : k0_pay9 (F := Ideal) (k0_pay3 (F := Ideal) m) g b (k0_pay4 (F := Ideal) i m a c gm ss w x)
      (k0_pay5 (F := Ideal) i m a c gm ss w x) (k0_pay6 (F := Ideal))
    = k0_pay1 (F := Ideal) (k0_pay14 (F := Ideal) (k0_pay3 (F := Ideal) m) (groups i a c gm ss) w x g b) := by
  rw [← pay11_eq]
  rfl

theorem pay10_eq : k0_pay10 (F := Ideal) (k0_pay3 (F := Ideal) m) g b (k0_pay4 (F := Ideal) i m a c gm ss w x)
      (k0_pay5 (F := Ideal) i m a c gm ss w x) (k0_pay6 (F := Ideal)) wr
    = k0_pay2 (F := Ideal) (k0_pay13 (F := Ideal) (k0_pay3 (F := Ideal) m) (groups i a c gm ss) w x g b) wr := by
  rw [← pay11_eq]
  rfl

end

end Cert.Kernel4Ideal.Out

end
-- ==== Proof.OutBlock.lean ====
/-
  WHAT ONE TILE OF THE OUTPUT PROJECTION'S KERNEL LEAVES in its three outputs, from its input blocks, over the extended reals.
-/
module

public import proofs.«01_k».proof.Proof.OutTile
public import proofs.«01_k».proof.Proof.Gen.Kernel4Ideal.Frame
public import Idealize.ShloMosaic.Lib.Pipeline.CanonAppend
public import Idealize.ShloMosaic.Lib.Pipeline.ValueKit
public import Idealize.ShloMosaic.Lib.Tactic

@[expose] public section

noncomputable section

open Idealize.ShloMosaic

namespace Cert.Kernel4Ideal.Out
open Cert.Kernel4Ideal Cert.Kernel4Ideal.Gen Cert.Projections Cert.OutProjection

theorem hz : (![0, 0] : Fin 2 → Nat) = fun _ => 0 := funext fun a => by fin_cases a <;> rfl
theorem hz3 : (![0, 0, 0] : Fin 3 → Nat) = fun _ => 0 := funext fun a => by fin_cases a <;> rfl

/-- Where a piece of `k` by `p` entries from row `o` and column `q` on stands. -/
theorem emb_eq {n w k p : ℕ} (o q : ℕ) (ho : o + k ≤ n) (hq : q + p ≤ w)
    (inb : ∀ a, (![o, q] : Fin 2 → ℕ) a + (![k, p] : Fin 2 → ℕ) a ≤ (⟨2, ![n, w]⟩ : Shape).size a) (r : Fin k) (e : Fin p) :
    (Rect.unit (s := ⟨2, ![n, w]⟩) ![o, q] ![k, p] inb).emb (ix2 r e) = ix2 (⟨o + r.val, by omega⟩ : Fin n) (⟨q + e.val, by omega⟩ : Fin w) := by
  refine Shape.idx_ext₂ ?_ ?_
  · show o + 1 * r.val = o + r.val
    omega
  · show q + 1 * e.val = q + e.val
    omega

/-- An entry of 256 rows loaded from row `o` on. -/
theorem ld_entry {φ : EltTy} {n w : ℕ} (x : Vec Ideal ⟨2, ![n, w]⟩ φ) (o : ℕ) (ho : o + 256 ≤ n)
    (inb : ∀ a, (![o, 0] : Fin 2 → ℕ) a + (![256, w] : Fin 2 → ℕ) a ≤ (⟨2, ![n, w]⟩ : Shape).size a) (r : Fin 256) (k : Fin w) :
    View.ld (S := ⟨2, ![n, w]⟩) x (Rect.unit ![o, 0] ![256, w] inb) (ix2 r k) = x (ix2 (⟨o + r.val, by omega⟩ : Fin n) k) := by
  refine congrArg x (Shape.idx_ext₂ ?_ ?_)
  · show o + 1 * r.val = o + r.val
    omega
  · show 0 + 1 * k.val = k.val
    omega

variable (i : grid0.Coords) (x0 x1 : Vec Ideal S512x512 .bf16) (x2 x3 : Vec Ideal S512x1024 .bf16) (x4 : Vec Ideal S512x2048 .f32)
  (x5 : Vec Ideal S1x6x2048 .f32) (x6 : Vec Ideal S2048x2048 .bf16) (x7 x8 : Vec Ideal S1x2048 .f32) (x9 : Vec Ideal S64x2048 .f32)

/-- Row `r` of the tile, normalized. -/
def tileRow (r : Fin 512) : Row 2048 :=
  newRow (rowOf x4 r) (fun k => x5 (ix3 (0 : Fin 1) (2 : Fin 6) k)) (beside (rowOf x0 r) (rowOf x1 r) (rowOf (if 32 ≤ (i 0).val then x3 else x2) r))
    (rowOf x6) (rowOf x7 0) (rowOf x8 0)

/-- Row `r` of the tile, modulated. -/
def tileToken (r : Fin 512) : Row 2048 :=
  modulate (tileRow i x0 x1 x2 x3 x4 x5 x6 x7 x8 r) (fun k => x5 (ix3 (0 : Fin 1) (4 : Fin 6) k)) (fun k => x5 (ix3 (0 : Fin 1) (3 : Fin 6) k))

/-- The head groups' rows of 256 rows from row `o` on. -/
theorem groups_row (o : ℕ) (ho : o + 256 ≤ 512)
    (inb1 : ∀ a, (![o, 0] : Fin 2 → ℕ) a + S256x1024.size a ≤ S512x1024.size a)
    (inb2 : ∀ a, (![o, 0] : Fin 2 → ℕ) a + S256x512.size a ≤ S512x512.size a) (r : Fin 256) :
    rowOf (n := 256) (p := 2048) (groups i (View.ld x2 (Rect.unit (s := S512x1024) ![o, 0] S256x1024.size inb1)) (View.ld x3 (Rect.unit (s := S512x1024) ![o, 0] S256x1024.size inb1))
        (View.ld x0 (Rect.unit (s := S512x512) ![o, 0] S256x512.size inb2)) (View.ld x1 (Rect.unit (s := S512x512) ![o, 0] S256x512.size inb2))) r
      = beside (rowOf x0 ⟨o + r.val, by omega⟩) (rowOf x1 ⟨o + r.val, by omega⟩) (rowOf (if 32 ≤ (i 0).val then x3 else x2) ⟨o + r.val, by omega⟩) := by
  funext k
  refine (sideBySide_apply _ _ _ r k).trans ?_
  have e0 : rowOf (n := 256) (p := 512) (View.ld x0 (Rect.unit (s := S512x512) ![o, 0] S256x512.size inb2)) r = rowOf x0 ⟨o + r.val, by omega⟩ := funext fun k => ld_entry x0 o ho inb2 r k
  have e1 : rowOf (n := 256) (p := 512) (View.ld x1 (Rect.unit (s := S512x512) ![o, 0] S256x512.size inb2)) r = rowOf x1 ⟨o + r.val, by omega⟩ := funext fun k => ld_entry x1 o ho inb2 r k
  have e2 : rowOf (n := 256) (p := 1024) (View.ld x2 (Rect.unit (s := S512x1024) ![o, 0] S256x1024.size inb1)) r = rowOf x2 ⟨o + r.val, by omega⟩ := funext fun k => ld_entry x2 o ho inb1 r k
  have e3 : rowOf (n := 256) (p := 1024) (View.ld x3 (Rect.unit (s := S512x1024) ![o, 0] S256x1024.size inb1)) r = rowOf x3 ⟨o + r.val, by omega⟩ := funext fun k => ld_entry x3 o ho inb1 r k
  by_cases h : 32 ≤ (i 0).val
  · rw [if_pos h, if_pos h]
    exact congrFun (congr (congr (congrArg beside e0) e1) e3) k
  · rw [if_neg h, if_neg h]
    exact congrFun (congr (congr (congrArg beside e0) e1) e2) k

/-- The normalized rows of 256 rows from row `o` on. -/
theorem half_row (o : ℕ) (ho : o + 256 ≤ 512)
    (inb1 : ∀ a, (![o, 0] : Fin 2 → ℕ) a + S256x1024.size a ≤ S512x1024.size a)
    (inb2 : ∀ a, (![o, 0] : Fin 2 → ℕ) a + S256x512.size a ≤ S512x512.size a)
    (inb4 : ∀ a, (![o, 0] : Fin 2 → ℕ) a + S256x2048.size a ≤ S512x2048.size a) (r : Fin 256) (d : Fin 2048) :
    k0_pay12 (F := Ideal) (k0_pay3 (F := Ideal) x5) (groups i (View.ld x2 (Rect.unit (s := S512x1024) ![o, 0] S256x1024.size inb1)) (View.ld x3 (Rect.unit (s := S512x1024) ![o, 0] S256x1024.size inb1))
        (View.ld x0 (Rect.unit (s := S512x512) ![o, 0] S256x512.size inb2)) (View.ld x1 (Rect.unit (s := S512x512) ![o, 0] S256x512.size inb2)))
        x6 (View.ld x4 (Rect.unit (s := S512x2048) ![o, 0] S256x2048.size inb4)) x7 x8 (ix2 r d)
      = tileRow i x0 x1 x2 x3 x4 x5 x6 x7 x8 ⟨o + r.val, by omega⟩ d := by
  rw [pay12_apply]
  have e2 : rowOf (k0_pay3 (F := Ideal) x5) 2 = fun k => x5 (ix3 (0 : Fin 1) (2 : Fin 6) k) := funext fun k => pay3_apply x5 2 k
  have e4 : rowOf (n := 256) (p := 2048) (View.ld x4 (Rect.unit (s := S512x2048) ![o, 0] S256x2048.size inb4)) r = rowOf x4 ⟨o + r.val, by omega⟩ := funext fun k => ld_entry x4 o ho inb4 r k
  have eg := groups_row i x0 x1 x2 x3 o ho inb1 inb2 r
  unfold tileRow
  exact congrFun (congrFun (congrFun (congrFun (congr (congr (congrArg newRow e4) e2) eg) (rowOf x6)) (rowOf x7 0)) (rowOf x8 0)) d

/-- The modulated rows of 256 rows from row `o` on. -/
theorem half_token (o : ℕ) (ho : o + 256 ≤ 512)
    (inb1 : ∀ a, (![o, 0] : Fin 2 → ℕ) a + S256x1024.size a ≤ S512x1024.size a)
    (inb2 : ∀ a, (![o, 0] : Fin 2 → ℕ) a + S256x512.size a ≤ S512x512.size a)
    (inb4 : ∀ a, (![o, 0] : Fin 2 → ℕ) a + S256x2048.size a ≤ S512x2048.size a) (r : Fin 256) (d : Fin 2048) :
    k0_pay13 (F := Ideal) (k0_pay3 (F := Ideal) x5) (groups i (View.ld x2 (Rect.unit (s := S512x1024) ![o, 0] S256x1024.size inb1)) (View.ld x3 (Rect.unit (s := S512x1024) ![o, 0] S256x1024.size inb1))
        (View.ld x0 (Rect.unit (s := S512x512) ![o, 0] S256x512.size inb2)) (View.ld x1 (Rect.unit (s := S512x512) ![o, 0] S256x512.size inb2)))
        x6 (View.ld x4 (Rect.unit (s := S512x2048) ![o, 0] S256x2048.size inb4)) x7 x8 (ix2 r d)
      = tileToken i x0 x1 x2 x3 x4 x5 x6 x7 x8 ⟨o + r.val, by omega⟩ d := by
  rw [pay13_apply]
  have h : newRow _ _ _ _ _ _ = tileRow i x0 x1 x2 x3 x4 x5 x6 x7 x8 ⟨o + r.val, by omega⟩ := funext fun e =>
    (pay12_apply _ _ _ _ _ _ r e).symm.trans (half_row i x0 x1 x2 x3 x4 x5 x6 x7 x8 o ho inb1 inb2 inb4 r e)
  have e3 : rowOf (k0_pay3 (F := Ideal) x5) 3 = fun k => x5 (ix3 (0 : Fin 1) (3 : Fin 6) k) := funext fun k => pay3_apply x5 3 k
  have e4 : rowOf (k0_pay3 (F := Ideal) x5) 4 = fun k => x5 (ix3 (0 : Fin 1) (4 : Fin 6) k) := funext fun k => pay3_apply x5 4 k
  exact congrFun (congr (congr (congrArg modulate h) e4) e3) d

/-- The tile's normalized rows. -/
def rowBlock : Vec Ideal S512x2048 .f32 := fun y => tileRow i x0 x1 x2 x3 x4 x5 x6 x7 x8 (y 0) (y 1)

theorem out10 (r : Fin 512) (d : Fin 2048) : out0_10 (F := Ideal) i x0 x1 x2 x3 x4 x5 x6 x7 x8 x9 (ix2 r d) = tileRow i x0 x1 x2 x3 x4 x5 x6 x7 x8 r d := by
  unfold_out out0_10
  rw [View.ld_unit_zero (S := S1x6x2048) hz3, View.ld_unit_zero (S := S2048x2048) hz, View.ld_unit_zero (S := S1x2048) hz _ x7,
    View.ld_unit_zero (S := S1x2048) hz _ x8, pay7_eq, pay11_eq]
  refine (congrArg (fun L => View.canon L (ix2 r d)) (List.append_nil _).symm).trans ?_
  refine View.canon_append_of_pieces (rowBlock i x0 x1 x2 x3 x4 x5 x6 x7 x8) [] _ ?_ _ (cover0_10 ..)
  refine List.forall_mem_cons.2 ⟨fun x => ?_, List.forall_mem_cons.2 ⟨fun x => ?_, List.forall_mem_nil _⟩⟩
  · obtain ⟨r, e, rfl⟩ : ∃ (r : Fin 256) (e : Fin 2048), x = ix2 r e := ⟨x 0, x 1, Shape.idx_ext₂ rfl rfl⟩
    refine (half_row i x0 x1 x2 x3 x4 x5 x6 x7 x8 256 (by omega) inb_S512x1024_S256x1024_256_0 inb_S512x512_S256x512_256_0 inb_S512x2048_S256x2048_256_0 r e).trans ?_
    refine Eq.trans ?_ (congrArg (rowBlock i x0 x1 x2 x3 x4 x5 x6 x7 x8) (emb_eq 256 0 (by omega) (by omega) inb_S512x2048_S256x2048_256_0 r e)).symm
    exact congrArg (tileRow i x0 x1 x2 x3 x4 x5 x6 x7 x8 ⟨256 + r.val, by omega⟩) (Fin.ext (show e.val = 0 + e.val by omega))
  · obtain ⟨r, e, rfl⟩ : ∃ (r : Fin 256) (e : Fin 2048), x = ix2 r e := ⟨x 0, x 1, Shape.idx_ext₂ rfl rfl⟩
    refine (half_row i x0 x1 x2 x3 x4 x5 x6 x7 x8 0 (by omega) inb_S512x1024_S256x1024_0_0 inb_S512x512_S256x512_0_0 inb_S512x2048_S256x2048_0_0 r e).trans ?_
    refine Eq.trans ?_ (congrArg (rowBlock i x0 x1 x2 x3 x4 x5 x6 x7 x8) (emb_eq 0 0 (by omega) (by omega) inb_S512x2048_S256x2048_0_0 r e)).symm
    exact congrArg (tileRow i x0 x1 x2 x3 x4 x5 x6 x7 x8 ⟨0 + r.val, by omega⟩) (Fin.ext (show e.val = 0 + e.val by omega))

/-- The entry of the modulated rows laid out as rows of 1024. -/
def laidOut (R C : Fin 1024) : EReal := tileToken i x0 x1 x2 x3 x4 x5 x6 x7 x8 ⟨R.val / 2, by omega⟩ ⟨R.val % 2 * 1024 + C.val, by omega⟩

/-- The tile's modulated rows, laid out. -/
def tokenBlock : Vec Ideal S1024x1024 .bf16 := fun y => laidOut i x0 x1 x2 x3 x4 x5 x6 x7 x8 (y 0) (y 1)

theorem out11 (R C : Fin 1024) : out0_11 (F := Ideal) i x0 x1 x2 x3 x4 x5 x6 x7 x8 x9 (ix2 R C) = laidOut i x0 x1 x2 x3 x4 x5 x6 x7 x8 R C := by
  unfold_out out0_11
  rw [View.ld_unit_zero (S := S1x6x2048) hz3, View.ld_unit_zero (S := S2048x2048) hz, View.ld_unit_zero (S := S1x2048) hz _ x7,
    View.ld_unit_zero (S := S1x2048) hz _ x8, pay9_eq, pay11_eq, pay14_eq, pay14_eq]
  refine (congrArg (fun L => View.canon L (ix2 R C)) (List.append_nil _).symm).trans ?_
  refine View.canon_append_of_pieces (tokenBlock i x0 x1 x2 x3 x4 x5 x6 x7 x8) [] _ ?_ _ (cover0_11 ..)
  refine List.forall_mem_cons.2 ⟨fun x => ?_, List.forall_mem_cons.2 ⟨fun x => ?_, List.forall_mem_nil _⟩⟩
  · obtain ⟨r, e, rfl⟩ : ∃ (r : Fin 512) (e : Fin 1024), x = ix2 r e := ⟨x 0, x 1, Shape.idx_ext₂ rfl rfl⟩
    refine (pay1_apply _ r e).trans ((half_token i x0 x1 x2 x3 x4 x5 x6 x7 x8 256 (by omega) inb_S512x1024_S256x1024_256_0 inb_S512x512_S256x512_256_0 inb_S512x2048_S256x2048_256_0 _ _).trans ?_)
    refine Eq.trans ?_ (congrArg (tokenBlock i x0 x1 x2 x3 x4 x5 x6 x7 x8) (emb_eq 512 0 (by omega) (by omega) inb_S1024x1024_S512x1024_512_0 r e)).symm
    exact congr (congrArg (tileToken i x0 x1 x2 x3 x4 x5 x6 x7 x8) (Fin.ext (show 256 + r.val / 2 = (512 + r.val) / 2 by omega)))
      (Fin.ext (show r.val % 2 * 1024 + e.val = (512 + r.val) % 2 * 1024 + (0 + e.val) by omega))
  · obtain ⟨r, e, rfl⟩ : ∃ (r : Fin 512) (e : Fin 1024), x = ix2 r e := ⟨x 0, x 1, Shape.idx_ext₂ rfl rfl⟩
    refine (pay1_apply _ r e).trans ((half_token i x0 x1 x2 x3 x4 x5 x6 x7 x8 0 (by omega) inb_S512x1024_S256x1024_0_0 inb_S512x512_S256x512_0_0 inb_S512x2048_S256x2048_0_0 _ _).trans ?_)
    refine Eq.trans ?_ (congrArg (tokenBlock i x0 x1 x2 x3 x4 x5 x6 x7 x8) (emb_eq 0 0 (by omega) (by omega) inb_S1024x1024_S512x1024_0_0 r e)).symm
    exact congr (congrArg (tileToken i x0 x1 x2 x3 x4 x5 x6 x7 x8) (Fin.ext (show 0 + r.val / 2 = (0 + r.val) / 2 by omega)))
      (Fin.ext (show r.val % 2 * 1024 + e.val = (0 + r.val) % 2 * 1024 + (0 + e.val) by omega))

/-- The router's scores of the tile's rows. -/
def tileScore (e : Fin 64) (r : Fin 512) : EReal := ∑ k : Fin 2048, x9 (ix2 e k) * tileToken i x0 x1 x2 x3 x4 x5 x6 x7 x8 r k

/-- The tile's scores. -/
def scoreBlock : Vec Ideal S64x512 .f32 := fun y => tileScore i x0 x1 x2 x3 x4 x5 x6 x7 x8 x9 (y 0) (y 1)

theorem out12 (e : Fin 64) (r : Fin 512) : out0_12 (F := Ideal) i x0 x1 x2 x3 x4 x5 x6 x7 x8 x9 (ix2 e r) = tileScore i x0 x1 x2 x3 x4 x5 x6 x7 x8 x9 e r := by
  unfold_out out0_12
  rw [View.ld_unit_zero (S := S1x6x2048) hz3, View.ld_unit_zero (S := S2048x2048) hz, View.ld_unit_zero (S := S1x2048) hz _ x7,
    View.ld_unit_zero (S := S1x2048) hz _ x8, View.ld_unit_zero (S := S64x2048) hz, pay10_eq, pay11_eq]
  refine (congrArg (fun L => View.canon L (ix2 e r)) (List.append_nil _).symm).trans ?_
  refine View.canon_append_of_pieces (scoreBlock i x0 x1 x2 x3 x4 x5 x6 x7 x8 x9) [] _ ?_ _ (cover0_12 ..)
  refine List.forall_mem_cons.2 ⟨fun x => ?_, List.forall_mem_cons.2 ⟨fun x => ?_, List.forall_mem_nil _⟩⟩
  · obtain ⟨e, r, rfl⟩ : ∃ (e : Fin 64) (r : Fin 256), x = ix2 e r := ⟨x 0, x 1, Shape.idx_ext₂ rfl rfl⟩
    refine (pay2_apply _ _ e r).trans ?_
    refine Eq.trans ?_ (congrArg (scoreBlock i x0 x1 x2 x3 x4 x5 x6 x7 x8 x9) (emb_eq 0 256 (by omega) (by omega) inb_S64x512_S64x256_0_256 e r)).symm
    show _ = tileScore i x0 x1 x2 x3 x4 x5 x6 x7 x8 x9 ⟨0 + e.val, by omega⟩ ⟨256 + r.val, by omega⟩
    unfold tileScore
    refine Finset.sum_congr rfl fun k _ => ?_
    rw [half_token i x0 x1 x2 x3 x4 x5 x6 x7 x8 256 (by omega) inb_S512x1024_S256x1024_256_0 inb_S512x512_S256x512_256_0 inb_S512x2048_S256x2048_256_0 r k]
    exact congrArg (fun n => @HMul.hMul EReal EReal EReal _ (x9 (ix2 n k)) _) (Fin.ext (show e.val = 0 + e.val by omega))
  · obtain ⟨e, r, rfl⟩ : ∃ (e : Fin 64) (r : Fin 256), x = ix2 e r := ⟨x 0, x 1, Shape.idx_ext₂ rfl rfl⟩
    refine (pay2_apply _ _ e r).trans ?_
    refine Eq.trans ?_ (congrArg (scoreBlock i x0 x1 x2 x3 x4 x5 x6 x7 x8 x9) (emb_eq 0 0 (by omega) (by omega) inb_S64x512_S64x256_0_0 e r)).symm
    show _ = tileScore i x0 x1 x2 x3 x4 x5 x6 x7 x8 x9 ⟨0 + e.val, by omega⟩ ⟨0 + r.val, by omega⟩
    unfold tileScore
    refine Finset.sum_congr rfl fun k _ => ?_
    rw [half_token i x0 x1 x2 x3 x4 x5 x6 x7 x8 0 (by omega) inb_S512x1024_S256x1024_0_0 inb_S512x512_S256x512_0_0 inb_S512x2048_S256x2048_0_0 r k]
    exact congrArg (fun n => @HMul.hMul EReal EReal EReal _ (x9 (ix2 n k)) _) (Fin.ext (show e.val = 0 + e.val by omega))

end Cert.Kernel4Ideal.Out

end
-- ==== Proof.OutArray.lean ====
/-
  THE THREE RESULT ARRAYS OF THE OUTPUT PROJECTION'S KERNEL, over the extended reals: `Cert.OutProjection`'s functions of its arguments.
-/
module

public import proofs.«01_k».proof.Proof.OutBlock
public import proofs.«01_k».proof.Proof.Gen.Kernel4Ideal.Value
public import Idealize.ShloMosaic.Lib.Pipeline.Covers

@[expose] public section

set_option maxRecDepth 16384

noncomputable section

open Idealize.ShloMosaic Idealize.ShloMosaic.TcCoe Idealize.SL.Sem

namespace Cert.Kernel4Ideal.Out
open Cert.Kernel4Ideal Cert.Kernel4Ideal.Gen Cert.Projections Cert.OutProjection

/-! ## The blocks in the arrays: tile `t` is rows `512 t` on -/

variable (m : (ℓ : Loc nD τ sig) → Buf (Elt Ideal) ℓ) (c : Dev nD)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![min t.val 31, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val / 16, 0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![t.val, 0] := (by decide +kernel : ∀ t : Fin grid0.N, _)
theorem i11 : ∀ t : Fin cfg0.N, win0_11.index t = ![t.val, 0] := (by decide +kernel : ∀ t : Fin grid0.N, _)
theorem i12 : ∀ t : Fin cfg0.N, win0_12.index t = ![0, t.val] := (by decide +kernel : ∀ t : Fin grid0.N, _)

/-- The grid's one coordinate is the tile. -/
theorem coord : ∀ t : Fin cfg0.N, (grid0.coords t 0).val = t.val := (by decide +kernel : ∀ t : Fin grid0.N, _)

theorem b0 (t : Fin cfg0.N) (r : Fin 512) (k : Fin 512) (R : Fin 16896) (hR : R.val = t.val * 512 + r.val) :
    iblk m c 0 t (ix2 r k) = m ((c : Thread nD τ).loc main_arg0) (ix2 R k) := by
  rw [show R = ⟨t.val * 512 + r.val, hR ▸ R.isLt⟩ from Fin.ext hR]
  blk_ext [iblk, V, i0 t]

theorem b1 (t : Fin cfg0.N) (r : Fin 512) (k : Fin 512) (R : Fin 16896) (hR : R.val = t.val * 512 + r.val) :
    iblk m c 1 t (ix2 r k) = m ((c : Thread nD τ).loc main_arg1) (ix2 R k) := by
  rw [show R = ⟨t.val * 512 + r.val, hR ▸ R.isLt⟩ from Fin.ext hR]
  blk_ext [iblk, V, i1 t]

theorem b4 (t : Fin cfg0.N) (r : Fin 512) (k : Fin 2048) (R : Fin 16896) (hR : R.val = t.val * 512 + r.val) :
    iblk m c 4 t (ix2 r k) = m ((c : Thread nD τ).loc main_arg4) (ix2 R k) := by
  rw [show R = ⟨t.val * 512 + r.val, hR ▸ R.isLt⟩ from Fin.ext hR]
  blk_ext [iblk, V, i4 t]

theorem b2 (t : Fin cfg0.N) (r : Fin 512) (k : Fin 1024) (R : Fin 16384) (hR : R.val = min t.val 31 * 512 + r.val) :
    iblk m c 2 t (ix2 r k) = m ((c : Thread nD τ).loc main_arg2) (ix2 R k) := by
  rw [show R = ⟨min t.val 31 * 512 + r.val, hR ▸ R.isLt⟩ from Fin.ext hR]
  blk_ext [iblk, V, i2 t]

theorem b3 (t : Fin cfg0.N) (r : Fin 512) (k : Fin 1024) : iblk m c 3 t (ix2 r k) = m ((c : Thread nD τ).loc main_arg3) (ix2 r k) := by
  blk_ext [iblk, V, i3 t]

theorem b5 (t : Fin cfg0.N) (a : Fin 6) (k : Fin 2048) (G : Fin 3) (hG : G.val = t.val / 16) :
    iblk m c 5 t (ix3 (0 : Fin 1) a k) = m ((c : Thread nD τ).loc main_arg5) (ix3 G a k) := by
  rw [show G = ⟨t.val / 16, hG ▸ G.isLt⟩ from Fin.ext hG]
  blk_ext [iblk, V, i5 t]

theorem b6 (t : Fin cfg0.N) (r : Fin 2048) (k : Fin 2048) : iblk m c 6 t (ix2 r k) = m ((c : Thread nD τ).loc main_arg6) (ix2 r k) := by
  blk_ext [iblk, V, i6 t]
theorem b7 (t : Fin cfg0.N) (k : Fin 2048) : iblk m c 7 t (ix2 (0 : Fin 1) k) = m ((c : Thread nD τ).loc main_arg7) (ix2 (0 : Fin 1) k) := by
  blk_ext [iblk, V, i7 t]
theorem b8 (t : Fin cfg0.N) (k : Fin 2048) : iblk m c 8 t (ix2 (0 : Fin 1) k) = m ((c : Thread nD τ).loc main_arg8) (ix2 (0 : Fin 1) k) := by
  blk_ext [iblk, V, i8 t]
theorem b9 (t : Fin cfg0.N) (r : Fin 64) (k : Fin 2048) : iblk m c 9 t (ix2 r k) = m ((c : Thread nD τ).loc main_arg9) (ix2 r k) := by
  blk_ext [iblk, V, i9 t]

/-- A tile's attention row is the array's. -/
theorem attended_block (t : Fin cfg0.N) (r : Fin 512) (R : Fin 16896) (hR : R.val = t.val * 512 + r.val) :
    rowOf (n := 512) (p := 1024) (if 32 ≤ (grid0.coords t 0).val then iblk m c 3 t else iblk m c 2 t) r
      = attended (m ((c : Thread nD τ).loc main_arg2)) (m ((c : Thread nD τ).loc main_arg3)) R := by
  have ht : t.val < 33 := t.isLt
  have hr := r.isLt
  funext k
  unfold attended
  rw [coord t]
  by_cases h : 32 ≤ t.val
  · rw [if_pos h, dif_neg (show ¬ R.val < 16384 by omega)]
    have e : (⟨R.val - 16384, by omega⟩ : Fin 512) = r := Fin.ext (show R.val - 16384 = r.val by omega)
    rw [e]
    exact b3 m c t r k
  · rw [if_neg h, dif_pos (show R.val < 16384 by omega)]
    exact b2 m c t r k _ (show R.val = min t.val 31 * 512 + r.val by omega)

/-- A vector of a tile's modulation is the array's. -/
theorem mod_block (t : Fin cfg0.N) (a : Fin 6) (r : Fin 512) (R : Fin 16896) (hR : R.val = t.val * 512 + r.val) :
    (fun k => iblk m c 5 t (ix3 (0 : Fin 1) a k)) = modOf (m ((c : Thread nD τ).loc main_arg5)) a R :=
  funext fun k => b5 m c t a k _ (show R.val / 8192 = t.val / 16 by have := r.isLt; omega)

/-- A tile's normalized row is the array's. -/
theorem row_block (t : Fin cfg0.N) (r : Fin 512) (R : Fin 16896) (hR : R.val = t.val * 512 + r.val) :
    tileRow (grid0.coords t) (iblk m c 0 t) (iblk m c 1 t) (iblk m c 2 t) (iblk m c 3 t) (iblk m c 4 t) (iblk m c 5 t) (iblk m c 6 t) (iblk m c 7 t) (iblk m c 8 t) r
      = outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R := by
  have e0 : rowOf (n := 512) (p := 512) (iblk m c 0 t) r = rowOf (m ((c : Thread nD τ).loc main_arg0)) R := funext fun k => b0 m c t r k R hR
  have e1 : rowOf (n := 512) (p := 512) (iblk m c 1 t) r = rowOf (m ((c : Thread nD τ).loc main_arg1)) R := funext fun k => b1 m c t r k R hR
  have e4 : rowOf (n := 512) (p := 2048) (iblk m c 4 t) r = rowOf (m ((c : Thread nD τ).loc main_arg4)) R := funext fun k => b4 m c t r k R hR
  have e6 : rowOf (n := 2048) (p := 2048) (iblk m c 6 t) = rowOf (m ((c : Thread nD τ).loc main_arg6)) := funext fun a => funext fun k => b6 m c t a k
  have e7 : rowOf (n := 1) (p := 2048) (iblk m c 7 t) 0 = rowOf (m ((c : Thread nD τ).loc main_arg7)) 0 := funext fun k => b7 m c t k
  have e8 : rowOf (n := 1) (p := 2048) (iblk m c 8 t) 0 = rowOf (m ((c : Thread nD τ).loc main_arg8)) 0 := funext fun k => b8 m c t k
  unfold tileRow outRow
  rw [e0, e1, e4, e6, e7, e8, attended_block m c t r R hR, mod_block m c t 2 r R hR]

/-- A tile's modulated row is the array's. -/
theorem token_block (t : Fin cfg0.N) (r : Fin 512) (R : Fin 16896) (hR : R.val = t.val * 512 + r.val) :
    tileToken (grid0.coords t) (iblk m c 0 t) (iblk m c 1 t) (iblk m c 2 t) (iblk m c 3 t) (iblk m c 4 t) (iblk m c 5 t) (iblk m c 6 t) (iblk m c 7 t) (iblk m c 8 t) r
      = tokenRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R := by
  unfold tileToken tokenRow
  rw [row_block m c t r R hR, mod_block m c t 3 r R hR, mod_block m c t 4 r R hR]

/-- The array of the normalized rows. -/
theorem array10 : (dats m 0 c).arrAt 10 cfg0.N = rowArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  have ht : t.val < 33 := t.isLt
  blk_simp
  rw [after0_10]
  obtain ⟨r, hr⟩ : ∃ r : Fin 512, r = y 0 := ⟨_, rfl⟩
  obtain ⟨d, hd⟩ : ∃ d : Fin 2048, d = y 1 := ⟨_, rfl⟩
  have hy : y = ix2 r d := by rw [hr, hd]; exact Shape.idx_ext₂ rfl rfl
  have hr' := r.isLt
  have hd' := d.isLt
  rw [hy, out10]
  have h : tileRow (grid0.coords t) (iblk m c 0 t) (iblk m c 1 t) (iblk m c 2 t) (iblk m c 3 t) (iblk m c 4 t) (iblk m c 5 t) (iblk m c 6 t) (iblk m c 7 t) (iblk m c 8 t) r d
      = rowArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (⟨t.val * 512 + r.val, by omega⟩ : Fin 16896) d) := by
    rw [row_block m c t r ⟨t.val * 512 + r.val, by omega⟩ rfl]
    rfl
  refine h.trans (congrArg _ ?_)
  blk_ext [i10 t]

/-- The array of the modulated rows, laid out. -/
theorem array11 : (dats m 0 c).arrAt 11 cfg0.N = tokenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  have ht : t.val < 33 := t.isLt
  blk_simp
  rw [after0_11]
  obtain ⟨r, hr⟩ : ∃ r : Fin 1024, r = y 0 := ⟨_, rfl⟩
  obtain ⟨d, hd⟩ : ∃ d : Fin 1024, d = y 1 := ⟨_, rfl⟩
  have hy : y = ix2 r d := by rw [hr, hd]; exact Shape.idx_ext₂ rfl rfl
  have hr' := r.isLt
  have hd' := d.isLt
  rw [hy, out11]
  have h : laidOut (grid0.coords t) (iblk m c 0 t) (iblk m c 1 t) (iblk m c 2 t) (iblk m c 3 t) (iblk m c 4 t) (iblk m c 5 t) (iblk m c 6 t) (iblk m c 7 t) (iblk m c 8 t) r d
      = tokenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (⟨t.val * 1024 + r.val, by omega⟩ : Fin 33792) d) := by
    unfold laidOut
    rw [token_block m c t ⟨r.val / 2, by omega⟩ ⟨(t.val * 1024 + r.val) / 2, by omega⟩ (show (t.val * 1024 + r.val) / 2 = t.val * 512 + r.val / 2 by omega)]
    exact congrArg (tokenRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨(t.val * 1024 + r.val) / 2, by omega⟩) (Fin.ext (show r.val % 2 * 1024 + d.val = (t.val * 1024 + r.val) % 2 * 1024 + d.val by omega))
  refine h.trans (congrArg _ ?_)
  blk_ext [i11 t]

/-- The array of the router's scores. -/
theorem array12 : (dats m 0 c).arrAt 12 cfg0.N = scoreArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  have ht : t.val < 33 := t.isLt
  blk_simp
  rw [after0_12]
  obtain ⟨e, hr⟩ : ∃ e : Fin 64, e = y 0 := ⟨_, rfl⟩
  obtain ⟨d, hd⟩ : ∃ d : Fin 512, d = y 1 := ⟨_, rfl⟩
  have hy : y = ix2 e d := by rw [hr, hd]; exact Shape.idx_ext₂ rfl rfl
  have hr' := e.isLt
  have hd' := d.isLt
  rw [hy, out12]
  have h : tileScore (grid0.coords t) (iblk m c 0 t) (iblk m c 1 t) (iblk m c 2 t) (iblk m c 3 t) (iblk m c 4 t) (iblk m c 5 t) (iblk m c 6 t) (iblk m c 7 t) (iblk m c 8 t) (iblk m c 9 t) e d
      = scoreArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 e (⟨t.val * 512 + d.val, by omega⟩ : Fin 16896)) := by
    unfold tileScore
    rw [token_block m c t d ⟨t.val * 512 + d.val, by omega⟩ rfl]
    exact Finset.sum_congr rfl fun l _ => by rw [b9]; rfl
  refine h.trans (congrArg _ ?_)
  blk_ext [i12 t]

end Cert.Kernel4Ideal.Out

end
-- ==== Proof.OutRef.lean ====
/-
  THE THREE RESULTS OF THE OUTPUT PROJECTION'S REFERENCE, over the extended reals: `Cert.OutProjection`'s functions of its arguments.
-/
module

public import proofs.«01_k».proof.Proof.OutSpec
public import proofs.«01_k».proof.Proof.Gen.Reference4Ideal.Run
public import Idealize.ShloMosaic.Lib.Pointwise

@[expose] public section

noncomputable section

open Idealize.ShloMosaic Idealize.ShloMosaic.TcCoe Idealize.SL.Sem

namespace Cert.Reference4Ideal.Out
open Cert.Reference4Ideal Cert.Reference4Ideal.Gen Cert.Projections Cert.OutProjection

variable {F : FTy → Type} [FloatOps F]

/-! ## The stages of the program -/

/-- A group's vector for each row: 8192 rows of each batch entry, then the context's. -/
def perRow (v : FVec F S3x2048 .f32) : FVec F S16896x2048 .f32 :=
  concatenate S16896x2048 0 [⟨S16384x2048, (shapeCast _ (broadcastInDim S2x8192x2048 ![0, 1, 2] bcast_S2x1x2048_S2x8192x2048_0_1_2
      (broadcastInDim S2x1x2048 ![0, 2] bcast_S2x2048_S2x1x2048_0_2 (extractStridedSlice S2x2048 ![0, 0] v slices_S3x2048_S2x2048_0_0))) shapeCasts_S2x8192x2048_S16384x2048)⟩,
    ⟨S512x2048, (broadcastInDim S512x2048 ![0, 1] bcast_S1x2048_S512x2048_0_1 (extractStridedSlice S1x2048 ![2, 0] v slices_S3x2048_S1x2048_2_0))⟩]
    concatenates_S16384x2048_S512x2048_S16896x2048_d0

/-- The groups' gates, shifts and scales. -/
def gates (m : FVec F S3x6x2048 .f32) : FVec F S3x2048 .f32 :=
  shapeCast _ (extractStridedSlice S3x1x2048 ![0, 2, 0] m slices_S3x6x2048_S3x1x2048_0_2_0) shapeCasts_S3x1x2048_S3x2048
def shifts (m : FVec F S3x6x2048 .f32) : FVec F S3x2048 .f32 :=
  shapeCast _ (extractStridedSlice S3x1x2048 ![0, 3, 0] m slices_S3x6x2048_S3x1x2048_0_3_0) shapeCasts_S3x1x2048_S3x2048
def scales (m : FVec F S3x6x2048 .f32) : FVec F S3x2048 .f32 :=
  shapeCast _ (extractStridedSlice S3x1x2048 ![0, 4, 0] m slices_S3x6x2048_S3x1x2048_0_4_0) shapeCasts_S3x1x2048_S3x2048

/-- The attention's rows, the latent ones first. -/
def attention (a : FVec F S16384x1024 .bf16) (c : FVec F S512x1024 .bf16) : FVec F S16896x1024 .bf16 :=
  concatenate S16896x1024 0 [⟨S16384x1024, a⟩, ⟨S512x1024, c⟩] concatenates_S16384x1024_S512x1024_S16896x1024_d0

/-- The three head groups side by side. -/
def together (g s : FVec F S16896x512 .bf16) (a : FVec F S16896x1024 .bf16) : FVec F S16896x2048 .bf16 :=
  concatenate S16896x2048 1 [⟨S16896x512, g⟩, ⟨S16896x512, s⟩, ⟨S16896x1024, a⟩] concatenates_S16896x512_S16896x512_S16896x1024_S16896x2048_d1

/-- Through the output weights. -/
def through (u : FVec F S16896x2048 .bf16) (w : FVec F S2048x2048 .bf16) : FVec F S16896x2048 .f32 :=
  Host.dotGeneral dot_S16896x2048_S2048x2048_S16896x2048_1_0_0_1_n_n none (extf .f32 u bitsLt_bf16_f32) (extf .f32 w bitsLt_bf16_f32)

/-- The residual rows scaled up, plus the gated branch. -/
def summed (x s y : FVec F S16896x2048 .f32) : FVec F S16896x2048 .f32 :=
  addf (mulf (broadcastInDim S16896x2048 ![] bcast_S_S16896x2048 (constant S_ .f32 0x3FB504F3#32)) x) (mulf s y)

/-- The rows' means. -/
def means (v : FVec F S16896x2048 .f32) : FVec F S16896x1 .f32 :=
  Host.divf (broadcastInDim S16896x1 ![0] bcast_S16896_S16896x1_0 (Host.reduceAdd v (constant S_ .f32 0x00000000#32) reducesTo_S16896x2048_S16896_d1 h_S_)) (broadcastInDim S16896x1 ![] bcast_S_S16896x1 (constant S_ .f32 0x45000000#32))

/-- The rows less their means. -/
def lessMean (v : FVec F S16896x2048 .f32) : FVec F S16896x2048 .f32 :=
  subf v (broadcastInDim S16896x2048 ![0, 1] bcast_S16896x1_S16896x2048_0_1 (means v))

/-- Layer normalization of the rows less their means `c`. -/
def normalized (c : FVec F S16896x2048 .f32) (g b : FVec F S1x2048 .f32) : FVec F S16896x2048 .f32 :=
  addf (mulf (mulf c (broadcastInDim S16896x2048 ![0, 1] bcast_S16896x1_S16896x2048_0_1 (Host.rsqrt (addf (means (mulf c c)) (broadcastInDim S16896x1 ![] bcast_S_S16896x1 (constant S_ .f32 0x3727C5AC#32)))))) (broadcastInDim S16896x2048 ![0, 1] bcast_S1x2048_S16896x2048_0_1 g)) (broadcastInDim S16896x2048 ![0, 1] bcast_S1x2048_S16896x2048_0_1 b)

/-- The modulated rows. -/
def modulated (x s b : FVec F S16896x2048 .f32) : FVec F S16896x2048 .f32 :=
  addf (mulf x (addf (broadcastInDim S16896x2048 ![] bcast_S_S16896x2048 (constant S_ .f32 0x3F800000#32)) s)) b

/-- The normalized residual rows. -/
def newRows (gm ss : FVec F S16896x512 .bf16) (a : FVec F S16384x1024 .bf16) (c : FVec F S512x1024 .bf16) (x : FVec F S16896x2048 .f32)
    (m : FVec F S3x6x2048 .f32) (w : FVec F S2048x2048 .bf16) (g b : FVec F S1x2048 .f32) : FVec F S16896x2048 .f32 :=
  normalized (lessMean (summed x (perRow (gates m)) (through (together gm ss (attention a c)) w))) g b

/-- The rows for the experts. -/
def tokens (gm ss : FVec F S16896x512 .bf16) (a : FVec F S16384x1024 .bf16) (c : FVec F S512x1024 .bf16) (x : FVec F S16896x2048 .f32)
    (m : FVec F S3x6x2048 .f32) (w : FVec F S2048x2048 .bf16) (g b : FVec F S1x2048 .f32) : FVec F S16896x2048 .f32 :=
  modulated (newRows gm ss a c x m w g b) (perRow (scales m)) (perRow (shifts m))

/-! ## The stages entry by entry -/

theorem perRow_apply (v : FVec Ideal S3x2048 .f32) (R : Fin 16896) (k : Fin 2048) : perRow v (ix2 R k) = v (ix2 ⟨R.val / 8192, by omega⟩ k) := by
  pointwise [perRow]
  by_cases h : R.val < 16384
  · rw [dif_pos h]
  · rw [dif_neg h]
    exact congrArg (fun n => v (ix2 n k)) (Fin.ext (by show 2 = R.val / 8192; omega))
theorem gates_apply (m : FVec Ideal S3x6x2048 .f32) (e : Fin 3) (k : Fin 2048) : gates m (ix2 e k) = m (ix3 e (2 : Fin 6) k) := by
  pointwise [gates]
theorem shifts_apply (m : FVec Ideal S3x6x2048 .f32) (e : Fin 3) (k : Fin 2048) : shifts m (ix2 e k) = m (ix3 e (3 : Fin 6) k) := by
  pointwise [shifts]
theorem scales_apply (m : FVec Ideal S3x6x2048 .f32) (e : Fin 3) (k : Fin 2048) : scales m (ix2 e k) = m (ix3 e (4 : Fin 6) k) := by
  pointwise [scales]
theorem attention_apply (a : FVec Ideal S16384x1024 .bf16) (c : FVec Ideal S512x1024 .bf16) (R : Fin 16896) (k : Fin 1024) :
    attention a c (ix2 R k) = attended a c R k := by
  pointwise [attention]
  rfl
theorem together_apply (g s : FVec Ideal S16896x512 .bf16) (a : FVec Ideal S16896x1024 .bf16) (R : Fin 16896) (k : Fin 2048) :
    together g s a (ix2 R k) = beside (rowOf g R) (rowOf s R) (rowOf a R) k := by
  unfold beside
  pointwise [together]
  by_cases h : k.val < 512
  · rw [dif_pos h, dif_pos h]
  by_cases h' : k.val < 1024
  · rw [dif_neg h, dif_neg h, dif_pos (show k.val - 512 < 512 by omega), dif_pos h']
  · rw [dif_neg h, dif_neg h, dif_neg (show ¬ k.val - 512 < 512 by omega), dif_neg h']
    exact congrArg (fun n => a (ix2 R n)) (Fin.ext (by show k.val - 512 - 512 = k.val - 1024; omega))
theorem through_apply (u : FVec Ideal S16896x2048 .bf16) (w : FVec Ideal S2048x2048 .bf16) (R : Fin 16896) (d : Fin 2048) :
    through u w (ix2 R d) = times (rowOf u R) (rowOf w) d := by
  pointwise [through]
  rfl
theorem summed_apply (x s y : FVec Ideal S16896x2048 .f32) (R : Fin 16896) (d : Fin 2048) :
    summed x s y (ix2 R d) = residual (rowOf x R) (rowOf s R) (rowOf y R) d := by
  pointwise [summed]
  rfl
theorem means_apply (v : FVec Ideal S16896x2048 .f32) (R : Fin 16896) : means v (ix2 R (0 : Fin 1)) = mean (Ideal.ofBits .f32 0x45000000#32) (rowOf v R) := by
  pointwise [means]
  rfl
theorem lessMean_apply (v : FVec Ideal S16896x2048 .f32) (R : Fin 16896) (d : Fin 2048) : lessMean v (ix2 R d) = centred (rowOf v R) d := by
  have h : lessMean v (ix2 R d) = v (ix2 R d) - means v (ix2 R (0 : Fin 1)) := by
    pointwise [lessMean]
  rw [h, means_apply]
  rfl
theorem normalized_apply (c : FVec Ideal S16896x2048 .f32) (g b : FVec Ideal S1x2048 .f32) (R : Fin 16896) (d : Fin 2048) :
    normalized c g b (ix2 R d) = c (ix2 R d) * Ideal.rsqrt (mean (Ideal.ofBits .f32 0x45000000#32) (fun e => c (ix2 R e) * c (ix2 R e)) + Ideal.ofBits .f32 0x3727C5AC#32)
      * g (ix2 (0 : Fin 1) d) + b (ix2 (0 : Fin 1) d) := by
  pointwise [normalized, means]
  rfl
theorem modulated_apply (x s b : FVec Ideal S16896x2048 .f32) (R : Fin 16896) (d : Fin 2048) :
    modulated x s b (ix2 R d) = modulate (rowOf x R) (rowOf s R) (rowOf b R) d := by
  pointwise [modulated]
  rfl

/-! ## The results -/

section
variable (gm ss : FVec Ideal S16896x512 .bf16) (a : FVec Ideal S16384x1024 .bf16) (c : FVec Ideal S512x1024 .bf16) (x : FVec Ideal S16896x2048 .f32)
  (m : FVec Ideal S3x6x2048 .f32) (w : FVec Ideal S2048x2048 .bf16) (g b : FVec Ideal S1x2048 .f32) (wr : FVec Ideal S64x2048 .f32)

/-- A vector of the modulation, for a row. -/
theorem mod_row (v : FVec Ideal S3x2048 .f32) (e : Fin 6) (h : ∀ (n : Fin 3) (k : Fin 2048), v (ix2 n k) = m (ix3 n e k)) (R : Fin 16896) :
    rowOf (perRow v) R = modOf m e R :=
  funext fun k => (perRow_apply v R k).trans (h _ k)

/-- The gated residual row before its normalization. -/
theorem summed_row (R : Fin 16896) : rowOf (summed x (perRow (gates m)) (through (together gm ss (attention a c)) w)) R
    = residual (rowOf x R) (modOf m 2 R) (times (beside (rowOf gm R) (rowOf ss R) (attended a c R)) (rowOf w)) := by
  have e1 : rowOf (attention a c) R = attended a c R := funext fun k => attention_apply a c R k
  have e2 : rowOf (together gm ss (attention a c)) R = beside (rowOf gm R) (rowOf ss R) (attended a c R) :=
    funext fun k => (together_apply gm ss _ R k).trans (by rw [e1])
  have e3 : rowOf (through (together gm ss (attention a c)) w) R = times (beside (rowOf gm R) (rowOf ss R) (attended a c R)) (rowOf w) :=
    funext fun d => (through_apply _ w R d).trans (by rw [e2])
  funext d
  refine (summed_apply x _ _ R d).trans ?_
  rw [e3, mod_row m (gates m) 2 (gates_apply m) R]

theorem newRows_apply (R : Fin 16896) (d : Fin 2048) : newRows gm ss a c x m w g b (ix2 R d) = outRow gm ss a c x m w g b R d := by
  unfold newRows
  rw [normalized_apply]
  simp only [lessMean_apply]
  rw [summed_row]
  rfl

theorem tokens_apply (R : Fin 16896) (d : Fin 2048) : tokens gm ss a c x m w g b (ix2 R d) = tokenRow gm ss a c x m w g b R d := by
  refine (modulated_apply _ _ _ R d).trans ?_
  have e : rowOf (newRows gm ss a c x m w g b) R = outRow gm ss a c x m w g b R := funext fun k => newRows_apply gm ss a c x m w g b R k
  rw [e, mod_row m (scales m) 4 (scales_apply m) R, mod_row m (shifts m) 3 (shifts_apply m) R]
  rfl

/-- The normalized rows. -/
theorem result0 : newRows gm ss a c x m w g b = rowArray gm ss a c x m w g b := by
  funext y
  obtain ⟨R, d, rfl⟩ : ∃ (R : Fin 16896) (d : Fin 2048), y = ix2 R d := ⟨y 0, y 1, Shape.idx_ext₂ rfl rfl⟩
  exact newRows_apply gm ss a c x m w g b R d

/-- The modulated rows, laid out. -/
theorem result1 : truncf .bf16 (shapeCast _ (tokens gm ss a c x m w g b) shapeCasts_S16896x2048_S33792x1024) bitsLt_bf16_f32 = tokenArray gm ss a c x m w g b := by
  funext y
  obtain ⟨R, d, rfl⟩ : ∃ (R : Fin 33792) (d : Fin 1024), y = ix2 R d := ⟨y 0, y 1, Shape.idx_ext₂ rfl rfl⟩
  have h := tokens_apply gm ss a c x m w g b ⟨R.val / 2, by omega⟩ ⟨R.val % 2 * 1024 + d.val, by omega⟩
  refine Eq.trans ?_ h
  generalize tokens gm ss a c x m w g b = v
  pointwise []

/-- The router's scores. -/
theorem result2 : Host.dotGeneral dot_S64x2048_S16896x2048_S64x16896_1_1_0_0_n_n none wr (tokens gm ss a c x m w g b) = scoreArray gm ss a c x m w g b wr := by
  funext y
  obtain ⟨e, R, rfl⟩ : ∃ (e : Fin 64) (R : Fin 16896), y = ix2 e R := ⟨y 0, y 1, Shape.idx_ext₂ rfl rfl⟩
  have h : ∀ v : FVec Ideal S16896x2048 .f32, Host.dotGeneral dot_S64x2048_S16896x2048_S64x16896_1_1_0_0_n_n none wr v (ix2 e R)
      = ∑ k : Fin 2048, wr (ix2 e k) * v (ix2 R k) := by
    intro v
    pointwise
  rw [h]
  exact Finset.sum_congr rfl fun k _ => by rw [tokens_apply]; rfl

end

end Cert.Reference4Ideal.Out

end
-- ==== Proof.ModSpec.lean ====
/-
  THE MODULATION VECTORS: each conditioning vector, through SiLU, times each layer's modulation weights, plus the layer's bias.
-/
module

public import proofs.«01_k».proof.Proof.ExpertsSpec

@[expose] public section

noncomputable section

open Idealize.ShloMosaic

namespace Cert.Modulation

/-- Entry `j` of layer `l`'s vector for the conditioning row `r`. -/
def entry (v : (⟨2, ![8, 2048]⟩ : Shape).Idx → EReal) (w : (⟨3, ![2, 2048, 12288]⟩ : Shape).Idx → EReal) (b : (⟨2, ![2, 12288]⟩ : Shape).Idx → EReal)
    (l : Fin 2) (r : Fin 8) (j : Fin 12288) : EReal :=
  (∑ k : Fin 2048, Cert.Experts.silu (v (ix2 r k)) * w (ix3 l k j)) + b (ix2 l j)

/-- The array of the vectors. -/
def vectors (v : (⟨2, ![8, 2048]⟩ : Shape).Idx → EReal) (w : (⟨3, ![2, 2048, 12288]⟩ : Shape).Idx → EReal) (b : (⟨2, ![2, 12288]⟩ : Shape).Idx → EReal) :
    (⟨3, ![2, 8, 12288]⟩ : Shape).Idx → EReal := fun y => entry v w b (y 0) (y 1) (y 2)

end Cert.Modulation

end
-- ==== Proof.ModArray.lean ====
/-
  THE RESULT ARRAY OF THE MODULATION'S KERNEL, over the extended reals: `Cert.Modulation`'s vectors of its arguments.
-/
module

public import proofs.«01_k».proof.Proof.ModSpec
public import proofs.«01_k».proof.Proof.Gen.Kernel5Ideal.Value
public import Idealize.ShloMosaic.Lib.Pointwise
public import Idealize.ShloMosaic.Lib.Pipeline.ValueKit
public import Idealize.ShloMosaic.Lib.Pipeline.Covers
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.Kernel5Ideal.Modulation
open Cert.Kernel5Ideal Cert.Kernel5Ideal.Gen

/-! ## One block: 1536 columns of one layer's vectors -/

theorem pay1_apply (v : Vec Ideal S8x2048 .f32) (w : Vec Ideal S1x2048x1536 .f32) (b : Vec Ideal S1x1x1536 .f32) (r : Fin 8) (j : Fin 1536) :
    k0_pay1 (F := Ideal) v w b (ix3 (0 : Fin 1) r j) = (∑ k : Fin 2048, @HMul.hMul EReal EReal EReal _ (Cert.Experts.silu (v (ix2 r k))) (w (ix3 (0 : Fin 1) k j)))
      + b (ix3 (0 : Fin 1) (0 : Fin 1) j) := by
  pointwise [k0_pay1]
  rfl

theorem hz : (![0, 0] : Fin 2 → Nat) = fun _ => 0 := funext fun a => by fin_cases a <;> rfl
theorem hz3 : (![0, 0, 0] : Fin 3 → Nat) = fun _ => 0 := funext fun a => by fin_cases a <;> rfl

theorem out3 (v : Vec Ideal S8x2048 .f32) (w : Vec Ideal S1x2048x1536 .f32) (b : Vec Ideal S1x1x1536 .f32) (r : Fin 8) (j : Fin 1536) :
    out0_3 (F := Ideal) v w b (ix3 (0 : Fin 1) r j) = (∑ k : Fin 2048, @HMul.hMul EReal EReal EReal _ (Cert.Experts.silu (v (ix2 r k))) (w (ix3 (0 : Fin 1) k j)))
      + b (ix3 (0 : Fin 1) (0 : Fin 1) j) := by
  unfold out0_3
  rw [View.canon_unit_zero hz3, View.ld_unit_zero (S := S8x2048) hz, View.ld_unit_zero (S := S1x2048x1536) hz3, View.ld_unit_zero (S := S1x1x1536) hz3,
    pay1_apply]

/-! ## The blocks in the arrays: point `t` is layer `t / 8`, columns `1536 (t % 8)` on -/

variable (m : (ℓ : Loc nD τ sig) → Buf (Elt Ideal) ℓ) (c : Dev nD)

theorem i0 : ∀ t : Fin cfg0.N, win0_0.index t = ![0, 0] := (by decide +kernel : ∀ t : Fin grid0.N, _)
theorem i1 : ∀ t : Fin cfg0.N, win0_1.index t = ![t.val / 8, 0, t.val % 8] := (by decide +kernel : ∀ t : Fin grid0.N, _)
theorem i2 : ∀ t : Fin cfg0.N, win0_2.index t = ![t.val / 8, 0, t.val % 8] := (by decide +kernel : ∀ t : Fin grid0.N, _)
theorem i3 : ∀ t : Fin cfg0.N, win0_3.index t = ![t.val / 8, 0, t.val % 8] := (by decide +kernel : ∀ t : Fin grid0.N, _)

/-- The bias as the call takes it. -/
theorem bias (l : Fin 2) (j : Fin 12288) : (show Vec Ideal S2x1x12288 .f32 from V m c main_v0) (ix3 l (0 : Fin 1) j) = m ((c : Thread nD τ).loc main_arg2) (ix2 l j) := by
  have h : V m c main_v0 = shapeCast (s := S2x12288) S2x1x12288 (m ((c : Thread nD τ).loc main_arg2)) shapeCasts_S2x12288_S2x1x12288 := by
    unfold_abbrev_sides
    after_results
    rfl
  rw [h]
  generalize (m ((c : Thread nD τ).loc main_arg2)) = b
  pointwise []

theorem b0 (t : Fin cfg0.N) (r : Fin 8) (k : Fin 2048) : iblk m c 0 t (ix2 r k) = m ((c : Thread nD τ).loc main_arg0) (ix2 r k) := by
  rw [← V_main_arg0 m c]
  blk_ext [iblk, i0 t]

theorem b1 (t : Fin cfg0.N) (k : Fin 2048) (j : Fin 1536) (l : Fin 2) (n : Fin 12288) (hl : l.val = t.val / 8) (hn : n.val = t.val % 8 * 1536 + j.val) :
    iblk m c 1 t (ix3 (0 : Fin 1) k j) = m ((c : Thread nD τ).loc main_arg1) (ix3 l k n) := by
  rw [show l = ⟨t.val / 8, hl ▸ l.isLt⟩ from Fin.ext hl, show n = ⟨t.val % 8 * 1536 + j.val, hn ▸ n.isLt⟩ from Fin.ext hn, ← V_main_arg1 m c]
  blk_ext [iblk, i1 t]

theorem b2 (t : Fin cfg0.N) (j : Fin 1536) (l : Fin 2) (n : Fin 12288) (hl : l.val = t.val / 8) (hn : n.val = t.val % 8 * 1536 + j.val) :
    iblk m c 2 t (ix3 (0 : Fin 1) (0 : Fin 1) j) = m ((c : Thread nD τ).loc main_arg2) (ix2 l n) := by
  refine Eq.trans ?_ (bias m c l n)
  rw [show l = ⟨t.val / 8, hl ▸ l.isLt⟩ from Fin.ext hl, show n = ⟨t.val % 8 * 1536 + j.val, hn ▸ n.isLt⟩ from Fin.ext hn]
  blk_ext [iblk, i2 t]

/-- The array of the vectors. -/
theorem array3 : (dats m 0 c).arrAt 3 cfg0.N
    = Cert.Modulation.vectors (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := t.isLt
  blk_simp
  rw [after0_3]
  obtain ⟨r, hr⟩ : ∃ r : Fin 8, r = y 1 := ⟨_, rfl⟩
  obtain ⟨j, hj⟩ : ∃ j : Fin 1536, j = y 2 := ⟨_, rfl⟩
  have hy : y = ix3 (0 : Fin 1) r j := by
    rw [hr, hj]
    funext a
    fin_cases a
    · exact Subsingleton.elim (α := Fin 1) _ _
    · rfl
    · rfl
  have hr' := r.isLt
  have hj' := j.isLt
  rw [hy, out3]
  have h : (∑ k : Fin 2048, @HMul.hMul EReal EReal EReal _ (Cert.Experts.silu (iblk m c 0 t (ix2 r k))) (iblk m c 1 t (ix3 (0 : Fin 1) k j)))
      + iblk m c 2 t (ix3 (0 : Fin 1) (0 : Fin 1) j)
      = Cert.Modulation.vectors (m ((c : Thread nD τ).loc main_arg0)) (m ((c : Thread nD τ).loc main_arg1)) (m ((c : Thread nD τ).loc main_arg2))
        (ix3 (⟨t.val / 8, by omega⟩ : Fin 2) r (⟨t.val % 8 * 1536 + j.val, by omega⟩ : Fin 12288)) := by
    refine congrArg₂ (@HAdd.hAdd EReal EReal EReal _) (Finset.sum_congr rfl fun k _ => ?_) (b2 m c t j _ _ rfl rfl)
    exact congrArg₂ (fun a b : EReal => Cert.Experts.silu a * b) (b0 m c t r k) (b1 m c t k j _ _ rfl rfl)
  refine h.trans (congrArg _ ?_)
  blk_ext [i3 t]

end Cert.Kernel5Ideal.Modulation

end
-- ==== Proof.ModRef.lean ====
/-
  THE RESULT OF THE MODULATION'S REFERENCE, over the extended reals: `Cert.Modulation`'s vectors of its arguments.
-/
module

public import proofs.«01_k».proof.Proof.ModSpec
public import proofs.«01_k».proof.Proof.Gen.Reference5Ideal.Run
public import Idealize.ShloMosaic.Lib.Pointwise

@[expose] public section

noncomputable section

open Idealize.ShloMosaic Idealize.ShloMosaic.TcCoe Idealize.SL.Sem

namespace Cert.Reference5Ideal.Modulation
open Cert.Reference5Ideal Cert.Reference5Ideal.Gen

variable {F : FTy → Type} [FloatOps F]

/-- The conditioning vectors through SiLU. -/
def activated (v : FVec F S8x2048 .f32) : FVec F S8x2048 .f32 :=
  mulf v (Host.divf (broadcastInDim S8x2048 ![] bcast_S_S8x2048 (constant S_ .f32 0x3F800000#32)) (addf (broadcastInDim S8x2048 ![] bcast_S_S8x2048 (constant S_ .f32 0x3F800000#32)) (Host.exp (Host.negf v))))

/-- Times each layer's weights, plus its bias. -/
def projected (u : FVec F S8x2048 .f32) (w : FVec F S2x2048x12288 .f32) (b : FVec F S2x12288 .f32) : FVec F S2x8x12288 .f32 :=
  addf (transpose S2x8x12288 [0, 2, 1] (Host.dotGeneral dot_S2x2048x12288_S8x2048_S2x12288x8_1_1_02_0_n_n none w u) transposes_S2x12288x8_S2x8x12288_0_2_1) (broadcastInDim S2x8x12288 ![0, 1, 2] bcast_S2x1x12288_S2x8x12288_0_1_2 (broadcastInDim S2x1x12288 ![0, 2] bcast_S2x12288_S2x1x12288_0_2 b))

theorem activated_apply (v : FVec Ideal S8x2048 .f32) (r : Fin 8) (k : Fin 2048) : activated v (ix2 r k) = Cert.Experts.silu (v (ix2 r k)) := by
  pointwise [activated]
  rfl

theorem projected_apply (u : FVec Ideal S8x2048 .f32) (w : FVec Ideal S2x2048x12288 .f32) (b : FVec Ideal S2x12288 .f32) (l : Fin 2) (r : Fin 8) (j : Fin 12288) :
    projected u w b (ix3 l r j) = (∑ k : Fin 2048, w (ix3 l k j) * u (ix2 r k)) + b (ix2 l j) := by
  pointwise [projected]

/-- The vectors. -/
theorem result (v : FVec Ideal S8x2048 .f32) (w : FVec Ideal S2x2048x12288 .f32) (b : FVec Ideal S2x12288 .f32) :
    projected (activated v) w b = Cert.Modulation.vectors v w b := by
  funext y
  obtain ⟨l, r, j, rfl⟩ : ∃ (l : Fin 2) (r : Fin 8) (j : Fin 12288), y = ix3 l r j := ⟨y 0, y 1, y 2, funext fun a => by fin_cases a <;> rfl⟩
  rw [projected_apply]
  exact congrArg (· + b (ix2 l j)) (Finset.sum_congr rfl fun k _ => by rw [activated_apply]; exact mul_comm _ _)

end Cert.Reference5Ideal.Modulation

end
-- ==== Proof.ContextSpec.lean ====
/-
  THE FUNCTION BOTH PROGRAMS OF THE CONTEXT'S ATTENTION COMPUTE. `contextAttention q k vt` is, at row `R` and column `C` of the
  result, the average of the values of row `R`'s batch entry (its 256 context keys, 256 context rows) in column `C`, weighted by
  `2^score / ∑ 2^score`. The context's queries are the rows from 16384 on; its keys and values stand first in each batch
  entry's 8448.
-/
module

public import proofs.«01_k».proof.Proof.Spec

@[expose] public section

noncomputable section

open Idealize.ShloMosaic

namespace Cert.ContextAttention
open Cert.Attention

/-- The result's shape. -/
abbrev SC : Shape := ⟨2, ![512, 1024]⟩

variable (q k : SQ.Idx → EReal) (vt : SV.Idx → EReal)

/-- The score of the context's key `κ` for its row `R` under head `h`. -/
def score (R h κ : ℕ) : ℝ :=
  ∑ e : Fin 256, (k (ix2 (row (R / 256 * 8448 + κ)) (col (h * 256 + e)))).toReal * (q (ix2 (row (16384 + R)) (col (h * 256 + e)))).toReal

/-- The value of the context's key `κ` in row `R`'s batch entry, column `C`. -/
def value (R C κ : ℕ) : EReal := vt (ix2 (vcol C) (row (R / 256 * 8448 + κ)))

/-- The context's queries are reals. -/
def FiniteQueries : Prop := ∀ R < 512, ∀ e : Fin 2048, ((q (ix2 (row (16384 + R)) e)).toReal : EReal) = q (ix2 (row (16384 + R)) e)

/-- The context's keys are reals. -/
def FiniteKeys : Prop :=
  ∀ b < 2, ∀ κ < 256, ∀ e : Fin 2048, ((k (ix2 (row (b * 8448 + κ)) e)).toReal : EReal) = k (ix2 (row (b * 8448 + κ)) e)

/-- The context's attention: the weighted average of the values. -/
def contextAttention : SC.Idx → EReal := fun i =>
  ∑ κ ∈ Finset.range 256, value vt (i 0) (i 1) κ * ((Online.weight (score q k (i 0) ((i 1 : ℕ) / 128)) 256 κ : ℝ) : EReal)

/-- On finite queries and keys the score is the sum of the products as the programs form it. -/
theorem score_coe (hq : FiniteQueries q) (hk : FiniteKeys k) (R h κ : ℕ) (hR : R < 512) (hκ : κ < 256) :
    (score q k R h κ : EReal)
      = ∑ e : Fin 256, k (ix2 (row (R / 256 * 8448 + κ)) (col (h * 256 + e))) * q (ix2 (row (16384 + R)) (col (h * 256 + e))) := by
  rw [score, Online.coe_sum]
  exact Finset.sum_congr rfl fun e _ => by rw [EReal.coe_mul, hq R hR, hk _ (by omega) κ hκ]

end Cert.ContextAttention

end
-- ==== Proof.ContextArray.lean ====
/-
  THE CONTEXT'S ATTENTION KERNEL'S RESULT ARRAY, over the extended reals: it is `Cert.ContextAttention.contextAttention` of its
  arguments when the context's queries and keys are finite. The body runs over one tile of 256 keys, so the running values
  take one step from their start (Proof/Online.lean).
-/
module

public import proofs.«01_k».proof.Proof.ContextSpec
public import proofs.«01_k».proof.Proof.Gen.Kernel6Ideal.Value
public import Idealize.ShloMosaic.Lib.Pointwise
public import Idealize.ShloMosaic.Lib.Pipeline.ValueKit
public import Idealize.ShloMosaic.Lib.Tactic

@[expose] public section

noncomputable section

open Idealize.ShloMosaic Idealize.ShloMosaic.TcCoe Idealize.SL.Sem

namespace Cert.Kernel6Ideal.Context
open Cert.Kernel6Ideal Cert.Kernel6Ideal.Gen Cert.Online Cert.ContextAttention
open Cert.Attention (row col vcol)

variable {F : FTy → Type} [FloatOps F]

/-- The scores: keys by queries. -/
def scores (q k : Vec F S256x256 .bf16) : FVec F S256x256 .f32 :=
  matmul dot_S256x256_S256x256_S256x256_1_1_0_0_n_n none k q (constant S256x256 .f32 0x00000000#32)

/-- Minus infinity and zero, a query each. -/
def start (w : BitVec 32) : FVec F S1x256 .f32 := broadcast S1x256 (Scalar.ofBits .f32 w)

/-- The queries' maxima. -/
def largest (q k : Vec F S256x256 .bf16) : FVec F S1x256 .f32 :=
  maximumf (start 0xFF800000#32) (shapeCast S1x256 (multiReduction .maximumf [0] S256 (scores q k) 0xFF800000#32 reduces_S256x256_S256 (.inl rfl) rfl) shapeCasts_S256_S1x256)

/-- The factor of what came before the tile, which is nothing. -/
def rescale (q k : Vec F S256x256 .bf16) : FVec F S1x256 .f32 := exp2 (subf (start 0xFF800000#32) (largest q k))

/-- The powers of two. -/
def powers (q k : Vec F S256x256 .bf16) : FVec F S256x256 .f32 :=
  exp2 (subf (scores q k) (broadcastTo S256x256 (largest q k) broadcasts_S1x256_S256x256))

/-- The sum of the powers. -/
def total (q k : Vec F S256x256 .bf16) : FVec F S1x256 .f32 :=
  addf (mulf (rescale q k) (start 0x00000000#32))
    (shapeCast S1x256 (multiReduction .add [0] S256 (powers q k) 0x00000000#32 reduces_S256x256_S256 (.inl rfl) rfl) shapeCasts_S256_S1x256)

/-- The sum of the values weighted by the powers. -/
def weighted (q k : Vec F S256x256 .bf16) (v : Vec F S128x256 .bf16) : FVec F S128x256 .f32 :=
  addf (mulf (broadcastTo S128x256 (rescale q k) broadcasts_S1x256_S128x256) (broadcast S128x256 (Scalar.ofBits .f32 0x00000000#32)))
    (matmul dot_S128x256_S256x256_S128x256_1_0_0_1_n_n none v (truncf .bf16 (powers q k) bitsLt_bf16_f32) (constant S128x256 .f32 0x00000000#32))

/-- The block stored: the quotient, a row per query. -/
def quotient (q k : Vec F S256x256 .bf16) (v : Vec F S128x256 .bf16) : FVec F S256x128 .bf16 :=
  truncf .bf16 (transpose S256x128 [1, 0] (divf (weighted q k v) (broadcastTo S128x256 (total q k) broadcasts_S1x256_S128x256)) transposes_S128x256_p1_0_S256x128) bitsLt_bf16_f32

/-- The body's named value is the quotient. -/
theorem pay_eq (q k : Vec F S256x256 .bf16) (v : Vec F S128x256 .bf16) : k0_pay1 q k v = quotient q k v := rfl

theorem start_ninf (i : S1x256.Idx) : start (F := Ideal) 0xFF800000#32 i = (⊥ : EReal) := by
  show Ideal.ofBits .f32 0xFF800000#32 = ⊥
  simp [Ideal.ofBits, Ideal.ieee]

theorem start_zero (i : S1x256.Idx) : start (F := Ideal) 0x00000000#32 i = (0 : EReal) := Ideal.ofBits_zero_f32

theorem scores_apply (q k : Vec Ideal S256x256 .bf16) (j r : Fin 256) :
    scores q k (ix2 j r) = ∑ d : Fin 256, @HMul.hMul EReal EReal EReal _ (k (ix2 j d)) (q (ix2 r d)) := by
  pointwise [scores]

theorem largest_apply (q k : Vec Ideal S256x256 .bf16) (r : Fin 256) :
    largest q k (ix2 0 r) = max ⊥ (Finset.univ.fold max ⊥ fun j : Fin 256 => scores q k (ix2 j r)) := by
  have h : Ideal.ofBits .f32 0xFF800000#32 = (⊥ : EReal) := by simp [Ideal.ofBits, Ideal.ieee]
  pointwise [largest]
  simp [start_ninf, h]

theorem powers_apply (q k : Vec Ideal S256x256 .bf16) (j r : Fin 256) :
    powers q k (ix2 j r) = Ideal.exp2 (scores q k (ix2 j r) - largest q k (ix2 0 r)) := by
  pointwise [powers]
  rfl

theorem rescale_apply (q k : Vec Ideal S256x256 .bf16) (r : Fin 256) :
    rescale q k (ix2 0 r) = Ideal.exp2 (⊥ - largest q k (ix2 0 r)) := by
  pointwise [rescale]
  rw [start_ninf]
  rfl

theorem total_apply (q k : Vec Ideal S256x256 .bf16) (r : Fin 256) :
    total q k (ix2 0 r) = Ideal.exp2 (⊥ - largest q k (ix2 0 r)) * 0
      + ∑ j : Fin 256, Ideal.exp2 (scores q k (ix2 j r) - largest q k (ix2 0 r)) := by
  pointwise [total]
  simp [rescale_apply, powers_apply, start_zero]

theorem weighted_apply (q k : Vec Ideal S256x256 .bf16) (v : Vec Ideal S128x256 .bf16) (d : Fin 128) (r : Fin 256) :
    weighted q k v (ix2 d r) = Ideal.exp2 (⊥ - largest q k (ix2 0 r)) * 0
      + ∑ j : Fin 256, @HMul.hMul EReal EReal EReal _ (v (ix2 d j)) (Ideal.exp2 (scores q k (ix2 j r) - largest q k (ix2 0 r))) := by
  pointwise [weighted]
  simp [rescale_apply, powers_apply]

theorem quotient_apply (q k : Vec Ideal S256x256 .bf16) (v : Vec Ideal S128x256 .bf16) (r : Fin 256) (d : Fin 128) :
    quotient q k v (ix2 r d) = Ideal.div (weighted q k v (ix2 d r)) (total q k (ix2 0 r)) := by
  pointwise [quotient]

/-- The block at query `r` and value column `d`, when the scores for that query are the reals `s`: the average of the
    values in that column under the weights of `s`. -/
theorem block_apply (q k : Vec Ideal S256x256 .bf16) (v : Vec Ideal S128x256 .bf16) (r : Fin 256) (d : Fin 128) (s : ℕ → ℝ) (w : ℕ → EReal)
    (hs : ∀ κ : Fin 256, ∑ e : Fin 256, @HMul.hMul EReal EReal EReal _ (k (ix2 κ e)) (q (ix2 r e)) = (s κ : EReal))
    (hw : ∀ κ : Fin 256, v (ix2 d κ) = w κ) :
    quotient q k v (ix2 r d) = ∑ κ ∈ Finset.range 256, w κ * ((Online.weight s 256 κ : ℝ) : EReal) := by
  have h := (Running.start s w).step 256 (by omega) (fun j => scores q k (ix2 j r)) (fun j => v (ix2 d j))
    (fun j => (scores_apply ..).trans ((hs j).trans (by rw [Nat.zero_add])))
    (fun j => (hw j).trans (by rw [Nat.zero_add])) (largest q k (ix2 0 r)) (largest_apply ..)
  rw [quotient_apply, weighted_apply, total_apply]
  rw [Nat.zero_add] at h
  exact h.quotient (by omega)

/-! ## The blocks in the arrays: grid point `t` is batch entry `t / 8` and head `t % 8` -/

variable (m : (ℓ : Loc nD τ sig) → Buf (Elt F) ℓ)

theorem hz : (![0, 0] : Fin 2 → Nat) = fun _ => 0 := funext fun a => by fin_cases a <;> rfl

theorem i0 : ∀ t, win0_0.index t = ![64 + t.val / 8, t.val % 8] := (by decide +kernel : ∀ t : Fin grid0.N, _)
theorem i1 : ∀ t, win0_1.index t = ![t.val / 8 * 33, t.val % 8] := (by decide +kernel : ∀ t : Fin grid0.N, _)
theorem i2 : ∀ t, win0_2.index t = ![t.val % 8, t.val / 8 * 33] := (by decide +kernel : ∀ t : Fin grid0.N, _)
theorem i3 : ∀ t, win0_3.index t = ![t.val / 8, t.val % 8] := (by decide +kernel : ∀ t : Fin grid0.N, _)

theorem q_apply (c : Dev nD) (t : Fin cfg0.N) (r e : Fin 256) :
    iblk m c 0 t (ix2 r e) = m ((c : Thread nD τ).loc main_arg0) (ix2 (row (16384 + (t.val / 8 * 256 + r))) (col (t.val % 8 * 256 + e))) := by
  have ht : t.val < 16 := t.isLt
  blk_ext [iblk, V, i0 t]

theorem k_apply (c : Dev nD) (t : Fin cfg0.N) (κ e : Fin 256) :
    iblk m c 1 t (ix2 κ e) = m ((c : Thread nD τ).loc main_arg1) (ix2 (row (t.val / 8 * 8448 + κ)) (col (t.val % 8 * 256 + e))) := by
  have ht : t.val < 16 := t.isLt
  blk_ext [iblk, V, i1 t]

theorem v_apply (c : Dev nD) (t : Fin cfg0.N) (d : Fin 128) (κ : Fin 256) :
    iblk m c 2 t (ix2 d κ) = m ((c : Thread nD τ).loc main_arg2) (ix2 (vcol (t.val % 8 * 128 + d)) (row (t.val / 8 * 8448 + κ))) := by
  have ht : t.val < 16 := t.isLt
  blk_ext [iblk, V, i2 t]

/-- What point `t` stores at row `r` and column `d` of its block is the context's attention at the block's place. -/
theorem point_apply (m : (ℓ : Loc nD τ sig) → Buf (Elt Ideal) ℓ) (c : Dev nD) (hq : FiniteQueries (m ((c : Thread nD τ).loc main_arg0)))
    (hk : FiniteKeys (m ((c : Thread nD τ).loc main_arg1))) (t : Fin cfg0.N) (r : Fin 256) (d : Fin 128) (R : Fin 512) (C : Fin 1024)
    (hR : R.val = t.val / 8 * 256 + r) (hC : C.val = t.val % 8 * 128 + d) :
    quotient (iblk m c 0 t) (iblk m c 1 t) (iblk m c 2 t) (ix2 r d)
      = contextAttention (m ((c : Thread nD τ).loc main_arg0)) (m ((c : Thread nD τ).loc main_arg1)) (m ((c : Thread nD τ).loc main_arg2)) (ix2 R C) := by
  have ht : t.val < 16 := t.isLt
  have hr := r.isLt
  have hd := d.isLt
  have e1 : R.val / 256 = t.val / 8 := by omega
  have e2 : C.val / 128 = t.val % 8 := by omega
  refine block_apply _ _ _ r d (score (m ((c : Thread nD τ).loc main_arg0)) (m ((c : Thread nD τ).loc main_arg1)) R (C.val / 128))
    (value (m ((c : Thread nD τ).loc main_arg2)) R C) (fun κ => ?_) (fun κ => ?_)
  · rw [score_coe _ _ hq hk _ _ _ R.isLt κ.isLt]
    refine Finset.sum_congr rfl fun e _ => ?_
    rw [k_apply, q_apply, e1, e2, hR]
  · rw [v_apply, value, e1, hC]

/-- THE RESULT ARRAY is the context's attention of the argument arrays. -/
theorem array_eq (m : (ℓ : Loc nD τ sig) → Buf (Elt Ideal) ℓ) (c : Dev nD) (hq : FiniteQueries (m ((c : Thread nD τ).loc main_arg0)))
    (hk : FiniteKeys (m ((c : Thread nD τ).loc main_arg1))) :
    (dats m 0 c).arrAt 3 cfg0.N = contextAttention (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht : t.val < 16 := t.isLt
  blk_simp
  rw [after0_3]
  unfold out0_3
  rw [View.canon_unit_zero hz, View.ld_unit_zero (S := S256x256) hz, View.ld_unit_zero (S := S256x256) hz, View.ld_unit_zero (S := S128x256) hz, pay_eq]
  obtain ⟨r, hr⟩ : ∃ r : Fin 256, r = y 0 := ⟨_, rfl⟩
  obtain ⟨d, hd⟩ : ∃ d : Fin 128, d = y 1 := ⟨_, rfl⟩
  have hy : y = ix2 r d := by rw [hr, hd]; exact Shape.idx_ext₂ rfl rfl
  have hr' := r.isLt
  have hd' := d.isLt
  have h := point_apply m c hq hk t r d ⟨t.val / 8 * 256 + r, by omega⟩ ⟨t.val % 8 * 128 + d, by omega⟩ rfl rfl
  rw [hy]
  refine h.trans (congrArg _ ?_)
  blk_ext [i3 t]

end Cert.Kernel6Ideal.Context

end
-- ==== Proof.ContextRef.lean ====
/-
  THE CONTEXT'S ATTENTION REFERENCE'S RESULT, over the extended reals: it is `Cert.ContextAttention.contextAttention` of its
  arguments when the context's queries and keys are finite. And what the precondition says: they are.
-/
module

public import proofs.«01_k».proof.Proof.ContextSpec
public import proofs.«01_k».proof.Proof.RefValue
public import proofs.«01_k».proof.Proof.Precondition
public import proofs.«01_k».proof.Proof.Gen.Reference6Ideal.Run
public import proofs.«01_k».proof.Proof.Gen.Pre_finite_context
public import Idealize.ShloMosaic.Lib.Pointwise
public import Idealize.ShloMosaic.Lib.ReduceAll

@[expose] public section

noncomputable section

open Idealize.ShloMosaic Idealize.ShloMosaic.TcCoe Idealize.SL.Sem

namespace Cert.Reference6Ideal.Context
open Cert.Reference6Ideal Cert.Reference6Ideal.Gen Cert.ContextAttention
open Cert.Attention (row col vcol)

variable {F : FTy → Type} [FloatOps F]

/-- The scores times `ln 2`, by batch entry, head, row and key. -/
def logits (q k : FVec F S16896x2048 .bf16) : FVec F S2x8x256x256 .f32 :=
  mulf (Host.dotGeneral dot_S2x256x8x256_S2x256x8x256_S2x8x256x256_3_3_1_1_02_02 none
      (shapeCast _ (extf .f32 (extractStridedSlice S512x2048 ![16384, 0] q slices_S16896x2048_S512x2048_16384_0) bitsLt_bf16_f32) shapeCasts_S512x2048_S2x256x8x256)
      (extractStridedSlice S2x256x8x256 ![0, 0, 0, 0] (shapeCast _ (extf .f32 k bitsLt_bf16_f32) shapeCasts_S16896x2048_S2x8448x8x256) slices_S2x8448x8x256_S2x256x8x256_0_0_0_0))
    (broadcastInDim S2x8x256x256 ![] bcast_S_S2x8x256x256 (Host.log (constant S_ .f32 0x40000000#32)))

/-- A row's largest logit. -/
def largest (x : FVec F S2x8x256x256 .f32) : FVec F S2x8x256 .f32 :=
  maximumf (broadcastInDim S2x8x256 ![] bcast_S_S2x8x256 (constant S_ .f32 0xFF800000#32))
    (Host.reduce FloatOps.maximumf x (constant S_ .f32 0xFF800000#32) reducesTo_S2x8x256x256_S2x8x256_d3 h_S_)

/-- The exponentials of the logits less the row's largest. -/
def expo (x : FVec F S2x8x256x256 .f32) : FVec F S2x8x256x256 .f32 :=
  Host.exp (subf x (broadcastInDim S2x8x256x256 ![0, 1, 2, 3] bcast_S2x8x256x1_S2x8x256x256_0_1_2_3
    (broadcastInDim S2x8x256x1 ![0, 1, 2] bcast_S2x8x256_S2x8x256x1_0_1_2 (largest x))))

/-- The softmax. -/
def softmax (x : FVec F S2x8x256x256 .f32) : FVec F S2x8x256x256 .f32 :=
  Host.divf (expo x) (broadcastInDim S2x8x256x256 ![0, 1, 2, 3] bcast_S2x8x256x1_S2x8x256x256_0_1_2_3
    (broadcastInDim S2x8x256x1 ![0, 1, 2] bcast_S2x8x256_S2x8x256x1_0_1_2
      (Host.reduceAdd (expo x) (constant S_ .f32 0x00000000#32) reducesTo_S2x8x256x256_S2x8x256_d3 h_S_)))

/-- The result array: the context's values weighted by the softmax. -/
def result (q k : FVec F S16896x2048 .bf16) (vt : FVec F S1024x16896 .bf16) : FVec F S512x1024 .bf16 :=
  truncf .bf16 (shapeCast _ (transpose S2x256x8x128 [0, 3, 1, 2]
    (Host.dotGeneral dot_S2x256x8x128_S2x8x256x256_S2x8x128x256_1_3_3_2_02_01 none
      (extractStridedSlice S2x256x8x128 ![0, 0, 0, 0] (shapeCast _ (transpose S16896x1024 [1, 0] (extf .f32 vt bitsLt_bf16_f32) transposes_S1024x16896_S16896x1024_1_0) shapeCasts_S16896x1024_S2x8448x8x128) slices_S2x8448x8x128_S2x256x8x128_0_0_0_0)
      (softmax (logits q k))) transposes_S2x8x128x256_S2x256x8x128_0_3_1_2) shapeCasts_S2x256x8x128_S512x1024) bitsLt_bf16_f32

/-- A logit: the score under exact products, times `ln 2`. -/
theorem logits_apply (q k : FVec Ideal S16896x2048 .bf16) (b : Fin 2) (h : Fin 8) (r κ : Fin 256) :
    logits q k (ix4 b h r κ) = (∑ e : Fin 256, q (ix2 (row (16384 + ((b : ℕ) * 256 + r))) (col ((h : ℕ) * 256 + e)))
      * k (ix2 (row ((b : ℕ) * 8448 + κ)) (col ((h : ℕ) * 256 + e)))) * ((Real.log 2 : ℝ) : EReal) := by
  have h2 : Ideal.log (Ideal.ofBits FTy.f32 1073741824#32) = ((Real.log 2 : ℝ) : EReal) := by
    have e : Ideal.ofBits FTy.f32 1073741824#32 = ((2 : ℝ) : EReal) := by
      simp [Ideal.ofBits, Ideal.ieee]
      rw [← EReal.coe_mul]
      norm_num
    rw [e, Ideal.log_coe, if_neg (by norm_num)]
  pointwise [logits]
  refine congrArg₂ (· * ·) (Finset.sum_congr rfl fun e _ => ?_) h2
  exact congrArg₂ (· * ·) (congrArg q (Shape.idx_ext₂ (by show _ = _ % 16896; simp; omega) (by show _ = _ % 2048; simp; omega)))
    (congrArg k (Shape.idx_ext₂ (by show _ = _ % 16896; simp; omega) (by show _ = _ % 2048; simp; omega)))

/-- The array every entry of which is `-∞`. -/
theorem ninf_at (i : S2x8x256.Idx) :
    broadcastInDim S2x8x256 ![] bcast_S_S2x8x256 (constant (F := Ideal) S_ .f32 0xFF800000#32) i = (⊥ : EReal) := by
  show Ideal.ofBits FTy.f32 4286578688#32 = ⊥
  simp [Ideal.ofBits, Ideal.ieee]

/-- The row maximum of real logits is real. -/
theorem largest_real (x : FVec Ideal S2x8x256x256 .f32) (b : Fin 2) (h : Fin 8) (r : Fin 256)
    (hx : ∀ κ, ∃ y : ℝ, x (ix4 b h r κ) = y) : ∃ μ : ℝ, largest x (ix3 b h r) = μ := by
  have hb : Ideal.ofBits FTy.f32 4286578688#32 = ⊥ := by simp [Ideal.ofBits, Ideal.ieee]
  rw [largest, Cert.ReferenceIdeal.Softmax.maximumf_at, ninf_at,
    Cert.ReferenceIdeal.Softmax.reduce_last (A := 2) (B := 8) (C := 256) (D := 256), bot_sup_eq]
  exact Online.fold_max_coe (by norm_num) _ (by show Ideal.ofBits FTy.f32 4286578688#32 ≠ ⊤; rw [hb]; exact bot_ne_top) _ hx

/-- An exponential of a logit less its row's largest. -/
theorem expo_apply (x : FVec Ideal S2x8x256x256 .f32) (b : Fin 2) (h : Fin 8) (r κ : Fin 256) :
    expo x (ix4 b h r κ) = Ideal.exp (x (ix4 b h r κ) - largest x (ix3 b h r)) := by
  pointwise [expo]

/-- The softmax at one place. -/
theorem softmax_apply (x : FVec Ideal S2x8x256x256 .f32) (b : Fin 2) (h : Fin 8) (r κ : Fin 256) :
    softmax x (ix4 b h r κ) = Ideal.div (expo x (ix4 b h r κ)) (∑ κ : Fin 256, expo x (ix4 b h r κ)) := by
  pointwise [softmax]

/-- The result's entry: the values of the column weighted by the softmax. -/
theorem result_apply (q k : FVec Ideal S16896x2048 .bf16) (vt : FVec Ideal S1024x16896 .bf16) (R : Fin 512) (C : Fin 1024) :
    result q k vt (ix2 R C) = ∑ κ : Fin 256, value vt R C κ
      * softmax (logits q k) (ix4 ⟨R / 256, by omega⟩ ⟨C / 128, by omega⟩ ⟨R % 256, by omega⟩ κ) := by
  pointwise [result]
  refine Finset.sum_congr rfl fun κ _ => ?_
  rw [value]
  exact congrArg (· * _) (congrArg vt (Shape.idx_ext₂ (by show _ = _ % 1024; simp; omega) (by show _ = _ % 16896; simp; omega)))

/-- On finite queries and keys the softmax of the logits is the weight `2^score / ∑ 2^score`. -/
theorem softmax_eq (q k : FVec Ideal S16896x2048 .bf16) (hq : FiniteQueries q) (hk : FiniteKeys k) (b : Fin 2) (h : Fin 8) (r κ : Fin 256) :
    softmax (logits q k) (ix4 b h r κ) = (Online.weight (score q k ((b : ℕ) * 256 + r) h) 256 κ : EReal) := by
  have hl : ∀ κ : Fin 256, logits q k (ix4 b h r κ)
      = (score q k ((b : ℕ) * 256 + r) h κ : EReal) * ((Real.log 2 : ℝ) : EReal) := fun κ => by
    rw [logits_apply, score_coe q k hq hk _ _ _ (by omega) κ.isLt, show ((b : ℕ) * 256 + r) / 256 = b by omega]
    exact congrArg (· * _) (Finset.sum_congr rfl fun e _ => mul_comm _ _)
  obtain ⟨μ, hμ⟩ := largest_real (logits q k) b h r fun κ => ⟨score q k ((b : ℕ) * 256 + r) h κ * Real.log 2, by rw [hl, EReal.coe_mul]⟩
  rw [softmax_apply]
  simp only [expo_apply, hl, hμ]
  exact Online.softmax_weight (score q k ((b : ℕ) * 256 + r) h) 256 (by norm_num) μ κ

/-- The reference's result is the context's attention. -/
theorem result_eq (q k : FVec Ideal S16896x2048 .bf16) (vt : FVec Ideal S1024x16896 .bf16) (hq : FiniteQueries q) (hk : FiniteKeys k) :
    result q k vt = contextAttention q k vt := by
  have point : ∀ (R : Fin 512) (C : Fin 1024), result q k vt (ix2 R C) = contextAttention q k vt (ix2 R C) := fun R C => by
    rw [result_apply]
    simp only [softmax_eq q k hq hk]
    show _ = ∑ κ ∈ Finset.range 256, value vt R C κ * ((Online.weight (score q k R ((C : ℕ) / 128)) 256 κ : ℝ) : EReal)
    rw [Finset.sum_range, show (R : ℕ) / 256 * 256 + (R : ℕ) % 256 = R by omega]
  funext y
  rw [show y = ix2 (y 0) (y 1) from Shape.idx_ext₂ rfl rfl]
  exact point _ _

end Cert.Reference6Ideal.Context

namespace Cert.Pre_finite_context.Meaning
open Cert.Pre_finite_context Cert.ContextAttention
open Cert.Attention (row)
open Facts

/-- The precondition says that the context's queries and keys are finite. -/
theorem finite [Facts] (q k : FVec Ideal S16896x2048 .bf16) (vt : FVec Ideal S1024x16896 .bf16)
    (h : (fn (F := Ideal) q k vt).1 = (fun _ => 1#1) ∧ (fn (F := Ideal) q k vt).2 = (fun _ => 1#1)) : FiniteQueries q ∧ FiniteKeys k := by
  haveI : Subsingleton S_.Idx := ⟨fun a b => funext fun d => d.elim0⟩
  obtain ⟨h1, h2⟩ := h
  dsimp only [fn] at h1 h2
  refine ⟨fun R hR e => ?_, fun b hb κ hκ e => ?_⟩
  · have hx := Host.reduce_andi_all _ _ _ _ (fun d => d.elim0) (congrFun h1 _) (ix2 ⟨R, hR⟩ e)
    have hs : extractStridedSlice S512x2048 ![16384, 0] q slices_S16896x2048_S512x2048_16384_0 (ix2 ⟨R, hR⟩ e)
        = q (ix2 (row (16384 + R)) e) := by
      refine congrArg q (Shape.idx_ext₂ ?_ ?_)
      · show 16384 + R = (16384 + R) % 16896
        omega
      · show 0 + e.val = e.val
        omega
    rw [← hs]
    exact Cert.Pre_finite.Meaning.real_of_cmp _ hx
  · have hx := Host.reduce_andi_all _ _ _ _ (fun d => d.elim0) (congrFun h2 _) (ix3 ⟨b, hb⟩ ⟨κ, hκ⟩ e)
    have hs : extractStridedSlice S2x256x2048 ![0, 0, 0] (shapeCast S2x8448x2048 k shapeCasts_S16896x2048_S2x8448x2048)
        slices_S2x8448x2048_S2x256x2048_0_0_0 (ix3 ⟨b, hb⟩ ⟨κ, hκ⟩ e) = k (ix2 (row (b * 8448 + κ)) e) := by
      obtain ⟨b', hb'⟩ : ∃ b' : Fin 2, b' = ⟨b, hb⟩ := ⟨_, rfl⟩
      obtain ⟨κ', hκ'⟩ : ∃ κ' : Fin 256, κ' = ⟨κ, hκ⟩ := ⟨_, rfl⟩
      rw [← hb', ← hκ', show b = b'.val by rw [hb'], show κ = κ'.val by rw [hκ']]
      pointwise []
      exact congrArg k (Shape.idx_ext₂ (by show _ = _ % 16896; simp; omega) (by simp))
    rw [← hs]
    exact Cert.Pre_finite.Meaning.real_of_cmp _ hx

end Cert.Pre_finite_context.Meaning

end
-- ==== Proof.lean ====
/-
  THE CLAIM, for six calls: the frames of each kernel, of its reading over the extended reals and of the reference; the
  idealization's faithfulness (the packing of pairs in the experts and the output projection, nothing elsewhere); and the equation of
  kernel and reference, through `Cert.Attention.attention` on finite queries and keys (Proof/Spec.lean), `Cert.Experts.routed` on tables
  in range (Proof/ExpertsSpec.lean), `Cert.Projections` (Proof/ProjSpec.lean), `Cert.OutProjection` (Proof/OutSpec.lean),
  `Cert.Modulation.vectors` (Proof/ModSpec.lean) and `Cert.ContextAttention.contextAttention` on finite queries and keys of the
  context (Proof/ContextSpec.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_context
public import proofs.«01_k».proof.Proof.Gen.Pre_tables
public import proofs.«01_k».proof.Proof.Gen.Pre_finite
public import proofs.«01_k».proof.Proof.Blocks
public import proofs.«01_k».proof.Proof.RefValue
public import proofs.«01_k».proof.Proof.Precondition
public import proofs.«01_k».proof.Proof.ExpertsPre
public import proofs.«01_k».proof.Proof.ProjArray
public import proofs.«01_k».proof.Proof.ExpertsArray
public import proofs.«01_k».proof.Proof.ExpertsRef
public import proofs.«01_k».proof.Proof.ProjRef
public import proofs.«01_k».proof.Proof.OutArray
public import proofs.«01_k».proof.Proof.OutRef
public import proofs.«01_k».proof.Proof.ModArray
public import proofs.«01_k».proof.Proof.ModRef
public import proofs.«01_k».proof.Proof.ContextArray
public import proofs.«01_k».proof.Proof.ContextRef
public import proofs.«01_k».proof.Proof.ExpertsBitsLaunch
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments alone and every semaphore counter at zero: it declares none. -/
theorem reference_frame : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The kernel and the reference end with the attention of their arguments. -/
theorem attention_eq : algebraic_KernelIdeal_ReferenceIdeal_pre_finite (hKernelIdeal := Cert.KernelIdeal.Gen.facts)
    (hReferenceIdeal := Cert.ReferenceIdeal.Gen.facts) (hPre_finite := Cert.Pre_finite.Meaning.facts) := by
  intro m g m' g' hpre hargs
  letI := Cert.Pre_finite.Meaning.facts
  have hf := fun c => Cert.Pre_finite.Meaning.finite _ _ _ (hpre c)
  refine ⟨fun c => Cert.Attention.attention (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · exact (θ_run _ _ _).mono (fun r h c => ⟨(h c).1.trans (Cert.KernelIdeal.Blocks.array_eq m c (hf c).1 (hf c).2), (h c).2⟩)
      (Cert.KernelIdeal.Value.run_blocks m g)
  · refine (θ_run _ _ _).mono (fun r h c => ⟨(h c).1.trans ?_, (h c).2⟩) (Cert.ReferenceIdeal.Value.run m' g')
    rw [(hargs c).1, (hargs c).2.1, (hargs c).2.2]
    exact Cert.ReferenceIdeal.Softmax.result_eq _ _ _ (hf c).1 (hf c).2

/-- The experts' reference runs, leaves its arguments alone and every semaphore counter at zero. -/
theorem routed_reference_frame : quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- A block's expert, of the tables of a memory. -/
theorem expertOf_val (T : Cert.Kernel2Ideal.Experts.Tables) (b : Fin 328) : (T.expertOf b.val).val = (T.expert (ix1 b)).toNat := by
  have h : (⟨b.val % 328, Nat.mod_lt _ (by omega)⟩ : Fin 328) = b := Fin.ext (Nat.mod_eq_of_lt b.isLt)
  exact congrArg (fun n : Fin 328 => (T.expert (ix1 n)).toNat) h

/-- The experts' kernel and the reference end with the gated layers of their arguments. -/
theorem routed_eq : algebraic_Kernel2Ideal_Reference2Ideal (hKernel2Ideal := Cert.Kernel2Ideal.Gen.facts)
    (hReference2Ideal := Cert.Reference2Ideal.Gen.facts) (hPre_tables := Cert.Pre_tables.Gen.facts) := by
  intro m g m' g' hpre hargs
  letI := Cert.Pre_tables.Gen.facts
  refine ⟨fun c => Cert.Kernel2Ideal.Experts.routedOf (Cert.Kernel2Ideal.Experts.tablesOf m hpre) m c,
    Cert.Kernel2Ideal.Experts.run_result _ m g (Cert.Kernel2Ideal.Experts.holds m hpre), ?_⟩
  refine (θ_run _ _ _).mono (fun r h c => ⟨(h c).1.trans ((Cert.Reference2Ideal.Routed.result_run m' c).trans ?_), (h c).2⟩)
    (Cert.Reference2Ideal.Value.run m' g')
  rw [(hargs c).1, (hargs c).2.1, (hargs c).2.2.1, (hargs c).2.2.2.1, (hargs c).2.2.2.2.1, (hargs c).2.2.2.2.2]
  have hc : c = (0 : Dev Cert.Kernel2Ideal.nD) := Subsingleton.elim _ _
  subst hc
  have ht := Cert.Pre_tables.Meaning.tables _ _ _ _ _ _ (hpre 0)
  exact Cert.Reference2Ideal.Routed.result_eq _ _ _ _ _ _ ht.1 (ht.2 _).2 (Cert.Kernel2Ideal.Experts.tablesOf m hpre).expertOf
    (expertOf_val (Cert.Kernel2Ideal.Experts.tablesOf m hpre))

/-- The projections' reference runs, leaves its arguments alone and every semaphore counter at zero: it declares none. -/
theorem projections_reference_frame : quiescent_Reference3Ideal (hReference3Ideal := Cert.Reference3Ideal.Gen.facts) := fun m g _ =>
  (θ_run _ _ _).mono (fun r h => ⟨fun c => by
    obtain ⟨_, _, _, _, _, _, _, ha⟩ := h c
    exact ha, sem_eq_zero_of_no_sems (by decide) r.2⟩) (Cert.Reference3Ideal.Value.run m g)

/-- The projections' kernel and the reference end with the seven arrays of their arguments. -/
theorem projections_eq : algebraic_Kernel3Ideal_Reference3Ideal (hKernel3Ideal := Cert.Kernel3Ideal.Gen.facts)
    (hReference3Ideal := Cert.Reference3Ideal.Gen.facts) := by
  intro m g m' g' _ hargs
  refine ⟨fun c => Cert.Projections.gatedArray (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)),
    fun c => Cert.Projections.partArray (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)) 1792 512 (by omega),
    fun c => Cert.Projections.partArray (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)) 2304 1024 (by omega),
    fun c => Cert.Projections.partArray (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)) 3328 256 (by omega),
    fun c => Cert.Projections.queryArray (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)),
    fun c => Cert.Projections.keyArray (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)),
    fun c => Cert.Projections.valueArray (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg13)), ?_, ?_⟩
  · refine (θ_run _ _ _).mono (fun r h c => ?_) (Cert.Kernel3Ideal.Value.run_blocks m g)
    obtain ⟨h0, h1, h2, h3, h4, h5, h6, ha⟩ := h c
    exact ⟨h0.trans (Cert.Kernel3Ideal.Proj.array14 m c), h1.trans (Cert.Kernel3Ideal.Proj.array15 m c), h2.trans (Cert.Kernel3Ideal.Proj.array16 m c), h3.trans (Cert.Kernel3Ideal.Proj.array17 m c), h4.trans (Cert.Kernel3Ideal.Proj.array18 m c), h5.trans (Cert.Kernel3Ideal.Proj.array19 m c), h6.trans (Cert.Kernel3Ideal.Proj.array20 m c), ha⟩
  · refine (θ_run _ _ _).mono (fun r h c => ?_) (Cert.Reference3Ideal.Value.run m' g')
    obtain ⟨h0, h1, h2, h3, h4, h5, h6, ha⟩ := h c
    obtain ⟨e0, e1, e2, e3, e4, e5, e6, e7, e8, e9, e10, e11, e12, e13⟩ := hargs c
    exact ⟨h0.trans ((Cert.Reference3Ideal.Proj.result0 ..).trans (by rw [e0, e1, e4, e5, e6, e7, e8])),
      h1.trans ((Cert.Reference3Ideal.Proj.result1 ..).trans (by rw [e0, e1, e4])),
      h2.trans ((Cert.Reference3Ideal.Proj.result2 ..).trans (by rw [e0, e1, e4])),
      h3.trans ((Cert.Reference3Ideal.Proj.result3 ..).trans (by rw [e0, e1, e4])),
      h4.trans ((Cert.Reference3Ideal.Proj.result4 ..).trans (by rw [e0, e1, e2, e3, e4, e9, e10])),
      h5.trans ((Cert.Reference3Ideal.Proj.result5 ..).trans (by rw [e0, e1, e2, e3, e4, e11, e12])),
      h6.trans ((Cert.Reference3Ideal.Proj.result6 ..).trans (by rw [e0, e1, e4, e11, e13])), ha⟩

/-- The output projection's reference ends with its arguments unchanged. -/
theorem output_reference_frame : quiescent_Reference4Ideal (hReference4Ideal := Cert.Reference4Ideal.Gen.facts) := fun m g _ =>
  (θ_run _ _ _).mono (fun r h => ⟨fun c => by
    obtain ⟨_, _, _, ha⟩ := h c
    exact ha, sem_eq_zero_of_no_sems (by decide) r.2⟩) (Cert.Reference4Ideal.Value.run m g)

/-- The output projection's kernel and the reference end with the normalized rows, the modulated rows and the router's scores of their arguments. -/
theorem output_eq : algebraic_Kernel4Ideal_Reference4Ideal (hKernel4Ideal := Cert.Kernel4Ideal.Gen.facts)
    (hReference4Ideal := Cert.Reference4Ideal.Gen.facts) := by
  intro m g m' g' _ hargs
  refine ⟨fun c => Cert.OutProjection.rowArray (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)),
    fun c => Cert.OutProjection.tokenArray (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)),
    fun c => Cert.OutProjection.scoreArray (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)), ?_, ?_⟩
  · refine (θ_run _ _ _).mono (fun r h c => ?_) (Cert.Kernel4Ideal.Value.run_blocks m g)
    obtain ⟨h0, h1, h2, ha⟩ := h c
    exact ⟨h0.trans (Cert.Kernel4Ideal.Out.array10 m c), h1.trans (Cert.Kernel4Ideal.Out.array11 m c), h2.trans (Cert.Kernel4Ideal.Out.array12 m c), ha⟩
  · refine (θ_run _ _ _).mono (fun r h c => ?_) (Cert.Reference4Ideal.Value.run m' g')
    obtain ⟨h0, h1, h2, ha⟩ := h c
    obtain ⟨e0, e1, e2, e3, e4, e5, e6, e7, e8, e9⟩ := hargs c
    exact ⟨h0.trans ((Cert.Reference4Ideal.Out.result0 ..).trans (by rw [e0, e1, e2, e3, e4, e5, e6, e7, e8])),
      h1.trans ((Cert.Reference4Ideal.Out.result1 ..).trans (by rw [e0, e1, e2, e3, e4, e5, e6, e7, e8])),
      h2.trans ((Cert.Reference4Ideal.Out.result2 ..).trans (by rw [e0, e1, e2, e3, e4, e5, e6, e7, e8, e9])), ha⟩

/-- The modulation's reference ends with its arguments unchanged. -/
theorem modulation_reference_frame : quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

/-- The modulation's kernel and the reference end with the vectors of their arguments. -/
theorem modulation_eq : algebraic_Kernel5Ideal_Reference5Ideal (hKernel5Ideal := Cert.Kernel5Ideal.Gen.facts)
    (hReference5Ideal := Cert.Reference5Ideal.Gen.facts) := by
  intro m g m' g' _ hargs
  refine ⟨fun c => Cert.Modulation.vectors (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · exact (θ_run _ _ _).mono (fun r h c => ⟨(h c).1.trans (Cert.Kernel5Ideal.Modulation.array3 m c), (h c).2⟩) (Cert.Kernel5Ideal.Value.run_blocks m g)
  · refine (θ_run _ _ _).mono (fun r h c => ?_) (Cert.Reference5Ideal.Value.run m' g')
    obtain ⟨e0, e1, e2⟩ := hargs c
    exact ⟨(h c).1.trans ((Cert.Reference5Ideal.Modulation.result ..).trans (by rw [e0, e1, e2])), (h c).2⟩

/-- The context's attention's reference ends with its arguments unchanged. -/
theorem context_reference_frame : quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)

/-- The context's attention's kernel and the reference end with the context's attention of their arguments. -/
theorem context_eq : algebraic_Kernel6Ideal_Reference6Ideal_pre_finite_context (hKernel6Ideal := Cert.Kernel6Ideal.Gen.facts)
    (hReference6Ideal := Cert.Reference6Ideal.Gen.facts) (hPre_finite_context := Cert.Pre_finite_context.Gen.facts) := by
  intro m g m' g' hpre hargs
  letI := Cert.Pre_finite_context.Gen.facts
  have hf := fun c => Cert.Pre_finite_context.Meaning.finite _ _ _ (hpre c)
  refine ⟨fun c => Cert.ContextAttention.contextAttention (m ((c.tc : Thread _ _).loc Cert.Kernel6Ideal.main_arg0))
    (m ((c.tc : Thread _ _).loc Cert.Kernel6Ideal.main_arg1)) (m ((c.tc : Thread _ _).loc Cert.Kernel6Ideal.main_arg2)), ?_, ?_⟩
  · exact (θ_run _ _ _).mono (fun r h c => ⟨(h c).1.trans (Cert.Kernel6Ideal.Context.array_eq m c (hf c).1 (hf c).2), (h c).2⟩)
      (Cert.Kernel6Ideal.Value.run_blocks m g)
  · refine (θ_run _ _ _).mono (fun r h c => ⟨(h c).1.trans ?_, (h c).2⟩) (Cert.Reference6Ideal.Value.run m' g')
    rw [(hargs c).1, (hargs c).2.1, (hargs c).2.2]
    exact Cert.Reference6Ideal.Context.result_eq _ _ _ (hf c).1 (hf c).2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Meaning.facts, Cert.Pre_tables.Gen.facts, Cert.Pre_finite_context.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g h => Cert.Kernel2.Experts.frame _ m g (Cert.Kernel2.Experts.holds m h),
  fun m g h => Cert.Kernel2Ideal.Experts.frame _ m g (Cert.Kernel2Ideal.Experts.holds m h),
  routed_reference_frame,
  fun m g _ => routed_reference_frame m g trivial,
  fun m g _ => Cert.Kernel3.Gen.frame m g,
  fun m g _ => Cert.Kernel3Ideal.Gen.frame m g,
  projections_reference_frame,
  fun m g _ => Cert.Kernel4.Gen.frame m g,
  fun m g _ => Cert.Kernel4Ideal.Gen.frame m g,
  output_reference_frame,
  fun m g _ => Cert.Kernel5.Gen.frame m g,
  fun m g _ => Cert.Kernel5Ideal.Gen.frame m g,
  modulation_reference_frame,
  fun m g _ => Cert.Kernel6.Gen.frame m g,
  fun m g _ => Cert.Kernel6Ideal.Gen.frame m g,
  fun m g _ => Cert.Kernel6Ideal.Gen.frame m g,
  context_reference_frame,
  fun m g _ => context_reference_frame m g trivial,
  trivial,
  attention_eq,
  ⟨IdealRules.bf16_pair.statement _ _, IdealRules.bf16_pack.statement _⟩,
  routed_eq,
  trivial,
  projections_eq,
  ⟨IdealRules.bf16_pair.statement _ _, IdealRules.bf16_pack.statement _⟩,
  output_eq,
  trivial,
  modulation_eq,
  trivial,
  context_eq⟩

end Cert.Proof

end
